-- ==== Defs.lean ====
def Pre_Kernel [hPre_cells_inside : Cert.Pre_cells_inside.Facts] (m : (ℓ : Loc Cert.Kernel.nD Cert.Kernel.τ Cert.Kernel.sig) → Buf (Elt Bits) ℓ) : Prop :=
  ∀ c : Dev Cert.Kernel.nD,
    (Cert.Pre_cells_inside.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_cells_inside : Cert.Pre_cells_inside.Facts] (m : (ℓ : Loc Cert.KernelIdeal.nD Cert.KernelIdeal.τ Cert.KernelIdeal.sig) → Buf (Elt Ideal) ℓ) : Prop :=
  ∀ c : Dev Cert.KernelIdeal.nD,
    (Cert.Pre_cells_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cells_inside [hPre_cells_inside : Cert.Pre_cells_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cells_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_cells_inside : Cert.Pre_cells_inside.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_cells_inside : Cert.Pre_cells_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_cells_inside [hReferenceIdeal : Cert.ReferenceIdeal.Facts] [hPre_cells_inside : Cert.Pre_cells_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cells_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_cells_inside : Cert.Pre_cells_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_cells_inside : Cert.Pre_cells_inside.Facts),
    quiescent_Kernel (hKernel := hKernel) (hPre_cells_inside := hPre_cells_inside)
    ∧ quiescent_KernelIdeal (hKernelIdeal := hKernelIdeal) (hPre_cells_inside := hPre_cells_inside)
    ∧ quiescent_ReferenceIdeal (hReferenceIdeal := hReferenceIdeal)
    ∧ quiescent_ReferenceIdeal_pre_cells_inside (hReferenceIdeal := hReferenceIdeal) (hPre_cells_inside := hPre_cells_inside)
    ∧ preserves_Kernel_KernelIdeal
    ∧ algebraic_KernelIdeal_ReferenceIdeal (hKernelIdeal := hKernelIdeal) (hReferenceIdeal := hReferenceIdeal) (hPre_cells_inside := hPre_cells_inside)
-- ==== Pre_cells_inside.lean ====
abbrev S2x256x256x256 : Shape := ⟨4, ![2, 256, 256, 256]⟩
abbrev S2x10000x2x2 : Shape := ⟨4, ![2, 10000, 2, 2]⟩
abbrev S128x256 : Shape := ⟨2, ![128, 256]⟩
abbrev S128 : Shape := ⟨1, ![128]⟩
abbrev S1024x1024 : Shape := ⟨2, ![1024, 1024]⟩
abbrev S1024 : Shape := ⟨1, ![1024]⟩
abbrev S3x1024 : Shape := ⟨2, ![3, 1024]⟩
abbrev S3 : Shape := ⟨1, ![3]⟩
abbrev S31 : Shape := ⟨1, ![31]⟩
abbrev S_ : Shape := ⟨0, ![]⟩
abbrev S1 : Shape := ⟨1, ![1]⟩
abbrev S32 : Shape := ⟨1, ![32]⟩
abbrev S32x1 : Shape := ⟨2, ![32, 1]⟩
abbrev S2x10000x1x2 : Shape := ⟨4, ![2, 10000, 1, 2]⟩
abbrev S1x1x32x1 : Shape := ⟨4, ![1, 1, 32, 1]⟩
abbrev S2x10000x32x2 : Shape := ⟨4, ![2, 10000, 32, 2]⟩

class Facts : Prop where
  bcast_S_S31 : S_.BroadcastsInDim S31 (![] : Fin 0 → Fin S31.rank)
  bcast_S_S1 : S_.BroadcastsInDim S1 (![] : Fin 0 → Fin S1.rank)
  bcast_S1_S31_0 : S1.BroadcastsInDim S31 (![0] : Fin 1 → Fin S31.rank)
  concatenates_S31_S1_S32_d0 : Shape.Concatenates [S31, S1] S32 0
  bcast_S32_S32x1_0 : S32.BroadcastsInDim S32x1 (![0] : Fin 1 → Fin S32x1.rank)
  slices_S2x10000x2x2_S2x10000x1x2_0_0_0_0 : S2x10000x2x2.Slices ![0, 0, 0, 0] S2x10000x1x2
  bcast_S32x1_S1x1x32x1_2_3 : S32x1.BroadcastsInDim S1x1x32x1 (![2, 3] : Fin 2 → Fin S1x1x32x1.rank)
  bcast_S2x10000x1x2_S2x10000x32x2_0_1_2_3 : S2x10000x1x2.BroadcastsInDim S2x10000x32x2 (![0, 1, 2, 3] : Fin 4 → Fin S2x10000x32x2.rank)
  bcast_S1x1x32x1_S2x10000x32x2_0_1_2_3 : S1x1x32x1.BroadcastsInDim S2x10000x32x2 (![0, 1, 2, 3] : Fin 4 → Fin S2x10000x32x2.rank)
  slices_S2x10000x2x2_S2x10000x1x2_0_0_1_0 : S2x10000x2x2.Slices ![0, 0, 1, 0] S2x10000x1x2
  bcast_S_S32x1 : S_.BroadcastsInDim S32x1 (![] : Fin 0 → Fin S32x1.rank)
  bcast_S_S2x10000x32x2 : S_.BroadcastsInDim S2x10000x32x2 (![] : Fin 0 → Fin S2x10000x32x2.rank)

variable [Facts]

def fn_part2 {F : FTy → Type} [FloatOps F] (main_v34 : IVec S2x10000x32x2 32) (main_v36 : IVec S2x10000x32x2 1) (main_v37 : IVec S2x10000x32x2 32) : IVec S2x10000x32x2 1 :=
  let main_v38 : IVec S2x10000x32x2 1 := cmpi .sle main_v34 main_v37
  let main_v39 : IVec S2x10000x32x2 1 := andi main_v36 main_v38
  main_v39

def fn_part1 {F : FTy → Type} [FloatOps F] (main_v13 : FVec F S32x1 .f32) (main_v18 : FVec F S2x10000x32x2 .f32) (main_v19 : FVec F S2x10000x1x2 .f32) : IVec S2x10000x32x2 1 :=
  let main_cst_3 : FVec F S_ .f32 := constant S_ .f32 0x3F800000#32
  let main_v20 : FVec F S32x1 .f32 := broadcastInDim S32x1 ![] bcast_S_S32x1 main_cst_3
  let main_v21 : FVec F S32x1 .f32 := subf main_v20 main_v13
  let main_v22 : FVec F S1x1x32x1 .f32 := broadcastInDim S1x1x32x1 ![2, 3] bcast_S32x1_S1x1x32x1_2_3 main_v21
  let main_v23 : FVec F S2x10000x32x2 .f32 := broadcastInDim S2x10000x32x2 ![0, 1, 2, 3] bcast_S2x10000x1x2_S2x10000x32x2_0_1_2_3 main_v19
  let main_v24 : FVec F S2x10000x32x2 .f32 := broadcastInDim S2x10000x32x2 ![0, 1, 2, 3] bcast_S1x1x32x1_S2x10000x32x2_0_1_2_3 main_v22
  let main_v25 : FVec F S2x10000x32x2 .f32 := mulf main_v23 main_v24
  let main_v26 : FVec F S2x10000x32x2 .f32 := addf main_v18 main_v25
  let main_cst_4 : FVec F S_ .f32 := constant S_ .f32 0x3F000000#32
  let main_v27 : FVec F S2x10000x32x2 .f32 := broadcastInDim S2x10000x32x2 ![] bcast_S_S2x10000x32x2 main_cst_4
  let main_v28 : FVec F S2x10000x32x2 .f32 := subf main_v26 main_v27
  let main_v29 : FVec F S2x10000x32x2 .f32 := Host.floor main_v28
  let main_cst_5 : FVec F S_ .f32 := constant S_ .f32 0x00000000#32
  let main_v30 : FVec F S2x10000x32x2 .f32 := broadcastInDim S2x10000x32x2 ![] bcast_S_S2x10000x32x2 main_cst_5
  let main_v31 : FVec F S2x10000x32x2 .f32 := maximumf main_v30 main_v29
  let main_cst_6 : FVec F S_ .f32 := constant S_ .f32 0x437F0000#32
  let main_v32 : FVec F S2x10000x32x2 .f32 := broadcastInDim S2x10000x32x2 ![] bcast_S_S2x10000x32x2 main_cst_6
  let main_v33 : FVec F S2x10000x32x2 .f32 := minimumf main_v32 main_v31
  let main_v34 : IVec S2x10000x32x2 32 := fptosi 32 main_v33
  let main_c : IVec S_ 32 := constantI S_ 32 0#32
  let main_v35 : IVec S2x10000x32x2 32 := broadcastInDim S2x10000x32x2 ![] bcast_S_S2x10000x32x2 main_c
  let main_v36 : IVec S2x10000x32x2 1 := cmpi .sge main_v34 main_v35
  let main_c_7 : IVec S_ 32 := constantI S_ 32 254#32
  let main_v37 : IVec S2x10000x32x2 32 := broadcastInDim S2x10000x32x2 ![] bcast_S_S2x10000x32x2 main_c_7
  fn_part2 (F := F) main_v34 main_v36 main_v37

def fn {F : FTy → Type} [FloatOps F] (main_arg0 : FVec F S2x256x256x256 .f32) (main_arg1 : FVec F S2x10000x2x2 .f32) (main_arg2 : FVec F S128x256 .f32) (main_arg3 : FVec F S128 .f32) (main_arg4 : FVec F S1024x1024 .f32) (main_arg5 : FVec F S1024 .f32) (main_arg6 : FVec F S1024x1024 .f32) (main_arg7 : FVec F S1024 .f32) (main_arg8 : FVec F S3x1024 .f32) (main_arg9 : FVec F S3 .f32) : IVec S2x10000x32x2 1 :=
  let main_v0 : FVec F S31 .f32 := sitofp .f32 (iotaInDim S31 32 0)
  let main_cst : FVec F S_ .f32 := constant S_ .f32 0x41F80000#32
  let main_v1 : FVec F S31 .f32 := broadcastInDim S31 ![] bcast_S_S31 main_cst
  let main_v2 : FVec F S31 .f32 := Host.divf main_v0 main_v1
  let main_cst_0 : FVec F S_ .f32 := constant S_ .f32 0x00000000#32
  let main_v3 : FVec F S1 .f32 := broadcastInDim S1 ![] bcast_S_S1 main_cst_0
  let main_cst_1 : FVec F S_ .f32 := constant S_ .f32 0x3F800000#32
  let main_v4 : FVec F S1 .f32 := broadcastInDim S1 ![] bcast_S_S1 main_cst_1
  let main_cst_2 : FVec F S_ .f32 := constant S_ .f32 0x3F800000#32
  let main_v5 : FVec F S31 .f32 := broadcastInDim S31 ![] bcast_S_S31 main_cst_2
  let main_v6 : FVec F S31 .f32 := subf main_v5 main_v2
  let main_v7 : FVec F S31 .f32 := broadcastInDim S31 ![0] bcast_S1_S31_0 main_v3
  let main_v8 : FVec F S31 .f32 := mulf main_v7 main_v6
  let main_v9 : FVec F S31 .f32 := broadcastInDim S31 ![0] bcast_S1_S31_0 main_v4
  let main_v10 : FVec F S31 .f32 := mulf main_v9 main_v2
  let main_v11 : FVec F S31 .f32 := addf main_v8 main_v10
  let main_v12 : FVec F S32 .f32 := (fun a b => concatenate S32 0 [⟨S31, a⟩, ⟨S1, b⟩] concatenates_S31_S1_S32_d0) main_v11 main_v4
  let main_v13 : FVec F S32x1 .f32 := broadcastInDim S32x1 ![0] bcast_S32_S32x1_0 main_v12
  let main_v14 : FVec F S2x10000x1x2 .f32 := (extractStridedSlice S2x10000x1x2 ![0, 0, 0, 0] · slices_S2x10000x2x2_S2x10000x1x2_0_0_0_0) main_arg1
  let main_v15 : FVec F S1x1x32x1 .f32 := broadcastInDim S1x1x32x1 ![2, 3] bcast_S32x1_S1x1x32x1_2_3 main_v13
  let main_v16 : FVec F S2x10000x32x2 .f32 := broadcastInDim S2x10000x32x2 ![0, 1, 2, 3] bcast_S2x10000x1x2_S2x10000x32x2_0_1_2_3 main_v14
  let main_v17 : FVec F S2x10000x32x2 .f32 := broadcastInDim S2x10000x32x2 ![0, 1, 2, 3] bcast_S1x1x32x1_S2x10000x32x2_0_1_2_3 main_v15
  let main_v18 : FVec F S2x10000x32x2 .f32 := mulf main_v16 main_v17
  let main_v19 : FVec F S2x10000x1x2 .f32 := (extractStridedSlice S2x10000x1x2 ![0, 0, 1, 0] · slices_S2x10000x2x2_S2x10000x1x2_0_0_1_0) main_arg1
  fn_part1 (F := F) main_v13 main_v18 main_v19
-- ==== Kernel.lean ====
abbrev S2x256x256x256 : Shape := ⟨4, ![2, 256, 256, 256]⟩
abbrev S2x10000x2x2 : Shape := ⟨4, ![2, 10000, 2, 2]⟩
abbrev S128x256 : Shape := ⟨2, ![128, 256]⟩
abbrev S128 : Shape := ⟨1, ![128]⟩
abbrev S1024x1024 : Shape := ⟨2, ![1024, 1024]⟩
abbrev S1024 : Shape := ⟨1, ![1024]⟩
abbrev S3x1024 : Shape := ⟨2, ![3, 1024]⟩
abbrev S3 : Shape := ⟨1, ![3]⟩
abbrev S2x256x65536 : Shape := ⟨3, ![2, 256, 65536]⟩
abbrev S1x128 : Shape := ⟨2, ![1, 128]⟩
abbrev S2x65536x128 : Shape := ⟨3, ![2, 65536, 128]⟩
abbrev S1x256x2048 : Shape := ⟨3, ![1, 256, 2048]⟩
abbrev S1x2048x128 : Shape := ⟨3, ![1, 2048, 128]⟩
abbrev S256x2048 : Shape := ⟨2, ![256, 2048]⟩
abbrev S2048x128 : Shape := ⟨2, ![2048, 128]⟩
abbrev S_ : Shape := ⟨0, ![]⟩
abbrev S31 : Shape := ⟨1, ![31]⟩
abbrev S1 : Shape := ⟨1, ![1]⟩
abbrev S32 : Shape := ⟨1, ![32]⟩
abbrev S32x1 : Shape := ⟨2, ![32, 1]⟩
abbrev S2x10000x1x2 : Shape := ⟨4, ![2, 10000, 1, 2]⟩
abbrev S1x1x32x1 : Shape := ⟨4, ![1, 1, 32, 1]⟩
abbrev S2x10000x32x2 : Shape := ⟨4, ![2, 10000, 32, 2]⟩
abbrev S2x320000x2 : Shape := ⟨3, ![2, 320000, 2]⟩
abbrev S2x320000x1 : Shape := ⟨3, ![2, 320000, 1]⟩
abbrev S2x320000 : Shape := ⟨2, ![2, 320000]⟩
abbrev S2x1x320000 : Shape := ⟨3, ![2, 1, 320000]⟩
abbrev S2x4x320000 : Shape := ⟨3, ![2, 4, 320000]⟩
abbrev S160x1x4000 : Shape := ⟨3, ![160, 1, 4000]⟩
abbrev S2x4x80x4000 : Shape := ⟨4, ![2, 4, 80, 4000]⟩
abbrev S2x80x4x4000 : Shape := ⟨4, ![2, 80, 4, 4000]⟩
abbrev S160x4x4000 : Shape := ⟨3, ![160, 4, 4000]⟩
abbrev S2x65536x1x128 : Shape := ⟨4, ![2, 65536, 1, 128]⟩
abbrev S2x10000x1x1024 : Shape := ⟨4, ![2, 10000, 1, 1024]⟩
abbrev S1x1x4000 : Shape := ⟨3, ![1, 1, 4000]⟩
abbrev S1x4x4000 : Shape := ⟨3, ![1, 4, 4000]⟩
abbrev S1x125x1x1024 : Shape := ⟨4, ![1, 125, 1, 1024]⟩
abbrev S65536x1x128 : Shape := ⟨3, ![65536, 1, 128]⟩
abbrev S1x65536x1x128 : Shape := ⟨4, ![1, 65536, 1, 128]⟩
abbrev S1x1x1 : Shape := ⟨3, ![1, 1, 1]⟩
abbrev S1x1x128 : Shape := ⟨3, ![1, 1, 128]⟩
abbrev S1x1024 : Shape := ⟨2, ![1, 1024]⟩
abbrev S1x1x1x1024 : Shape := ⟨4, ![1, 1, 1, 1024]⟩
abbrev S20000x1024 : Shape := ⟨2, ![20000, 1024]⟩
abbrev S1024x128x8 : Shape := ⟨3, ![1024, 128, 8]⟩
abbrev S1024x8x128 : Shape := ⟨3, ![1024, 8, 128]⟩
abbrev S128x1024 : Shape := ⟨2, ![128, 1024]⟩
abbrev S2 : Shape := ⟨1, ![2]⟩
abbrev S20000x128 : Shape := ⟨2, ![20000, 128]⟩
abbrev S400x1024 : Shape := ⟨2, ![400, 1024]⟩
abbrev S400x128 : Shape := ⟨2, ![400, 128]⟩
abbrev S20000x3 : Shape := ⟨2, ![20000, 3]⟩

abbrev nBuf : Space → Nat
  | .hbm => 149
  | .vmem => 19
  | .smem => 4
  | _ => 0

abbrev hbmTy0_0 (i : Nat) : BufTy := match i % 128 with
  | 0 => ⟨S2x256x256x256, .f32⟩
  | 1 => ⟨S2x10000x2x2, .f32⟩
  | 2 => ⟨S128x256, .f32⟩
  | 3 => ⟨S128, .f32⟩
  | 4 => ⟨S1024x1024, .f32⟩
  | 5 => ⟨S1024, .f32⟩
  | 6 => ⟨S1024x1024, .f32⟩
  | 7 => ⟨S1024, .f32⟩
  | 8 => ⟨S3x1024, .f32⟩
  | 9 => ⟨S3, .f32⟩
  | 10 => ⟨S2x256x65536, .f32⟩
  | 11 => ⟨S1x128, .f32⟩
  | 12 => ⟨S2x65536x128, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S31, .f32⟩
  | 21 => ⟨S_, .f32⟩
  | 22 => ⟨S31, .f32⟩
  | 23 => ⟨S31, .f32⟩
  | 24 => ⟨S1, .f32⟩
  | 25 => ⟨S_, .f32⟩
  | 26 => ⟨S31, .f32⟩
  | 27 => ⟨S31, .f32⟩
  | 28 => ⟨S31, .f32⟩
  | 29 => ⟨S31, .f32⟩
  | 30 => ⟨S1, .f32⟩
  | 31 => ⟨S31, .f32⟩
  | 32 => ⟨S31, .f32⟩
  | 33 => ⟨S31, .f32⟩
  | 34 => ⟨S1, .f32⟩
  | 35 => ⟨S32, .f32⟩
  | 36 => ⟨S32x1, .f32⟩
  | 37 => ⟨S2x10000x1x2, .f32⟩
  | 38 => ⟨S1x1x32x1, .f32⟩
  | 39 => ⟨S2x10000x32x2, .f32⟩
  | 40 => ⟨S2x10000x32x2, .f32⟩
  | 41 => ⟨S2x10000x32x2, .f32⟩
  | 42 => ⟨S2x10000x1x2, .f32⟩
  | 43 => ⟨S_, .f32⟩
  | 44 => ⟨S32x1, .f32⟩
  | 45 => ⟨S32x1, .f32⟩
  | 46 => ⟨S1x1x32x1, .f32⟩
  | 47 => ⟨S2x10000x32x2, .f32⟩
  | 48 => ⟨S2x10000x32x2, .f32⟩
  | 49 => ⟨S2x10000x32x2, .f32⟩
  | 50 => ⟨S2x10000x32x2, .f32⟩
  | 51 => ⟨S_, .f32⟩
  | 52 => ⟨S2x10000x32x2, .f32⟩
  | 53 => ⟨S2x10000x32x2, .f32⟩
  | 54 => ⟨S2x320000x2, .f32⟩
  | 55 => ⟨S2x320000x1, .f32⟩
  | 56 => ⟨S2x320000, .f32⟩
  | 57 => ⟨S2x320000x1, .f32⟩
  | 58 => ⟨S2x320000, .f32⟩
  | 59 => ⟨S2x320000, .f32⟩
  | 60 => ⟨S_, .f32⟩
  | 61 => ⟨S_, .f32⟩
  | 62 => ⟨S_, .f32⟩
  | 63 => ⟨S2x320000, .f32⟩
  | 64 => ⟨S2x320000, .f32⟩
  | 65 => ⟨S_, .f32⟩
  | 66 => ⟨S2x320000, .f32⟩
  | 67 => ⟨S2x320000, .f32⟩
  | 68 => ⟨S2x320000, .f32⟩
  | 69 => ⟨S_, .f32⟩
  | 70 => ⟨S_, .f32⟩
  | 71 => ⟨S_, .f32⟩
  | 72 => ⟨S2x320000, .f32⟩
  | 73 => ⟨S2x320000, .f32⟩
  | 74 => ⟨S_, .f32⟩
  | 75 => ⟨S2x320000, .f32⟩
  | 76 => ⟨S2x320000, .f32⟩
  | 77 => ⟨S_, .f32⟩
  | 78 => ⟨S2x320000, .f32⟩
  | 79 => ⟨S2x320000, .f32⟩
  | 80 => ⟨S_, .f32⟩
  | 81 => ⟨S_, .f32⟩
  | 82 => ⟨S_, .f32⟩
  | 83 => ⟨S2x320000, .f32⟩
  | 84 => ⟨S2x320000, .f32⟩
  | 85 => ⟨S_, .f32⟩
  | 86 => ⟨S2x320000, .f32⟩
  | 87 => ⟨S2x320000, .f32⟩
  | 88 => ⟨S_, .f32⟩
  | 89 => ⟨S2x320000, .f32⟩
  | 90 => ⟨S2x320000, .f32⟩
  | 91 => ⟨S_, .f32⟩
  | 92 => ⟨S_, .f32⟩
  | 93 => ⟨S_, .f32⟩
  | 94 => ⟨S2x320000, .f32⟩
  | 95 => ⟨S2x320000, .f32⟩
  | 96 => ⟨S_, .f32⟩
  | 97 => ⟨S2x320000, .f32⟩
  | 98 => ⟨S2x320000, .f32⟩
  | 99 => ⟨S2x320000, .i32⟩
  | 100 => ⟨S2x320000, .i32⟩
  | 101 => ⟨S_, .i32⟩
  | 102 => ⟨S2x320000, .i32⟩
  | 103 => ⟨S2x320000, .i32⟩
  | 104 => ⟨S2x320000, .i32⟩
  | 105 => ⟨S2x320000, .f32⟩
  | 106 => ⟨S2x320000, .f32⟩
  | 107 => ⟨S2x320000, .f32⟩
  | 108 => ⟨S2x320000, .f32⟩
  | 109 => ⟨S2x320000, .f32⟩
  | 110 => ⟨S2x320000, .f32⟩
  | 111 => ⟨S2x320000, .f32⟩
  | 112 => ⟨S2x320000, .f32⟩
  | 113 => ⟨S2x320000, .f32⟩
  | 114 => ⟨S2x320000, .f32⟩
  | 115 => ⟨S2x320000, .f32⟩
  | 116 => ⟨S2x320000, .f32⟩
  | 117 => ⟨S2x1x320000, .f32⟩
  | 118 => ⟨S2x1x320000, .f32⟩
  | 119 => ⟨S2x1x320000, .f32⟩
  | 120 => ⟨S2x1x320000, .f32⟩
  | 121 => ⟨S2x4x320000, .f32⟩
  | 122 => ⟨S160x1x4000, .i32⟩
  | 123 => ⟨S2x4x80x4000, .f32⟩
  | 124 => ⟨S2x80x4x4000, .f32⟩
  | 125 => ⟨S160x4x4000, .f32⟩
  | 126 => ⟨S2x65536x1x128, .f32⟩
  | 127 => ⟨S2x10000x1x1024, .f32⟩
  | _ => ⟨S2x256x256x256, .f32⟩

abbrev hbmTy0_1 (i : Nat) : BufTy := match i % 128 with
  | 0 => ⟨S20000x1024, .f32⟩
  | 1 => ⟨S1024x128x8, .f32⟩
  | 2 => ⟨S1024x8x128, .f32⟩
  | 3 => ⟨S1024x1024, .f32⟩
  | 4 => ⟨S_, .f32⟩
  | 5 => ⟨S128x1024, .f32⟩
  | 6 => ⟨S_, .i32⟩
  | 7 => ⟨S1, .i32⟩
  | 8 => ⟨S128x1024, .f32⟩
  | 9 => ⟨S_, .f32⟩
  | 10 => ⟨S1x128, .f32⟩
  | 11 => ⟨S_, .i32⟩
  | 12 => ⟨S1, .i32⟩
  | 13 => ⟨S_, .i32⟩
  | 14 => ⟨S1, .i32⟩
  | 15 => ⟨S2, .i32⟩
  | 16 => ⟨S1x128, .f32⟩
  | 17 => ⟨S1x1024, .f32⟩
  | 18 => ⟨S1x1024, .f32⟩
  | 19 => ⟨S20000x128, .f32⟩
  | 20 => ⟨S20000x3, .f32⟩
  | _ => ⟨S2x256x256x256, .f32⟩

abbrev hbmTy (i : Nat) : BufTy := match i / 128 with
  | 0 => hbmTy0_0 i
  | 1 => hbmTy0_1 i
  | _ => ⟨S2x256x256x256, .f32⟩

abbrev bufTy : (tb : Table) → Fin (tcTables nBuf tb) → BufTy
  | .hbm, ⟨i, _⟩ => hbmTy i
  | .local _ .vmem, ⟨0, _⟩ => ⟨S1x256x2048, .f32⟩
  | .local _ .vmem, ⟨1, _⟩ => ⟨S1x256x2048, .f32⟩
  | .local _ .vmem, ⟨2, _⟩ => ⟨S128x256, .f32⟩
  | .local _ .vmem, ⟨3, _⟩ => ⟨S1x128, .f32⟩
  | .local _ .vmem, ⟨4, _⟩ => ⟨S1x2048x128, .f32⟩
  | .local _ .vmem, ⟨5, _⟩ => ⟨S1x2048x128, .f32⟩
  | .local _ .vmem, ⟨6, _⟩ => ⟨S1x125x1x1024, .f32⟩
  | .local _ .vmem, ⟨7, _⟩ => ⟨S1x125x1x1024, .f32⟩
  | .local _ .vmem, ⟨8, _⟩ => ⟨S65536x1x128, .f32⟩
  | .local _ .vmem, ⟨9, _⟩ => ⟨S400x1024, .f32⟩
  | .local _ .vmem, ⟨10, _⟩ => ⟨S400x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1x1024, .f32⟩
  | .local _ .vmem, ⟨15, _⟩ => ⟨S128x1024, .f32⟩
  | .local _ .vmem, ⟨16, _⟩ => ⟨S1x128, .f32⟩
  | .local _ .vmem, ⟨17, _⟩ => ⟨S400x128, .f32⟩
  | .local _ .vmem, ⟨18, _⟩ => ⟨S400x128, .f32⟩
  | .local _ .smem, ⟨0, _⟩ => ⟨S1x1x4000, .i32⟩
  | .local _ .smem, ⟨1, _⟩ => ⟨S1x1x4000, .i32⟩
  | .local _ .smem, ⟨2, _⟩ => ⟨S1x4x4000, .f32⟩
  | .local _ .smem, ⟨3, _⟩ => ⟨S1x4x4000, .f32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v26 : Ref sig .tc := ⟨.hbm, 67, rfl⟩
abbrev main_v27 : Ref sig .tc := ⟨.hbm, 68, rfl⟩
abbrev main_cst_5 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v28 : Ref sig .tc := ⟨.hbm, 76, rfl⟩
abbrev main_cst_7 : Ref sig .tc := ⟨.hbm, 77, rfl⟩
abbrev main_v29 : Ref sig .tc := ⟨.hbm, 78, rfl⟩
abbrev main_v30 : Ref sig .tc := ⟨.hbm, 79, rfl⟩
abbrev main_cst_8 : Ref sig .tc := ⟨.hbm, 80, rfl⟩
abbrev main_cst_9 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v31 : Ref sig .tc := ⟨.hbm, 87, rfl⟩
abbrev main_cst_10 : Ref sig .tc := ⟨.hbm, 88, rfl⟩
abbrev main_v32 : Ref sig .tc := ⟨.hbm, 89, rfl⟩
abbrev main_v33 : Ref sig .tc := ⟨.hbm, 90, rfl⟩
abbrev main_cst_11 : Ref sig .tc := ⟨.hbm, 91, rfl⟩
abbrev main_cst_12 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_c : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_13 : Ref sig .tc := ⟨.hbm, 132, rfl⟩
abbrev main_v67 : Ref sig .tc := ⟨.hbm, 133, rfl⟩
abbrev main_c_14 : Ref sig .tc := ⟨.hbm, 134, rfl⟩
abbrev main_v68 : Ref sig .tc := ⟨.hbm, 135, rfl⟩
abbrev main_v69 : Ref sig .tc := ⟨.hbm, 136, rfl⟩
abbrev main_cst_15 : Ref sig .tc := ⟨.hbm, 137, rfl⟩
abbrev main_v70 : Ref sig .tc := ⟨.hbm, 138, rfl⟩
abbrev main_c_16 : Ref sig .tc := ⟨.hbm, 139, rfl⟩
abbrev main_v71 : Ref sig .tc := ⟨.hbm, 140, rfl⟩
abbrev main_c_17 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg7_1 : Ref sig .tc := ⟨.vmem, 18, rfl⟩
abbrev cc1_stg0_0 : Ref sig .tc := ⟨.smem, 0, rfl⟩
abbrev cc1_stg0_1 : Ref sig .tc := ⟨.smem, 1, rfl⟩
abbrev cc1_stg1_0 : Ref sig .tc := ⟨.smem, 2, rfl⟩
abbrev cc1_stg1_1 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 80], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 4 → Nat :=
  let arg0 : BitVec 32 := BitVec.ofNat 32 (i 0).val
  let c0_i32_3 : BitVec 32 := 0#32
  let c0_i32_4 : BitVec 32 := 0#32
  let c0_i32_5 : BitVec 32 := 0#32
  ![arg0.toNat, 0, 0, 0]
@[reducible] def k1_t1_loop : Scf.Loop 32 :=
  let c0_i32_1 : BitVec 32 := 0#32
  let c125_i32 : BitVec 32 := 125#32
  let v3 : BitVec 32 := Scalar.addi c0_i32_1 c125_i32
  let c1_i32 : BitVec 32 := 1#32
  ⟨c0_i32_1, v3, c1_i32⟩
def k1_off2 (k1_t1 : Fin k1_t1_loop.trips) : Fin 3 → Nat :=
  let c0 : Index := 0#32
  let c0_4 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c0_i32_3 : BitVec 32 := 0#32
  let v5 : BitVec 32 := Scalar.addi v4 c0_i32_3
  let v6 : Index := Scalar.indexCast v5
  ![0, 0, v6.toNat]
def k1_off3 (k1_t1 : Fin k1_t1_loop.trips) : Fin 3 → Nat :=
  let c0_5 : Index := 0#32
  let c0_6 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c0_i32_3 : BitVec 32 := 0#32
  let v5 : BitVec 32 := Scalar.addi v4 c0_i32_3
  let v8 : Index := Scalar.indexCast v5
  ![0, 0, v8.toNat]
def k1_off4 (k1_t1 : Fin k1_t1_loop.trips) : Fin 3 → Nat :=
  let c0_7 : Index := 0#32
  let c1 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c0_i32_3 : BitVec 32 := 0#32
  let v5 : BitVec 32 := Scalar.addi v4 c0_i32_3
  let v10 : Index := Scalar.indexCast v5
  ![0, 1, v10.toNat]
def k1_off5 (k1_t1 : Fin k1_t1_loop.trips) : Fin 3 → Nat :=
  let c0_8 : Index := 0#32
  let c2 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c0_i32_3 : BitVec 32 := 0#32
  let v5 : BitVec 32 := Scalar.addi v4 c0_i32_3
  let v12 : Index := Scalar.indexCast v5
  ![0, 2, v12.toNat]
def k1_off6 (k1_t1 : Fin k1_t1_loop.trips) : Fin 3 → Nat :=
  let c0_9 : Index := 0#32
  let c3 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c0_i32_3 : BitVec 32 := 0#32
  let v5 : BitVec 32 := Scalar.addi v4 c0_i32_3
  let v14 : Index := Scalar.indexCast v5
  ![0, 3, v14.toNat]
def k1_off7 (v7 : BitVec 32) : Fin 3 → Nat :=
  let v16 : Index := Scalar.indexCast v7
  let c0_10 : Index := 0#32
  let c0_11 : Index := 0#32
  ![v16.toNat, 0, 0]

def k1_off8 (v7 : BitVec 32) (c256_i32 : BitVec 32) : Fin 3 → Nat :=
  let v21 : BitVec 32 := Scalar.addi v7 c256_i32
  let v22 : Index := Scalar.indexCast v21
  let c0_12 : Index := 0#32
  let c0_13 : Index := 0#32
  ![v22.toNat, 0, 0]
def k1_off9 (v7 : BitVec 32) : Fin 3 → Nat :=
  let c256_i32_17 : BitVec 32 := 256#32
  let v35 : BitVec 32 := Scalar.addi v7 c256_i32_17
  let c1_i32_18 : BitVec 32 := 1#32
  let v36 : BitVec 32 := Scalar.addi v35 c1_i32_18
  let v37 : Index := Scalar.indexCast v36
  let c0_19 : Index := 0#32
  let c0_20 : Index := 0#32
  ![v37.toNat, 0, 0]

def k1_chk1 (v7 : BitVec 32) : Prop :=
  (∀ a, (k1_off7 v7) a + S1x1x128.size a ≤ S65536x1x128.size a) ∧
  (∀ (r : Fin 2), ∀ a, (k1_off8 v7 (BitVec.ofNat 32 (1 + 255 * r.val))) a + S1x1x128.size a ≤ S65536x1x128.size a) ∧
  (∀ a, (k1_off9 v7) a + S1x1x128.size a ≤ S65536x1x128.size a)
theorem k1_off7_inb : ∀ (v7 : BitVec 32) (k1_hw1 : k1_chk1 v7), ∀ a, (k1_off7 v7) a + S1x1x128.size a ≤ S65536x1x128.size a := fun v7 k1_hw1 => k1_hw1.1
theorem k1_off8_inb : ∀ (v7 : BitVec 32) (k1_hw1 : k1_chk1 v7), ∀ (r : Fin 2), ∀ a, (k1_off8 v7 (BitVec.ofNat 32 (1 + 255 * r.val))) a + S1x1x128.size a ≤ S65536x1x128.size a := fun v7 k1_hw1 r => k1_hw1.2.1 r
theorem k1_off9_inb : ∀ (v7 : BitVec 32) (k1_hw1 : k1_chk1 v7), ∀ a, (k1_off9 v7) a + S1x1x128.size a ≤ S65536x1x128.size a := fun v7 k1_hw1 => k1_hw1.2.2

def k1_off10 (k1_t1 : Fin k1_t1_loop.trips) : Fin 3 → Nat :=
  let c0_22 : Index := 0#32
  let c0_23 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c1_i32_21 : BitVec 32 := 1#32
  let v43 : BitVec 32 := Scalar.addi v4 c1_i32_21
  let v44 : Index := Scalar.indexCast v43
  ![0, 0, v44.toNat]
def k1_off11 (k1_t1 : Fin k1_t1_loop.trips) : Fin 3 → Nat :=
  let c0_24 : Index := 0#32
  let c0_25 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c1_i32_21 : BitVec 32 := 1#32
  let v43 : BitVec 32 := Scalar.addi v4 c1_i32_21
  let v46 : Index := Scalar.indexCast v43
  ![0, 0, v46.toNat]
def k1_off12 (k1_t1 : Fin k1_t1_loop.trips) : Fin 3 → Nat :=
  let c0_26 : Index := 0#32
  let c1_27 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c1_i32_21 : BitVec 32 := 1#32
  let v43 : BitVec 32 := Scalar.addi v4 c1_i32_21
  let v48 : Index := Scalar.indexCast v43
  ![0, 1, v48.toNat]
def k1_off13 (k1_t1 : Fin k1_t1_loop.trips) : Fin 3 → Nat :=
  let c0_28 : Index := 0#32
  let c2_29 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c1_i32_21 : BitVec 32 := 1#32
  let v43 : BitVec 32 := Scalar.addi v4 c1_i32_21
  let v50 : Index := Scalar.indexCast v43
  ![0, 2, v50.toNat]
def k1_off14 (k1_t1 : Fin k1_t1_loop.trips) : Fin 3 → Nat :=
  let c0_30 : Index := 0#32
  let c3_31 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c1_i32_21 : BitVec 32 := 1#32
  let v43 : BitVec 32 := Scalar.addi v4 c1_i32_21
  let v52 : Index := Scalar.indexCast v43
  ![0, 3, v52.toNat]
def k1_off15 (v45 : BitVec 32) : Fin 3 → Nat :=
  let v54 : Index := Scalar.indexCast v45
  let c0_32 : Index := 0#32
  let c0_33 : Index := 0#32
  ![v54.toNat, 0, 0]

def k1_off16 (v45 : BitVec 32) (c256_i32_34 : BitVec 32) : Fin 3 → Nat :=
  let v59 : BitVec 32 := Scalar.addi v45 c256_i32_34
  let v60 : Index := Scalar.indexCast v59
  let c0_35 : Index := 0#32
  let c0_36 : Index := 0#32
  ![v60.toNat, 0, 0]
def k1_off17 (v45 : BitVec 32) : Fin 3 → Nat :=
  let c256_i32_40 : BitVec 32 := 256#32
  let v73 : BitVec 32 := Scalar.addi v45 c256_i32_40
  let c1_i32_41 : BitVec 32 := 1#32
  let v74 : BitVec 32 := Scalar.addi v73 c1_i32_41
  let v75 : Index := Scalar.indexCast v74
  let c0_42 : Index := 0#32
  let c0_43 : Index := 0#32
  ![v75.toNat, 0, 0]

def k1_chk2 (v45 : BitVec 32) : Prop :=
  (∀ a, (k1_off15 v45) a + S1x1x128.size a ≤ S65536x1x128.size a) ∧
  (∀ (r : Fin 2), ∀ a, (k1_off16 v45 (BitVec.ofNat 32 (1 + 255 * r.val))) a + S1x1x128.size a ≤ S65536x1x128.size a) ∧
  (∀ a, (k1_off17 v45) a + S1x1x128.size a ≤ S65536x1x128.size a)
theorem k1_off15_inb : ∀ (v45 : BitVec 32) (k1_hw2 : k1_chk2 v45), ∀ a, (k1_off15 v45) a + S1x1x128.size a ≤ S65536x1x128.size a := fun v45 k1_hw2 => k1_hw2.1
theorem k1_off16_inb : ∀ (v45 : BitVec 32) (k1_hw2 : k1_chk2 v45), ∀ (r : Fin 2), ∀ a, (k1_off16 v45 (BitVec.ofNat 32 (1 + 255 * r.val))) a + S1x1x128.size a ≤ S65536x1x128.size a := fun v45 k1_hw2 r => k1_hw2.2.1 r
theorem k1_off17_inb : ∀ (v45 : BitVec 32) (k1_hw2 : k1_chk2 v45), ∀ a, (k1_off17 v45) a + S1x1x128.size a ≤ S65536x1x128.size a := fun v45 k1_hw2 => k1_hw2.2.2

def k1_off18 (k1_t1 : Fin k1_t1_loop.trips) : Fin 3 → Nat :=
  let c0_44 : Index := 0#32
  let c0_45 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c2_i32 : BitVec 32 := 2#32
  let v81 : BitVec 32 := Scalar.addi v4 c2_i32
  let v82 : Index := Scalar.indexCast v81
  ![0, 0, v82.toNat]
def k1_off19 (k1_t1 : Fin k1_t1_loop.trips) : Fin 3 → Nat :=
  let c0_46 : Index := 0#32
  let c0_47 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c2_i32 : BitVec 32 := 2#32
  let v81 : BitVec 32 := Scalar.addi v4 c2_i32
  let v84 : Index := Scalar.indexCast v81
  ![0, 0, v84.toNat]
def k1_off20 (k1_t1 : Fin k1_t1_loop.trips) : Fin 3 → Nat :=
  let c0_48 : Index := 0#32
  let c1_49 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c2_i32 : BitVec 32 := 2#32
  let v81 : BitVec 32 := Scalar.addi v4 c2_i32
  let v86 : Index := Scalar.indexCast v81
  ![0, 1, v86.toNat]
def k1_off21 (k1_t1 : Fin k1_t1_loop.trips) : Fin 3 → Nat :=
  let c0_50 : Index := 0#32
  let c2_51 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c2_i32 : BitVec 32 := 2#32
  let v81 : BitVec 32 := Scalar.addi v4 c2_i32
  let v88 : Index := Scalar.indexCast v81
  ![0, 2, v88.toNat]
def k1_off22 (k1_t1 : Fin k1_t1_loop.trips) : Fin 3 → Nat :=
  let c0_52 : Index := 0#32
  let c3_53 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c2_i32 : BitVec 32 := 2#32
  let v81 : BitVec 32 := Scalar.addi v4 c2_i32
  let v90 : Index := Scalar.indexCast v81
  ![0, 3, v90.toNat]
def k1_off23 (v83 : BitVec 32) : Fin 3 → Nat :=
  let v92 : Index := Scalar.indexCast v83
  let c0_54 : Index := 0#32
  let c0_55 : Index := 0#32
  ![v92.toNat, 0, 0]

def k1_off24 (v83 : BitVec 32) (c256_i32_56 : BitVec 32) : Fin 3 → Nat :=
  let v97 : BitVec 32 := Scalar.addi v83 c256_i32_56
  let v98 : Index := Scalar.indexCast v97
  let c0_57 : Index := 0#32
  let c0_58 : Index := 0#32
  ![v98.toNat, 0, 0]
def k1_off25 (v83 : BitVec 32) : Fin 3 → Nat :=
  let c256_i32_62 : BitVec 32 := 256#32
  let v111 : BitVec 32 := Scalar.addi v83 c256_i32_62
  let c1_i32_63 : BitVec 32 := 1#32
  let v112 : BitVec 32 := Scalar.addi v111 c1_i32_63
  let v113 : Index := Scalar.indexCast v112
  let c0_64 : Index := 0#32
  let c0_65 : Index := 0#32
  ![v113.toNat, 0, 0]

def k1_chk3 (v83 : BitVec 32) : Prop :=
  (∀ a, (k1_off23 v83) a + S1x1x128.size a ≤ S65536x1x128.size a) ∧
  (∀ (r : Fin 2), ∀ a, (k1_off24 v83 (BitVec.ofNat 32 (1 + 255 * r.val))) a + S1x1x128.size a ≤ S65536x1x128.size a) ∧
  (∀ a, (k1_off25 v83) a + S1x1x128.size a ≤ S65536x1x128.size a)
theorem k1_off23_inb : ∀ (v83 : BitVec 32) (k1_hw3 : k1_chk3 v83), ∀ a, (k1_off23 v83) a + S1x1x128.size a ≤ S65536x1x128.size a := fun v83 k1_hw3 => k1_hw3.1
theorem k1_off24_inb : ∀ (v83 : BitVec 32) (k1_hw3 : k1_chk3 v83), ∀ (r : Fin 2), ∀ a, (k1_off24 v83 (BitVec.ofNat 32 (1 + 255 * r.val))) a + S1x1x128.size a ≤ S65536x1x128.size a := fun v83 k1_hw3 r => k1_hw3.2.1 r
theorem k1_off25_inb : ∀ (v83 : BitVec 32) (k1_hw3 : k1_chk3 v83), ∀ a, (k1_off25 v83) a + S1x1x128.size a ≤ S65536x1x128.size a := fun v83 k1_hw3 => k1_hw3.2.2

def k1_off26 (k1_t1 : Fin k1_t1_loop.trips) : Fin 3 → Nat :=
  let c0_66 : Index := 0#32
  let c0_67 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c3_i32 : BitVec 32 := 3#32
  let v119 : BitVec 32 := Scalar.addi v4 c3_i32
  let v120 : Index := Scalar.indexCast v119
  ![0, 0, v120.toNat]
def k1_off27 (k1_t1 : Fin k1_t1_loop.trips) : Fin 3 → Nat :=
  let c0_68 : Index := 0#32
  let c0_69 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c3_i32 : BitVec 32 := 3#32
  let v119 : BitVec 32 := Scalar.addi v4 c3_i32
  let v122 : Index := Scalar.indexCast v119
  ![0, 0, v122.toNat]
def k1_off28 (k1_t1 : Fin k1_t1_loop.trips) : Fin 3 → Nat :=
  let c0_70 : Index := 0#32
  let c1_71 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c3_i32 : BitVec 32 := 3#32
  let v119 : BitVec 32 := Scalar.addi v4 c3_i32
  let v124 : Index := Scalar.indexCast v119
  ![0, 1, v124.toNat]
def k1_off29 (k1_t1 : Fin k1_t1_loop.trips) : Fin 3 → Nat :=
  let c0_72 : Index := 0#32
  let c2_73 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c3_i32 : BitVec 32 := 3#32
  let v119 : BitVec 32 := Scalar.addi v4 c3_i32
  let v126 : Index := Scalar.indexCast v119
  ![0, 2, v126.toNat]
def k1_off30 (k1_t1 : Fin k1_t1_loop.trips) : Fin 3 → Nat :=
  let c0_74 : Index := 0#32
  let c3_75 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c3_i32 : BitVec 32 := 3#32
  let v119 : BitVec 32 := Scalar.addi v4 c3_i32
  let v128 : Index := Scalar.indexCast v119
  ![0, 3, v128.toNat]
def k1_off31 (v121 : BitVec 32) : Fin 3 → Nat :=
  let v130 : Index := Scalar.indexCast v121
  let c0_76 : Index := 0#32
  let c0_77 : Index := 0#32
  ![v130.toNat, 0, 0]

def k1_off32 (v121 : BitVec 32) (c256_i32_78 : BitVec 32) : Fin 3 → Nat :=
  let v135 : BitVec 32 := Scalar.addi v121 c256_i32_78
  let v136 : Index := Scalar.indexCast v135
  let c0_79 : Index := 0#32
  let c0_80 : Index := 0#32
  ![v136.toNat, 0, 0]
def k1_off33 (v121 : BitVec 32) : Fin 3 → Nat :=
  let c256_i32_84 : BitVec 32 := 256#32
  let v149 : BitVec 32 := Scalar.addi v121 c256_i32_84
  let c1_i32_85 : BitVec 32 := 1#32
  let v150 : BitVec 32 := Scalar.addi v149 c1_i32_85
  let v151 : Index := Scalar.indexCast v150
  let c0_86 : Index := 0#32
  let c0_87 : Index := 0#32
  ![v151.toNat, 0, 0]

def k1_chk4 (v121 : BitVec 32) : Prop :=
  (∀ a, (k1_off31 v121) a + S1x1x128.size a ≤ S65536x1x128.size a) ∧
  (∀ (r : Fin 2), ∀ a, (k1_off32 v121 (BitVec.ofNat 32 (1 + 255 * r.val))) a + S1x1x128.size a ≤ S65536x1x128.size a) ∧
  (∀ a, (k1_off33 v121) a + S1x1x128.size a ≤ S65536x1x128.size a)
theorem k1_off31_inb : ∀ (v121 : BitVec 32) (k1_hw4 : k1_chk4 v121), ∀ a, (k1_off31 v121) a + S1x1x128.size a ≤ S65536x1x128.size a := fun v121 k1_hw4 => k1_hw4.1
theorem k1_off32_inb : ∀ (v121 : BitVec 32) (k1_hw4 : k1_chk4 v121), ∀ (r : Fin 2), ∀ a, (k1_off32 v121 (BitVec.ofNat 32 (1 + 255 * r.val))) a + S1x1x128.size a ≤ S65536x1x128.size a := fun v121 k1_hw4 r => k1_hw4.2.1 r
theorem k1_off33_inb : ∀ (v121 : BitVec 32) (k1_hw4 : k1_chk4 v121), ∀ a, (k1_off33 v121) a + S1x1x128.size a ≤ S65536x1x128.size a := fun v121 k1_hw4 => k1_hw4.2.2

def k1_off34 (k1_t1 : Fin k1_t1_loop.trips) : Fin 3 → Nat :=
  let c0_88 : Index := 0#32
  let c0_89 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c4_i32 : BitVec 32 := 4#32
  let v157 : BitVec 32 := Scalar.addi v4 c4_i32
  let v158 : Index := Scalar.indexCast v157
  ![0, 0, v158.toNat]
def k1_off35 (k1_t1 : Fin k1_t1_loop.trips) : Fin 3 → Nat :=
  let c0_90 : Index := 0#32
  let c0_91 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c4_i32 : BitVec 32 := 4#32
  let v157 : BitVec 32 := Scalar.addi v4 c4_i32
  let v160 : Index := Scalar.indexCast v157
  ![0, 0, v160.toNat]
def k1_off36 (k1_t1 : Fin k1_t1_loop.trips) : Fin 3 → Nat :=
  let c0_92 : Index := 0#32
  let c1_93 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c4_i32 : BitVec 32 := 4#32
  let v157 : BitVec 32 := Scalar.addi v4 c4_i32
  let v162 : Index := Scalar.indexCast v157
  ![0, 1, v162.toNat]
def k1_off37 (k1_t1 : Fin k1_t1_loop.trips) : Fin 3 → Nat :=
  let c0_94 : Index := 0#32
  let c2_95 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c4_i32 : BitVec 32 := 4#32
  let v157 : BitVec 32 := Scalar.addi v4 c4_i32
  let v164 : Index := Scalar.indexCast v157
  ![0, 2, v164.toNat]
def k1_off38 (k1_t1 : Fin k1_t1_loop.trips) : Fin 3 → Nat :=
  let c0_96 : Index := 0#32
  let c3_97 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c4_i32 : BitVec 32 := 4#32
  let v157 : BitVec 32 := Scalar.addi v4 c4_i32
  let v166 : Index := Scalar.indexCast v157
  ![0, 3, v166.toNat]
def k1_off39 (v159 : BitVec 32) : Fin 3 → Nat :=
  let v168 : Index := Scalar.indexCast v159
  let c0_98 : Index := 0#32
  let c0_99 : Index := 0#32
  ![v168.toNat, 0, 0]

def k1_off40 (v159 : BitVec 32) (c256_i32_100 : BitVec 32) : Fin 3 → Nat :=
  let v173 : BitVec 32 := Scalar.addi v159 c256_i32_100
  let v174 : Index := Scalar.indexCast v173
  let c0_101 : Index := 0#32
  let c0_102 : Index := 0#32
  ![v174.toNat, 0, 0]
def k1_off41 (v159 : BitVec 32) : Fin 3 → Nat :=
  let c256_i32_106 : BitVec 32 := 256#32
  let v187 : BitVec 32 := Scalar.addi v159 c256_i32_106
  let c1_i32_107 : BitVec 32 := 1#32
  let v188 : BitVec 32 := Scalar.addi v187 c1_i32_107
  let v189 : Index := Scalar.indexCast v188
  let c0_108 : Index := 0#32
  let c0_109 : Index := 0#32
  ![v189.toNat, 0, 0]

def k1_chk5 (v159 : BitVec 32) : Prop :=
  (∀ a, (k1_off39 v159) a + S1x1x128.size a ≤ S65536x1x128.size a) ∧
  (∀ (r : Fin 2), ∀ a, (k1_off40 v159 (BitVec.ofNat 32 (1 + 255 * r.val))) a + S1x1x128.size a ≤ S65536x1x128.size a) ∧
  (∀ a, (k1_off41 v159) a + S1x1x128.size a ≤ S65536x1x128.size a)
theorem k1_off39_inb : ∀ (v159 : BitVec 32) (k1_hw5 : k1_chk5 v159), ∀ a, (k1_off39 v159) a + S1x1x128.size a ≤ S65536x1x128.size a := fun v159 k1_hw5 => k1_hw5.1
theorem k1_off40_inb : ∀ (v159 : BitVec 32) (k1_hw5 : k1_chk5 v159), ∀ (r : Fin 2), ∀ a, (k1_off40 v159 (BitVec.ofNat 32 (1 + 255 * r.val))) a + S1x1x128.size a ≤ S65536x1x128.size a := fun v159 k1_hw5 r => k1_hw5.2.1 r
theorem k1_off41_inb : ∀ (v159 : BitVec 32) (k1_hw5 : k1_chk5 v159), ∀ a, (k1_off41 v159) a + S1x1x128.size a ≤ S65536x1x128.size a := fun v159 k1_hw5 => k1_hw5.2.2

def k1_off42 (k1_t1 : Fin k1_t1_loop.trips) : Fin 3 → Nat :=
  let c0_110 : Index := 0#32
  let c0_111 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c5_i32 : BitVec 32 := 5#32
  let v195 : BitVec 32 := Scalar.addi v4 c5_i32
  let v196 : Index := Scalar.indexCast v195
  ![0, 0, v196.toNat]
def k1_off43 (k1_t1 : Fin k1_t1_loop.trips) : Fin 3 → Nat :=
  let c0_112 : Index := 0#32
  let c0_113 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c5_i32 : BitVec 32 := 5#32
  let v195 : BitVec 32 := Scalar.addi v4 c5_i32
  let v198 : Index := Scalar.indexCast v195
  ![0, 0, v198.toNat]
def k1_off44 (k1_t1 : Fin k1_t1_loop.trips) : Fin 3 → Nat :=
  let c0_114 : Index := 0#32
  let c1_115 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c5_i32 : BitVec 32 := 5#32
  let v195 : BitVec 32 := Scalar.addi v4 c5_i32
  let v200 : Index := Scalar.indexCast v195
  ![0, 1, v200.toNat]
def k1_off45 (k1_t1 : Fin k1_t1_loop.trips) : Fin 3 → Nat :=
  let c0_116 : Index := 0#32
  let c2_117 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c5_i32 : BitVec 32 := 5#32
  let v195 : BitVec 32 := Scalar.addi v4 c5_i32
  let v202 : Index := Scalar.indexCast v195
  ![0, 2, v202.toNat]
def k1_off46 (k1_t1 : Fin k1_t1_loop.trips) : Fin 3 → Nat :=
  let c0_118 : Index := 0#32
  let c3_119 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c5_i32 : BitVec 32 := 5#32
  let v195 : BitVec 32 := Scalar.addi v4 c5_i32
  let v204 : Index := Scalar.indexCast v195
  ![0, 3, v204.toNat]
def k1_off47 (v197 : BitVec 32) : Fin 3 → Nat :=
  let v206 : Index := Scalar.indexCast v197
  let c0_120 : Index := 0#32
  let c0_121 : Index := 0#32
  ![v206.toNat, 0, 0]

def k1_off48 (v197 : BitVec 32) (c256_i32_122 : BitVec 32) : Fin 3 → Nat :=
  let v211 : BitVec 32 := Scalar.addi v197 c256_i32_122
  let v212 : Index := Scalar.indexCast v211
  let c0_123 : Index := 0#32
  let c0_124 : Index := 0#32
  ![v212.toNat, 0, 0]
def k1_off49 (v197 : BitVec 32) : Fin 3 → Nat :=
  let c256_i32_128 : BitVec 32 := 256#32
  let v225 : BitVec 32 := Scalar.addi v197 c256_i32_128
  let c1_i32_129 : BitVec 32 := 1#32
  let v226 : BitVec 32 := Scalar.addi v225 c1_i32_129
  let v227 : Index := Scalar.indexCast v226
  let c0_130 : Index := 0#32
  let c0_131 : Index := 0#32
  ![v227.toNat, 0, 0]

def k1_chk6 (v197 : BitVec 32) : Prop :=
  (∀ a, (k1_off47 v197) a + S1x1x128.size a ≤ S65536x1x128.size a) ∧
  (∀ (r : Fin 2), ∀ a, (k1_off48 v197 (BitVec.ofNat 32 (1 + 255 * r.val))) a + S1x1x128.size a ≤ S65536x1x128.size a) ∧
  (∀ a, (k1_off49 v197) a + S1x1x128.size a ≤ S65536x1x128.size a)
theorem k1_off47_inb : ∀ (v197 : BitVec 32) (k1_hw6 : k1_chk6 v197), ∀ a, (k1_off47 v197) a + S1x1x128.size a ≤ S65536x1x128.size a := fun v197 k1_hw6 => k1_hw6.1
theorem k1_off48_inb : ∀ (v197 : BitVec 32) (k1_hw6 : k1_chk6 v197), ∀ (r : Fin 2), ∀ a, (k1_off48 v197 (BitVec.ofNat 32 (1 + 255 * r.val))) a + S1x1x128.size a ≤ S65536x1x128.size a := fun v197 k1_hw6 r => k1_hw6.2.1 r
theorem k1_off49_inb : ∀ (v197 : BitVec 32) (k1_hw6 : k1_chk6 v197), ∀ a, (k1_off49 v197) a + S1x1x128.size a ≤ S65536x1x128.size a := fun v197 k1_hw6 => k1_hw6.2.2

def k1_off50 (k1_t1 : Fin k1_t1_loop.trips) : Fin 3 → Nat :=
  let c0_132 : Index := 0#32
  let c0_133 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c6_i32 : BitVec 32 := 6#32
  let v233 : BitVec 32 := Scalar.addi v4 c6_i32
  let v234 : Index := Scalar.indexCast v233
  ![0, 0, v234.toNat]
def k1_off51 (k1_t1 : Fin k1_t1_loop.trips) : Fin 3 → Nat :=
  let c0_134 : Index := 0#32
  let c0_135 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c6_i32 : BitVec 32 := 6#32
  let v233 : BitVec 32 := Scalar.addi v4 c6_i32
  let v236 : Index := Scalar.indexCast v233
  ![0, 0, v236.toNat]
def k1_off52 (k1_t1 : Fin k1_t1_loop.trips) : Fin 3 → Nat :=
  let c0_136 : Index := 0#32
  let c1_137 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c6_i32 : BitVec 32 := 6#32
  let v233 : BitVec 32 := Scalar.addi v4 c6_i32
  let v238 : Index := Scalar.indexCast v233
  ![0, 1, v238.toNat]
def k1_off53 (k1_t1 : Fin k1_t1_loop.trips) : Fin 3 → Nat :=
  let c0_138 : Index := 0#32
  let c2_139 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c6_i32 : BitVec 32 := 6#32
  let v233 : BitVec 32 := Scalar.addi v4 c6_i32
  let v240 : Index := Scalar.indexCast v233
  ![0, 2, v240.toNat]
def k1_off54 (k1_t1 : Fin k1_t1_loop.trips) : Fin 3 → Nat :=
  let c0_140 : Index := 0#32
  let c3_141 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c6_i32 : BitVec 32 := 6#32
  let v233 : BitVec 32 := Scalar.addi v4 c6_i32
  let v242 : Index := Scalar.indexCast v233
  ![0, 3, v242.toNat]
def k1_off55 (v235 : BitVec 32) : Fin 3 → Nat :=
  let v244 : Index := Scalar.indexCast v235
  let c0_142 : Index := 0#32
  let c0_143 : Index := 0#32
  ![v244.toNat, 0, 0]

def k1_off56 (v235 : BitVec 32) (c256_i32_144 : BitVec 32) : Fin 3 → Nat :=
  let v249 : BitVec 32 := Scalar.addi v235 c256_i32_144
  let v250 : Index := Scalar.indexCast v249
  let c0_145 : Index := 0#32
  let c0_146 : Index := 0#32
  ![v250.toNat, 0, 0]
def k1_off57 (v235 : BitVec 32) : Fin 3 → Nat :=
  let c256_i32_150 : BitVec 32 := 256#32
  let v263 : BitVec 32 := Scalar.addi v235 c256_i32_150
  let c1_i32_151 : BitVec 32 := 1#32
  let v264 : BitVec 32 := Scalar.addi v263 c1_i32_151
  let v265 : Index := Scalar.indexCast v264
  let c0_152 : Index := 0#32
  let c0_153 : Index := 0#32
  ![v265.toNat, 0, 0]

def k1_chk7 (v235 : BitVec 32) : Prop :=
  (∀ a, (k1_off55 v235) a + S1x1x128.size a ≤ S65536x1x128.size a) ∧
  (∀ (r : Fin 2), ∀ a, (k1_off56 v235 (BitVec.ofNat 32 (1 + 255 * r.val))) a + S1x1x128.size a ≤ S65536x1x128.size a) ∧
  (∀ a, (k1_off57 v235) a + S1x1x128.size a ≤ S65536x1x128.size a)
theorem k1_off55_inb : ∀ (v235 : BitVec 32) (k1_hw7 : k1_chk7 v235), ∀ a, (k1_off55 v235) a + S1x1x128.size a ≤ S65536x1x128.size a := fun v235 k1_hw7 => k1_hw7.1
theorem k1_off56_inb : ∀ (v235 : BitVec 32) (k1_hw7 : k1_chk7 v235), ∀ (r : Fin 2), ∀ a, (k1_off56 v235 (BitVec.ofNat 32 (1 + 255 * r.val))) a + S1x1x128.size a ≤ S65536x1x128.size a := fun v235 k1_hw7 r => k1_hw7.2.1 r
theorem k1_off57_inb : ∀ (v235 : BitVec 32) (k1_hw7 : k1_chk7 v235), ∀ a, (k1_off57 v235) a + S1x1x128.size a ≤ S65536x1x128.size a := fun v235 k1_hw7 => k1_hw7.2.2

def k1_off58 (k1_t1 : Fin k1_t1_loop.trips) : Fin 3 → Nat :=
  let c0_154 : Index := 0#32
  let c0_155 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c7_i32 : BitVec 32 := 7#32
  let v271 : BitVec 32 := Scalar.addi v4 c7_i32
  let v272 : Index := Scalar.indexCast v271
  ![0, 0, v272.toNat]
def k1_off59 (k1_t1 : Fin k1_t1_loop.trips) : Fin 3 → Nat :=
  let c0_156 : Index := 0#32
  let c0_157 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c7_i32 : BitVec 32 := 7#32
  let v271 : BitVec 32 := Scalar.addi v4 c7_i32
  let v274 : Index := Scalar.indexCast v271
  ![0, 0, v274.toNat]
def k1_off60 (k1_t1 : Fin k1_t1_loop.trips) : Fin 3 → Nat :=
  let c0_158 : Index := 0#32
  let c1_159 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c7_i32 : BitVec 32 := 7#32
  let v271 : BitVec 32 := Scalar.addi v4 c7_i32
  let v276 : Index := Scalar.indexCast v271
  ![0, 1, v276.toNat]
def k1_off61 (k1_t1 : Fin k1_t1_loop.trips) : Fin 3 → Nat :=
  let c0_160 : Index := 0#32
  let c2_161 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c7_i32 : BitVec 32 := 7#32
  let v271 : BitVec 32 := Scalar.addi v4 c7_i32
  let v278 : Index := Scalar.indexCast v271
  ![0, 2, v278.toNat]
def k1_off62 (k1_t1 : Fin k1_t1_loop.trips) : Fin 3 → Nat :=
  let c0_162 : Index := 0#32
  let c3_163 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c7_i32 : BitVec 32 := 7#32
  let v271 : BitVec 32 := Scalar.addi v4 c7_i32
  let v280 : Index := Scalar.indexCast v271
  ![0, 3, v280.toNat]
def k1_off63 (v273 : BitVec 32) : Fin 3 → Nat :=
  let v282 : Index := Scalar.indexCast v273
  let c0_164 : Index := 0#32
  let c0_165 : Index := 0#32
  ![v282.toNat, 0, 0]

def k1_off64 (v273 : BitVec 32) (c256_i32_166 : BitVec 32) : Fin 3 → Nat :=
  let v287 : BitVec 32 := Scalar.addi v273 c256_i32_166
  let v288 : Index := Scalar.indexCast v287
  let c0_167 : Index := 0#32
  let c0_168 : Index := 0#32
  ![v288.toNat, 0, 0]
def k1_off65 (v273 : BitVec 32) : Fin 3 → Nat :=
  let c256_i32_172 : BitVec 32 := 256#32
  let v301 : BitVec 32 := Scalar.addi v273 c256_i32_172
  let c1_i32_173 : BitVec 32 := 1#32
  let v302 : BitVec 32 := Scalar.addi v301 c1_i32_173
  let v303 : Index := Scalar.indexCast v302
  let c0_174 : Index := 0#32
  let c0_175 : Index := 0#32
  ![v303.toNat, 0, 0]

def k1_chk8 (v273 : BitVec 32) : Prop :=
  (∀ a, (k1_off63 v273) a + S1x1x128.size a ≤ S65536x1x128.size a) ∧
  (∀ (r : Fin 2), ∀ a, (k1_off64 v273 (BitVec.ofNat 32 (1 + 255 * r.val))) a + S1x1x128.size a ≤ S65536x1x128.size a) ∧
  (∀ a, (k1_off65 v273) a + S1x1x128.size a ≤ S65536x1x128.size a)
theorem k1_off63_inb : ∀ (v273 : BitVec 32) (k1_hw8 : k1_chk8 v273), ∀ a, (k1_off63 v273) a + S1x1x128.size a ≤ S65536x1x128.size a := fun v273 k1_hw8 => k1_hw8.1
theorem k1_off64_inb : ∀ (v273 : BitVec 32) (k1_hw8 : k1_chk8 v273), ∀ (r : Fin 2), ∀ a, (k1_off64 v273 (BitVec.ofNat 32 (1 + 255 * r.val))) a + S1x1x128.size a ≤ S65536x1x128.size a := fun v273 k1_hw8 r => k1_hw8.2.1 r
theorem k1_off65_inb : ∀ (v273 : BitVec 32) (k1_hw8 : k1_chk8 v273), ∀ a, (k1_off65 v273) a + S1x1x128.size a ≤ S65536x1x128.size a := fun v273 k1_hw8 => k1_hw8.2.2

def k1_off66 (k1_t1 : Fin k1_t1_loop.trips) : Fin 3 → Nat :=
  let c0_176 : Index := 0#32
  let c0_177 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c8_i32 : BitVec 32 := 8#32
  let v309 : BitVec 32 := Scalar.addi v4 c8_i32
  let v310 : Index := Scalar.indexCast v309
  ![0, 0, v310.toNat]
def k1_off67 (k1_t1 : Fin k1_t1_loop.trips) : Fin 3 → Nat :=
  let c0_178 : Index := 0#32
  let c0_179 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c8_i32 : BitVec 32 := 8#32
  let v309 : BitVec 32 := Scalar.addi v4 c8_i32
  let v312 : Index := Scalar.indexCast v309
  ![0, 0, v312.toNat]
def k1_off68 (k1_t1 : Fin k1_t1_loop.trips) : Fin 3 → Nat :=
  let c0_180 : Index := 0#32
  let c1_181 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c8_i32 : BitVec 32 := 8#32
  let v309 : BitVec 32 := Scalar.addi v4 c8_i32
  let v314 : Index := Scalar.indexCast v309
  ![0, 1, v314.toNat]
def k1_off69 (k1_t1 : Fin k1_t1_loop.trips) : Fin 3 → Nat :=
  let c0_182 : Index := 0#32
  let c2_183 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c8_i32 : BitVec 32 := 8#32
  let v309 : BitVec 32 := Scalar.addi v4 c8_i32
  let v316 : Index := Scalar.indexCast v309
  ![0, 2, v316.toNat]
def k1_off70 (k1_t1 : Fin k1_t1_loop.trips) : Fin 3 → Nat :=
  let c0_184 : Index := 0#32
  let c3_185 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c8_i32 : BitVec 32 := 8#32
  let v309 : BitVec 32 := Scalar.addi v4 c8_i32
  let v318 : Index := Scalar.indexCast v309
  ![0, 3, v318.toNat]
def k1_off71 (v311 : BitVec 32) : Fin 3 → Nat :=
  let v320 : Index := Scalar.indexCast v311
  let c0_186 : Index := 0#32
  let c0_187 : Index := 0#32
  ![v320.toNat, 0, 0]

def k1_off72 (v311 : BitVec 32) (c256_i32_188 : BitVec 32) : Fin 3 → Nat :=
  let v325 : BitVec 32 := Scalar.addi v311 c256_i32_188
  let v326 : Index := Scalar.indexCast v325
  let c0_189 : Index := 0#32
  let c0_190 : Index := 0#32
  ![v326.toNat, 0, 0]
def k1_off73 (v311 : BitVec 32) : Fin 3 → Nat :=
  let c256_i32_194 : BitVec 32 := 256#32
  let v339 : BitVec 32 := Scalar.addi v311 c256_i32_194
  let c1_i32_195 : BitVec 32 := 1#32
  let v340 : BitVec 32 := Scalar.addi v339 c1_i32_195
  let v341 : Index := Scalar.indexCast v340
  let c0_196 : Index := 0#32
  let c0_197 : Index := 0#32
  ![v341.toNat, 0, 0]

def k1_chk9 (v311 : BitVec 32) : Prop :=
  (∀ a, (k1_off71 v311) a + S1x1x128.size a ≤ S65536x1x128.size a) ∧
  (∀ (r : Fin 2), ∀ a, (k1_off72 v311 (BitVec.ofNat 32 (1 + 255 * r.val))) a + S1x1x128.size a ≤ S65536x1x128.size a) ∧
  (∀ a, (k1_off73 v311) a + S1x1x128.size a ≤ S65536x1x128.size a)
theorem k1_off71_inb : ∀ (v311 : BitVec 32) (k1_hw9 : k1_chk9 v311), ∀ a, (k1_off71 v311) a + S1x1x128.size a ≤ S65536x1x128.size a := fun v311 k1_hw9 => k1_hw9.1
theorem k1_off72_inb : ∀ (v311 : BitVec 32) (k1_hw9 : k1_chk9 v311), ∀ (r : Fin 2), ∀ a, (k1_off72 v311 (BitVec.ofNat 32 (1 + 255 * r.val))) a + S1x1x128.size a ≤ S65536x1x128.size a := fun v311 k1_hw9 r => k1_hw9.2.1 r
theorem k1_off73_inb : ∀ (v311 : BitVec 32) (k1_hw9 : k1_chk9 v311), ∀ a, (k1_off73 v311) a + S1x1x128.size a ≤ S65536x1x128.size a := fun v311 k1_hw9 => k1_hw9.2.2

def k1_off74 (k1_t1 : Fin k1_t1_loop.trips) : Fin 3 → Nat :=
  let c0_198 : Index := 0#32
  let c0_199 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c9_i32 : BitVec 32 := 9#32
  let v347 : BitVec 32 := Scalar.addi v4 c9_i32
  let v348 : Index := Scalar.indexCast v347
  ![0, 0, v348.toNat]
def k1_off75 (k1_t1 : Fin k1_t1_loop.trips) : Fin 3 → Nat :=
  let c0_200 : Index := 0#32
  let c0_201 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c9_i32 : BitVec 32 := 9#32
  let v347 : BitVec 32 := Scalar.addi v4 c9_i32
  let v350 : Index := Scalar.indexCast v347
  ![0, 0, v350.toNat]
def k1_off76 (k1_t1 : Fin k1_t1_loop.trips) : Fin 3 → Nat :=
  let c0_202 : Index := 0#32
  let c1_203 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c9_i32 : BitVec 32 := 9#32
  let v347 : BitVec 32 := Scalar.addi v4 c9_i32
  let v352 : Index := Scalar.indexCast v347
  ![0, 1, v352.toNat]
def k1_off77 (k1_t1 : Fin k1_t1_loop.trips) : Fin 3 → Nat :=
  let c0_204 : Index := 0#32
  let c2_205 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c9_i32 : BitVec 32 := 9#32
  let v347 : BitVec 32 := Scalar.addi v4 c9_i32
  let v354 : Index := Scalar.indexCast v347
  ![0, 2, v354.toNat]
def k1_off78 (k1_t1 : Fin k1_t1_loop.trips) : Fin 3 → Nat :=
  let c0_206 : Index := 0#32
  let c3_207 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c9_i32 : BitVec 32 := 9#32
  let v347 : BitVec 32 := Scalar.addi v4 c9_i32
  let v356 : Index := Scalar.indexCast v347
  ![0, 3, v356.toNat]
def k1_off79 (v349 : BitVec 32) : Fin 3 → Nat :=
  let v358 : Index := Scalar.indexCast v349
  let c0_208 : Index := 0#32
  let c0_209 : Index := 0#32
  ![v358.toNat, 0, 0]

def k1_off80 (v349 : BitVec 32) (c256_i32_210 : BitVec 32) : Fin 3 → Nat :=
  let v363 : BitVec 32 := Scalar.addi v349 c256_i32_210
  let v364 : Index := Scalar.indexCast v363
  let c0_211 : Index := 0#32
  let c0_212 : Index := 0#32
  ![v364.toNat, 0, 0]
def k1_off81 (v349 : BitVec 32) : Fin 3 → Nat :=
  let c256_i32_216 : BitVec 32 := 256#32
  let v377 : BitVec 32 := Scalar.addi v349 c256_i32_216
  let c1_i32_217 : BitVec 32 := 1#32
  let v378 : BitVec 32 := Scalar.addi v377 c1_i32_217
  let v379 : Index := Scalar.indexCast v378
  let c0_218 : Index := 0#32
  let c0_219 : Index := 0#32
  ![v379.toNat, 0, 0]

def k1_chk10 (v349 : BitVec 32) : Prop :=
  (∀ a, (k1_off79 v349) a + S1x1x128.size a ≤ S65536x1x128.size a) ∧
  (∀ (r : Fin 2), ∀ a, (k1_off80 v349 (BitVec.ofNat 32 (1 + 255 * r.val))) a + S1x1x128.size a ≤ S65536x1x128.size a) ∧
  (∀ a, (k1_off81 v349) a + S1x1x128.size a ≤ S65536x1x128.size a)
theorem k1_off79_inb : ∀ (v349 : BitVec 32) (k1_hw10 : k1_chk10 v349), ∀ a, (k1_off79 v349) a + S1x1x128.size a ≤ S65536x1x128.size a := fun v349 k1_hw10 => k1_hw10.1
theorem k1_off80_inb : ∀ (v349 : BitVec 32) (k1_hw10 : k1_chk10 v349), ∀ (r : Fin 2), ∀ a, (k1_off80 v349 (BitVec.ofNat 32 (1 + 255 * r.val))) a + S1x1x128.size a ≤ S65536x1x128.size a := fun v349 k1_hw10 r => k1_hw10.2.1 r
theorem k1_off81_inb : ∀ (v349 : BitVec 32) (k1_hw10 : k1_chk10 v349), ∀ a, (k1_off81 v349) a + S1x1x128.size a ≤ S65536x1x128.size a := fun v349 k1_hw10 => k1_hw10.2.2

def k1_off82 (k1_t1 : Fin k1_t1_loop.trips) : Fin 3 → Nat :=
  let c0_220 : Index := 0#32
  let c0_221 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c10_i32 : BitVec 32 := 10#32
  let v385 : BitVec 32 := Scalar.addi v4 c10_i32
  let v386 : Index := Scalar.indexCast v385
  ![0, 0, v386.toNat]
def k1_off83 (k1_t1 : Fin k1_t1_loop.trips) : Fin 3 → Nat :=
  let c0_222 : Index := 0#32
  let c0_223 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c10_i32 : BitVec 32 := 10#32
  let v385 : BitVec 32 := Scalar.addi v4 c10_i32
  let v388 : Index := Scalar.indexCast v385
  ![0, 0, v388.toNat]
def k1_off84 (k1_t1 : Fin k1_t1_loop.trips) : Fin 3 → Nat :=
  let c0_224 : Index := 0#32
  let c1_225 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c10_i32 : BitVec 32 := 10#32
  let v385 : BitVec 32 := Scalar.addi v4 c10_i32
  let v390 : Index := Scalar.indexCast v385
  ![0, 1, v390.toNat]
def k1_off85 (k1_t1 : Fin k1_t1_loop.trips) : Fin 3 → Nat :=
  let c0_226 : Index := 0#32
  let c2_227 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c10_i32 : BitVec 32 := 10#32
  let v385 : BitVec 32 := Scalar.addi v4 c10_i32
  let v392 : Index := Scalar.indexCast v385
  ![0, 2, v392.toNat]
def k1_off86 (k1_t1 : Fin k1_t1_loop.trips) : Fin 3 → Nat :=
  let c0_228 : Index := 0#32
  let c3_229 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c10_i32 : BitVec 32 := 10#32
  let v385 : BitVec 32 := Scalar.addi v4 c10_i32
  let v394 : Index := Scalar.indexCast v385
  ![0, 3, v394.toNat]
def k1_off87 (v387 : BitVec 32) : Fin 3 → Nat :=
  let v396 : Index := Scalar.indexCast v387
  let c0_230 : Index := 0#32
  let c0_231 : Index := 0#32
  ![v396.toNat, 0, 0]

def k1_off88 (v387 : BitVec 32) (c256_i32_232 : BitVec 32) : Fin 3 → Nat :=
  let v401 : BitVec 32 := Scalar.addi v387 c256_i32_232
  let v402 : Index := Scalar.indexCast v401
  let c0_233 : Index := 0#32
  let c0_234 : Index := 0#32
  ![v402.toNat, 0, 0]
def k1_off89 (v387 : BitVec 32) : Fin 3 → Nat :=
  let c256_i32_238 : BitVec 32 := 256#32
  let v415 : BitVec 32 := Scalar.addi v387 c256_i32_238
  let c1_i32_239 : BitVec 32 := 1#32
  let v416 : BitVec 32 := Scalar.addi v415 c1_i32_239
  let v417 : Index := Scalar.indexCast v416
  let c0_240 : Index := 0#32
  let c0_241 : Index := 0#32
  ![v417.toNat, 0, 0]

def k1_chk11 (v387 : BitVec 32) : Prop :=
  (∀ a, (k1_off87 v387) a + S1x1x128.size a ≤ S65536x1x128.size a) ∧
  (∀ (r : Fin 2), ∀ a, (k1_off88 v387 (BitVec.ofNat 32 (1 + 255 * r.val))) a + S1x1x128.size a ≤ S65536x1x128.size a) ∧
  (∀ a, (k1_off89 v387) a + S1x1x128.size a ≤ S65536x1x128.size a)
theorem k1_off87_inb : ∀ (v387 : BitVec 32) (k1_hw11 : k1_chk11 v387), ∀ a, (k1_off87 v387) a + S1x1x128.size a ≤ S65536x1x128.size a := fun v387 k1_hw11 => k1_hw11.1
theorem k1_off88_inb : ∀ (v387 : BitVec 32) (k1_hw11 : k1_chk11 v387), ∀ (r : Fin 2), ∀ a, (k1_off88 v387 (BitVec.ofNat 32 (1 + 255 * r.val))) a + S1x1x128.size a ≤ S65536x1x128.size a := fun v387 k1_hw11 r => k1_hw11.2.1 r
theorem k1_off89_inb : ∀ (v387 : BitVec 32) (k1_hw11 : k1_chk11 v387), ∀ a, (k1_off89 v387) a + S1x1x128.size a ≤ S65536x1x128.size a := fun v387 k1_hw11 => k1_hw11.2.2

def k1_off90 (k1_t1 : Fin k1_t1_loop.trips) : Fin 3 → Nat :=
  let c0_242 : Index := 0#32
  let c0_243 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c11_i32 : BitVec 32 := 11#32
  let v423 : BitVec 32 := Scalar.addi v4 c11_i32
  let v424 : Index := Scalar.indexCast v423
  ![0, 0, v424.toNat]
def k1_off91 (k1_t1 : Fin k1_t1_loop.trips) : Fin 3 → Nat :=
  let c0_244 : Index := 0#32
  let c0_245 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c11_i32 : BitVec 32 := 11#32
  let v423 : BitVec 32 := Scalar.addi v4 c11_i32
  let v426 : Index := Scalar.indexCast v423
  ![0, 0, v426.toNat]
def k1_off92 (k1_t1 : Fin k1_t1_loop.trips) : Fin 3 → Nat :=
  let c0_246 : Index := 0#32
  let c1_247 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c11_i32 : BitVec 32 := 11#32
  let v423 : BitVec 32 := Scalar.addi v4 c11_i32
  let v428 : Index := Scalar.indexCast v423
  ![0, 1, v428.toNat]
def k1_off93 (k1_t1 : Fin k1_t1_loop.trips) : Fin 3 → Nat :=
  let c0_248 : Index := 0#32
  let c2_249 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c11_i32 : BitVec 32 := 11#32
  let v423 : BitVec 32 := Scalar.addi v4 c11_i32
  let v430 : Index := Scalar.indexCast v423
  ![0, 2, v430.toNat]
def k1_off94 (k1_t1 : Fin k1_t1_loop.trips) : Fin 3 → Nat :=
  let c0_250 : Index := 0#32
  let c3_251 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c11_i32 : BitVec 32 := 11#32
  let v423 : BitVec 32 := Scalar.addi v4 c11_i32
  let v432 : Index := Scalar.indexCast v423
  ![0, 3, v432.toNat]
def k1_off95 (v425 : BitVec 32) : Fin 3 → Nat :=
  let v434 : Index := Scalar.indexCast v425
  let c0_252 : Index := 0#32
  let c0_253 : Index := 0#32
  ![v434.toNat, 0, 0]

def k1_off96 (v425 : BitVec 32) (c256_i32_254 : BitVec 32) : Fin 3 → Nat :=
  let v439 : BitVec 32 := Scalar.addi v425 c256_i32_254
  let v440 : Index := Scalar.indexCast v439
  let c0_255 : Index := 0#32
  let c0_256 : Index := 0#32
  ![v440.toNat, 0, 0]
def k1_off97 (v425 : BitVec 32) : Fin 3 → Nat :=
  let c256_i32_260 : BitVec 32 := 256#32
  let v453 : BitVec 32 := Scalar.addi v425 c256_i32_260
  let c1_i32_261 : BitVec 32 := 1#32
  let v454 : BitVec 32 := Scalar.addi v453 c1_i32_261
  let v455 : Index := Scalar.indexCast v454
  let c0_262 : Index := 0#32
  let c0_263 : Index := 0#32
  ![v455.toNat, 0, 0]

def k1_chk12 (v425 : BitVec 32) : Prop :=
  (∀ a, (k1_off95 v425) a + S1x1x128.size a ≤ S65536x1x128.size a) ∧
  (∀ (r : Fin 2), ∀ a, (k1_off96 v425 (BitVec.ofNat 32 (1 + 255 * r.val))) a + S1x1x128.size a ≤ S65536x1x128.size a) ∧
  (∀ a, (k1_off97 v425) a + S1x1x128.size a ≤ S65536x1x128.size a)
theorem k1_off95_inb : ∀ (v425 : BitVec 32) (k1_hw12 : k1_chk12 v425), ∀ a, (k1_off95 v425) a + S1x1x128.size a ≤ S65536x1x128.size a := fun v425 k1_hw12 => k1_hw12.1
theorem k1_off96_inb : ∀ (v425 : BitVec 32) (k1_hw12 : k1_chk12 v425), ∀ (r : Fin 2), ∀ a, (k1_off96 v425 (BitVec.ofNat 32 (1 + 255 * r.val))) a + S1x1x128.size a ≤ S65536x1x128.size a := fun v425 k1_hw12 r => k1_hw12.2.1 r
theorem k1_off97_inb : ∀ (v425 : BitVec 32) (k1_hw12 : k1_chk12 v425), ∀ a, (k1_off97 v425) a + S1x1x128.size a ≤ S65536x1x128.size a := fun v425 k1_hw12 => k1_hw12.2.2

def k1_off98 (k1_t1 : Fin k1_t1_loop.trips) : Fin 3 → Nat :=
  let c0_264 : Index := 0#32
  let c0_265 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c12_i32 : BitVec 32 := 12#32
  let v461 : BitVec 32 := Scalar.addi v4 c12_i32
  let v462 : Index := Scalar.indexCast v461
  ![0, 0, v462.toNat]
def k1_off99 (k1_t1 : Fin k1_t1_loop.trips) : Fin 3 → Nat :=
  let c0_266 : Index := 0#32
  let c0_267 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c12_i32 : BitVec 32 := 12#32
  let v461 : BitVec 32 := Scalar.addi v4 c12_i32
  let v464 : Index := Scalar.indexCast v461
  ![0, 0, v464.toNat]
def k1_off100 (k1_t1 : Fin k1_t1_loop.trips) : Fin 3 → Nat :=
  let c0_268 : Index := 0#32
  let c1_269 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c12_i32 : BitVec 32 := 12#32
  let v461 : BitVec 32 := Scalar.addi v4 c12_i32
  let v466 : Index := Scalar.indexCast v461
  ![0, 1, v466.toNat]
def k1_off101 (k1_t1 : Fin k1_t1_loop.trips) : Fin 3 → Nat :=
  let c0_270 : Index := 0#32
  let c2_271 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c12_i32 : BitVec 32 := 12#32
  let v461 : BitVec 32 := Scalar.addi v4 c12_i32
  let v468 : Index := Scalar.indexCast v461
  ![0, 2, v468.toNat]
def k1_off102 (k1_t1 : Fin k1_t1_loop.trips) : Fin 3 → Nat :=
  let c0_272 : Index := 0#32
  let c3_273 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c12_i32 : BitVec 32 := 12#32
  let v461 : BitVec 32 := Scalar.addi v4 c12_i32
  let v470 : Index := Scalar.indexCast v461
  ![0, 3, v470.toNat]
def k1_off103 (v463 : BitVec 32) : Fin 3 → Nat :=
  let v472 : Index := Scalar.indexCast v463
  let c0_274 : Index := 0#32
  let c0_275 : Index := 0#32
  ![v472.toNat, 0, 0]

def k1_off104 (v463 : BitVec 32) (c256_i32_276 : BitVec 32) : Fin 3 → Nat :=
  let v477 : BitVec 32 := Scalar.addi v463 c256_i32_276
  let v478 : Index := Scalar.indexCast v477
  let c0_277 : Index := 0#32
  let c0_278 : Index := 0#32
  ![v478.toNat, 0, 0]
def k1_off105 (v463 : BitVec 32) : Fin 3 → Nat :=
  let c256_i32_282 : BitVec 32 := 256#32
  let v491 : BitVec 32 := Scalar.addi v463 c256_i32_282
  let c1_i32_283 : BitVec 32 := 1#32
  let v492 : BitVec 32 := Scalar.addi v491 c1_i32_283
  let v493 : Index := Scalar.indexCast v492
  let c0_284 : Index := 0#32
  let c0_285 : Index := 0#32
  ![v493.toNat, 0, 0]

def k1_chk13 (v463 : BitVec 32) : Prop :=
  (∀ a, (k1_off103 v463) a + S1x1x128.size a ≤ S65536x1x128.size a) ∧
  (∀ (r : Fin 2), ∀ a, (k1_off104 v463 (BitVec.ofNat 32 (1 + 255 * r.val))) a + S1x1x128.size a ≤ S65536x1x128.size a) ∧
  (∀ a, (k1_off105 v463) a + S1x1x128.size a ≤ S65536x1x128.size a)
theorem k1_off103_inb : ∀ (v463 : BitVec 32) (k1_hw13 : k1_chk13 v463), ∀ a, (k1_off103 v463) a + S1x1x128.size a ≤ S65536x1x128.size a := fun v463 k1_hw13 => k1_hw13.1
theorem k1_off104_inb : ∀ (v463 : BitVec 32) (k1_hw13 : k1_chk13 v463), ∀ (r : Fin 2), ∀ a, (k1_off104 v463 (BitVec.ofNat 32 (1 + 255 * r.val))) a + S1x1x128.size a ≤ S65536x1x128.size a := fun v463 k1_hw13 r => k1_hw13.2.1 r
theorem k1_off105_inb : ∀ (v463 : BitVec 32) (k1_hw13 : k1_chk13 v463), ∀ a, (k1_off105 v463) a + S1x1x128.size a ≤ S65536x1x128.size a := fun v463 k1_hw13 => k1_hw13.2.2

def k1_off106 (k1_t1 : Fin k1_t1_loop.trips) : Fin 3 → Nat :=
  let c0_286 : Index := 0#32
  let c0_287 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c13_i32 : BitVec 32 := 13#32
  let v499 : BitVec 32 := Scalar.addi v4 c13_i32
  let v500 : Index := Scalar.indexCast v499
  ![0, 0, v500.toNat]
def k1_off107 (k1_t1 : Fin k1_t1_loop.trips) : Fin 3 → Nat :=
  let c0_288 : Index := 0#32
  let c0_289 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c13_i32 : BitVec 32 := 13#32
  let v499 : BitVec 32 := Scalar.addi v4 c13_i32
  let v502 : Index := Scalar.indexCast v499
  ![0, 0, v502.toNat]
def k1_off108 (k1_t1 : Fin k1_t1_loop.trips) : Fin 3 → Nat :=
  let c0_290 : Index := 0#32
  let c1_291 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c13_i32 : BitVec 32 := 13#32
  let v499 : BitVec 32 := Scalar.addi v4 c13_i32
  let v504 : Index := Scalar.indexCast v499
  ![0, 1, v504.toNat]
def k1_off109 (k1_t1 : Fin k1_t1_loop.trips) : Fin 3 → Nat :=
  let c0_292 : Index := 0#32
  let c2_293 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c13_i32 : BitVec 32 := 13#32
  let v499 : BitVec 32 := Scalar.addi v4 c13_i32
  let v506 : Index := Scalar.indexCast v499
  ![0, 2, v506.toNat]
def k1_off110 (k1_t1 : Fin k1_t1_loop.trips) : Fin 3 → Nat :=
  let c0_294 : Index := 0#32
  let c3_295 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c13_i32 : BitVec 32 := 13#32
  let v499 : BitVec 32 := Scalar.addi v4 c13_i32
  let v508 : Index := Scalar.indexCast v499
  ![0, 3, v508.toNat]
def k1_off111 (v501 : BitVec 32) : Fin 3 → Nat :=
  let v510 : Index := Scalar.indexCast v501
  let c0_296 : Index := 0#32
  let c0_297 : Index := 0#32
  ![v510.toNat, 0, 0]

def k1_off112 (v501 : BitVec 32) (c256_i32_298 : BitVec 32) : Fin 3 → Nat :=
  let v515 : BitVec 32 := Scalar.addi v501 c256_i32_298
  let v516 : Index := Scalar.indexCast v515
  let c0_299 : Index := 0#32
  let c0_300 : Index := 0#32
  ![v516.toNat, 0, 0]
def k1_off113 (v501 : BitVec 32) : Fin 3 → Nat :=
  let c256_i32_304 : BitVec 32 := 256#32
  let v529 : BitVec 32 := Scalar.addi v501 c256_i32_304
  let c1_i32_305 : BitVec 32 := 1#32
  let v530 : BitVec 32 := Scalar.addi v529 c1_i32_305
  let v531 : Index := Scalar.indexCast v530
  let c0_306 : Index := 0#32
  let c0_307 : Index := 0#32
  ![v531.toNat, 0, 0]

def k1_chk14 (v501 : BitVec 32) : Prop :=
  (∀ a, (k1_off111 v501) a + S1x1x128.size a ≤ S65536x1x128.size a) ∧
  (∀ (r : Fin 2), ∀ a, (k1_off112 v501 (BitVec.ofNat 32 (1 + 255 * r.val))) a + S1x1x128.size a ≤ S65536x1x128.size a) ∧
  (∀ a, (k1_off113 v501) a + S1x1x128.size a ≤ S65536x1x128.size a)
theorem k1_off111_inb : ∀ (v501 : BitVec 32) (k1_hw14 : k1_chk14 v501), ∀ a, (k1_off111 v501) a + S1x1x128.size a ≤ S65536x1x128.size a := fun v501 k1_hw14 => k1_hw14.1
theorem k1_off112_inb : ∀ (v501 : BitVec 32) (k1_hw14 : k1_chk14 v501), ∀ (r : Fin 2), ∀ a, (k1_off112 v501 (BitVec.ofNat 32 (1 + 255 * r.val))) a + S1x1x128.size a ≤ S65536x1x128.size a := fun v501 k1_hw14 r => k1_hw14.2.1 r
theorem k1_off113_inb : ∀ (v501 : BitVec 32) (k1_hw14 : k1_chk14 v501), ∀ a, (k1_off113 v501) a + S1x1x128.size a ≤ S65536x1x128.size a := fun v501 k1_hw14 => k1_hw14.2.2

def k1_off114 (k1_t1 : Fin k1_t1_loop.trips) : Fin 3 → Nat :=
  let c0_308 : Index := 0#32
  let c0_309 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c14_i32 : BitVec 32 := 14#32
  let v537 : BitVec 32 := Scalar.addi v4 c14_i32
  let v538 : Index := Scalar.indexCast v537
  ![0, 0, v538.toNat]
def k1_off115 (k1_t1 : Fin k1_t1_loop.trips) : Fin 3 → Nat :=
  let c0_310 : Index := 0#32
  let c0_311 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c14_i32 : BitVec 32 := 14#32
  let v537 : BitVec 32 := Scalar.addi v4 c14_i32
  let v540 : Index := Scalar.indexCast v537
  ![0, 0, v540.toNat]
def k1_off116 (k1_t1 : Fin k1_t1_loop.trips) : Fin 3 → Nat :=
  let c0_312 : Index := 0#32
  let c1_313 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c14_i32 : BitVec 32 := 14#32
  let v537 : BitVec 32 := Scalar.addi v4 c14_i32
  let v542 : Index := Scalar.indexCast v537
  ![0, 1, v542.toNat]
def k1_off117 (k1_t1 : Fin k1_t1_loop.trips) : Fin 3 → Nat :=
  let c0_314 : Index := 0#32
  let c2_315 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c14_i32 : BitVec 32 := 14#32
  let v537 : BitVec 32 := Scalar.addi v4 c14_i32
  let v544 : Index := Scalar.indexCast v537
  ![0, 2, v544.toNat]
def k1_off118 (k1_t1 : Fin k1_t1_loop.trips) : Fin 3 → Nat :=
  let c0_316 : Index := 0#32
  let c3_317 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c14_i32 : BitVec 32 := 14#32
  let v537 : BitVec 32 := Scalar.addi v4 c14_i32
  let v546 : Index := Scalar.indexCast v537
  ![0, 3, v546.toNat]
def k1_off119 (v539 : BitVec 32) : Fin 3 → Nat :=
  let v548 : Index := Scalar.indexCast v539
  let c0_318 : Index := 0#32
  let c0_319 : Index := 0#32
  ![v548.toNat, 0, 0]

def k1_off120 (v539 : BitVec 32) (c256_i32_320 : BitVec 32) : Fin 3 → Nat :=
  let v553 : BitVec 32 := Scalar.addi v539 c256_i32_320
  let v554 : Index := Scalar.indexCast v553
  let c0_321 : Index := 0#32
  let c0_322 : Index := 0#32
  ![v554.toNat, 0, 0]
def k1_off121 (v539 : BitVec 32) : Fin 3 → Nat :=
  let c256_i32_326 : BitVec 32 := 256#32
  let v567 : BitVec 32 := Scalar.addi v539 c256_i32_326
  let c1_i32_327 : BitVec 32 := 1#32
  let v568 : BitVec 32 := Scalar.addi v567 c1_i32_327
  let v569 : Index := Scalar.indexCast v568
  let c0_328 : Index := 0#32
  let c0_329 : Index := 0#32
  ![v569.toNat, 0, 0]

def k1_chk15 (v539 : BitVec 32) : Prop :=
  (∀ a, (k1_off119 v539) a + S1x1x128.size a ≤ S65536x1x128.size a) ∧
  (∀ (r : Fin 2), ∀ a, (k1_off120 v539 (BitVec.ofNat 32 (1 + 255 * r.val))) a + S1x1x128.size a ≤ S65536x1x128.size a) ∧
  (∀ a, (k1_off121 v539) a + S1x1x128.size a ≤ S65536x1x128.size a)
theorem k1_off119_inb : ∀ (v539 : BitVec 32) (k1_hw15 : k1_chk15 v539), ∀ a, (k1_off119 v539) a + S1x1x128.size a ≤ S65536x1x128.size a := fun v539 k1_hw15 => k1_hw15.1
theorem k1_off120_inb : ∀ (v539 : BitVec 32) (k1_hw15 : k1_chk15 v539), ∀ (r : Fin 2), ∀ a, (k1_off120 v539 (BitVec.ofNat 32 (1 + 255 * r.val))) a + S1x1x128.size a ≤ S65536x1x128.size a := fun v539 k1_hw15 r => k1_hw15.2.1 r
theorem k1_off121_inb : ∀ (v539 : BitVec 32) (k1_hw15 : k1_chk15 v539), ∀ a, (k1_off121 v539) a + S1x1x128.size a ≤ S65536x1x128.size a := fun v539 k1_hw15 => k1_hw15.2.2

def k1_off122 (k1_t1 : Fin k1_t1_loop.trips) : Fin 3 → Nat :=
  let c0_330 : Index := 0#32
  let c0_331 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c15_i32 : BitVec 32 := 15#32
  let v575 : BitVec 32 := Scalar.addi v4 c15_i32
  let v576 : Index := Scalar.indexCast v575
  ![0, 0, v576.toNat]
def k1_off123 (k1_t1 : Fin k1_t1_loop.trips) : Fin 3 → Nat :=
  let c0_332 : Index := 0#32
  let c0_333 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c15_i32 : BitVec 32 := 15#32
  let v575 : BitVec 32 := Scalar.addi v4 c15_i32
  let v578 : Index := Scalar.indexCast v575
  ![0, 0, v578.toNat]
def k1_off124 (k1_t1 : Fin k1_t1_loop.trips) : Fin 3 → Nat :=
  let c0_334 : Index := 0#32
  let c1_335 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c15_i32 : BitVec 32 := 15#32
  let v575 : BitVec 32 := Scalar.addi v4 c15_i32
  let v580 : Index := Scalar.indexCast v575
  ![0, 1, v580.toNat]
def k1_off125 (k1_t1 : Fin k1_t1_loop.trips) : Fin 3 → Nat :=
  let c0_336 : Index := 0#32
  let c2_337 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c15_i32 : BitVec 32 := 15#32
  let v575 : BitVec 32 := Scalar.addi v4 c15_i32
  let v582 : Index := Scalar.indexCast v575
  ![0, 2, v582.toNat]
def k1_off126 (k1_t1 : Fin k1_t1_loop.trips) : Fin 3 → Nat :=
  let c0_338 : Index := 0#32
  let c3_339 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c15_i32 : BitVec 32 := 15#32
  let v575 : BitVec 32 := Scalar.addi v4 c15_i32
  let v584 : Index := Scalar.indexCast v575
  ![0, 3, v584.toNat]
def k1_off127 (v577 : BitVec 32) : Fin 3 → Nat :=
  let v586 : Index := Scalar.indexCast v577
  let c0_340 : Index := 0#32
  let c0_341 : Index := 0#32
  ![v586.toNat, 0, 0]

def k1_off128 (v577 : BitVec 32) (c256_i32_342 : BitVec 32) : Fin 3 → Nat :=
  let v591 : BitVec 32 := Scalar.addi v577 c256_i32_342
  let v592 : Index := Scalar.indexCast v591
  let c0_343 : Index := 0#32
  let c0_344 : Index := 0#32
  ![v592.toNat, 0, 0]
def k1_off129 (v577 : BitVec 32) : Fin 3 → Nat :=
  let c256_i32_348 : BitVec 32 := 256#32
  let v605 : BitVec 32 := Scalar.addi v577 c256_i32_348
  let c1_i32_349 : BitVec 32 := 1#32
  let v606 : BitVec 32 := Scalar.addi v605 c1_i32_349
  let v607 : Index := Scalar.indexCast v606
  let c0_350 : Index := 0#32
  let c0_351 : Index := 0#32
  ![v607.toNat, 0, 0]

def k1_chk16 (v577 : BitVec 32) : Prop :=
  (∀ a, (k1_off127 v577) a + S1x1x128.size a ≤ S65536x1x128.size a) ∧
  (∀ (r : Fin 2), ∀ a, (k1_off128 v577 (BitVec.ofNat 32 (1 + 255 * r.val))) a + S1x1x128.size a ≤ S65536x1x128.size a) ∧
  (∀ a, (k1_off129 v577) a + S1x1x128.size a ≤ S65536x1x128.size a)
theorem k1_off127_inb : ∀ (v577 : BitVec 32) (k1_hw16 : k1_chk16 v577), ∀ a, (k1_off127 v577) a + S1x1x128.size a ≤ S65536x1x128.size a := fun v577 k1_hw16 => k1_hw16.1
theorem k1_off128_inb : ∀ (v577 : BitVec 32) (k1_hw16 : k1_chk16 v577), ∀ (r : Fin 2), ∀ a, (k1_off128 v577 (BitVec.ofNat 32 (1 + 255 * r.val))) a + S1x1x128.size a ≤ S65536x1x128.size a := fun v577 k1_hw16 r => k1_hw16.2.1 r
theorem k1_off129_inb : ∀ (v577 : BitVec 32) (k1_hw16 : k1_chk16 v577), ∀ a, (k1_off129 v577) a + S1x1x128.size a ≤ S65536x1x128.size a := fun v577 k1_hw16 => k1_hw16.2.2

def k1_off130 (k1_t1 : Fin k1_t1_loop.trips) : Fin 3 → Nat :=
  let c0_352 : Index := 0#32
  let c0_353 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c16_i32 : BitVec 32 := 16#32
  let v613 : BitVec 32 := Scalar.addi v4 c16_i32
  let v614 : Index := Scalar.indexCast v613
  ![0, 0, v614.toNat]
def k1_off131 (k1_t1 : Fin k1_t1_loop.trips) : Fin 3 → Nat :=
  let c0_354 : Index := 0#32
  let c0_355 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c16_i32 : BitVec 32 := 16#32
  let v613 : BitVec 32 := Scalar.addi v4 c16_i32
  let v616 : Index := Scalar.indexCast v613
  ![0, 0, v616.toNat]
def k1_off132 (k1_t1 : Fin k1_t1_loop.trips) : Fin 3 → Nat :=
  let c0_356 : Index := 0#32
  let c1_357 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c16_i32 : BitVec 32 := 16#32
  let v613 : BitVec 32 := Scalar.addi v4 c16_i32
  let v618 : Index := Scalar.indexCast v613
  ![0, 1, v618.toNat]
def k1_off133 (k1_t1 : Fin k1_t1_loop.trips) : Fin 3 → Nat :=
  let c0_358 : Index := 0#32
  let c2_359 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c16_i32 : BitVec 32 := 16#32
  let v613 : BitVec 32 := Scalar.addi v4 c16_i32
  let v620 : Index := Scalar.indexCast v613
  ![0, 2, v620.toNat]
def k1_off134 (k1_t1 : Fin k1_t1_loop.trips) : Fin 3 → Nat :=
  let c0_360 : Index := 0#32
  let c3_361 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c16_i32 : BitVec 32 := 16#32
  let v613 : BitVec 32 := Scalar.addi v4 c16_i32
  let v622 : Index := Scalar.indexCast v613
  ![0, 3, v622.toNat]
def k1_off135 (v615 : BitVec 32) : Fin 3 → Nat :=
  let v624 : Index := Scalar.indexCast v615
  let c0_362 : Index := 0#32
  let c0_363 : Index := 0#32
  ![v624.toNat, 0, 0]

def k1_off136 (v615 : BitVec 32) (c256_i32_364 : BitVec 32) : Fin 3 → Nat :=
  let v629 : BitVec 32 := Scalar.addi v615 c256_i32_364
  let v630 : Index := Scalar.indexCast v629
  let c0_365 : Index := 0#32
  let c0_366 : Index := 0#32
  ![v630.toNat, 0, 0]
def k1_off137 (v615 : BitVec 32) : Fin 3 → Nat :=
  let c256_i32_370 : BitVec 32 := 256#32
  let v643 : BitVec 32 := Scalar.addi v615 c256_i32_370
  let c1_i32_371 : BitVec 32 := 1#32
  let v644 : BitVec 32 := Scalar.addi v643 c1_i32_371
  let v645 : Index := Scalar.indexCast v644
  let c0_372 : Index := 0#32
  let c0_373 : Index := 0#32
  ![v645.toNat, 0, 0]

def k1_chk17 (v615 : BitVec 32) : Prop :=
  (∀ a, (k1_off135 v615) a + S1x1x128.size a ≤ S65536x1x128.size a) ∧
  (∀ (r : Fin 2), ∀ a, (k1_off136 v615 (BitVec.ofNat 32 (1 + 255 * r.val))) a + S1x1x128.size a ≤ S65536x1x128.size a) ∧
  (∀ a, (k1_off137 v615) a + S1x1x128.size a ≤ S65536x1x128.size a)
theorem k1_off135_inb : ∀ (v615 : BitVec 32) (k1_hw17 : k1_chk17 v615), ∀ a, (k1_off135 v615) a + S1x1x128.size a ≤ S65536x1x128.size a := fun v615 k1_hw17 => k1_hw17.1
theorem k1_off136_inb : ∀ (v615 : BitVec 32) (k1_hw17 : k1_chk17 v615), ∀ (r : Fin 2), ∀ a, (k1_off136 v615 (BitVec.ofNat 32 (1 + 255 * r.val))) a + S1x1x128.size a ≤ S65536x1x128.size a := fun v615 k1_hw17 r => k1_hw17.2.1 r
theorem k1_off137_inb : ∀ (v615 : BitVec 32) (k1_hw17 : k1_chk17 v615), ∀ a, (k1_off137 v615) a + S1x1x128.size a ≤ S65536x1x128.size a := fun v615 k1_hw17 => k1_hw17.2.2

def k1_off138 (k1_t1 : Fin k1_t1_loop.trips) : Fin 3 → Nat :=
  let c0_374 : Index := 0#32
  let c0_375 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c17_i32 : BitVec 32 := 17#32
  let v651 : BitVec 32 := Scalar.addi v4 c17_i32
  let v652 : Index := Scalar.indexCast v651
  ![0, 0, v652.toNat]
def k1_off139 (k1_t1 : Fin k1_t1_loop.trips) : Fin 3 → Nat :=
  let c0_376 : Index := 0#32
  let c0_377 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c17_i32 : BitVec 32 := 17#32
  let v651 : BitVec 32 := Scalar.addi v4 c17_i32
  let v654 : Index := Scalar.indexCast v651
  ![0, 0, v654.toNat]
def k1_off140 (k1_t1 : Fin k1_t1_loop.trips) : Fin 3 → Nat :=
  let c0_378 : Index := 0#32
  let c1_379 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c17_i32 : BitVec 32 := 17#32
  let v651 : BitVec 32 := Scalar.addi v4 c17_i32
  let v656 : Index := Scalar.indexCast v651
  ![0, 1, v656.toNat]
def k1_off141 (k1_t1 : Fin k1_t1_loop.trips) : Fin 3 → Nat :=
  let c0_380 : Index := 0#32
  let c2_381 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c17_i32 : BitVec 32 := 17#32
  let v651 : BitVec 32 := Scalar.addi v4 c17_i32
  let v658 : Index := Scalar.indexCast v651
  ![0, 2, v658.toNat]
def k1_off142 (k1_t1 : Fin k1_t1_loop.trips) : Fin 3 → Nat :=
  let c0_382 : Index := 0#32
  let c3_383 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c17_i32 : BitVec 32 := 17#32
  let v651 : BitVec 32 := Scalar.addi v4 c17_i32
  let v660 : Index := Scalar.indexCast v651
  ![0, 3, v660.toNat]
def k1_off143 (v653 : BitVec 32) : Fin 3 → Nat :=
  let v662 : Index := Scalar.indexCast v653
  let c0_384 : Index := 0#32
  let c0_385 : Index := 0#32
  ![v662.toNat, 0, 0]

def k1_off144 (v653 : BitVec 32) (c256_i32_386 : BitVec 32) : Fin 3 → Nat :=
  let v667 : BitVec 32 := Scalar.addi v653 c256_i32_386
  let v668 : Index := Scalar.indexCast v667
  let c0_387 : Index := 0#32
  let c0_388 : Index := 0#32
  ![v668.toNat, 0, 0]
def k1_off145 (v653 : BitVec 32) : Fin 3 → Nat :=
  let c256_i32_392 : BitVec 32 := 256#32
  let v681 : BitVec 32 := Scalar.addi v653 c256_i32_392
  let c1_i32_393 : BitVec 32 := 1#32
  let v682 : BitVec 32 := Scalar.addi v681 c1_i32_393
  let v683 : Index := Scalar.indexCast v682
  let c0_394 : Index := 0#32
  let c0_395 : Index := 0#32
  ![v683.toNat, 0, 0]

def k1_chk18 (v653 : BitVec 32) : Prop :=
  (∀ a, (k1_off143 v653) a + S1x1x128.size a ≤ S65536x1x128.size a) ∧
  (∀ (r : Fin 2), ∀ a, (k1_off144 v653 (BitVec.ofNat 32 (1 + 255 * r.val))) a + S1x1x128.size a ≤ S65536x1x128.size a) ∧
  (∀ a, (k1_off145 v653) a + S1x1x128.size a ≤ S65536x1x128.size a)
theorem k1_off143_inb : ∀ (v653 : BitVec 32) (k1_hw18 : k1_chk18 v653), ∀ a, (k1_off143 v653) a + S1x1x128.size a ≤ S65536x1x128.size a := fun v653 k1_hw18 => k1_hw18.1
theorem k1_off144_inb : ∀ (v653 : BitVec 32) (k1_hw18 : k1_chk18 v653), ∀ (r : Fin 2), ∀ a, (k1_off144 v653 (BitVec.ofNat 32 (1 + 255 * r.val))) a + S1x1x128.size a ≤ S65536x1x128.size a := fun v653 k1_hw18 r => k1_hw18.2.1 r
theorem k1_off145_inb : ∀ (v653 : BitVec 32) (k1_hw18 : k1_chk18 v653), ∀ a, (k1_off145 v653) a + S1x1x128.size a ≤ S65536x1x128.size a := fun v653 k1_hw18 => k1_hw18.2.2

def k1_off146 (k1_t1 : Fin k1_t1_loop.trips) : Fin 3 → Nat :=
  let c0_396 : Index := 0#32
  let c0_397 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c18_i32 : BitVec 32 := 18#32
  let v689 : BitVec 32 := Scalar.addi v4 c18_i32
  let v690 : Index := Scalar.indexCast v689
  ![0, 0, v690.toNat]
def k1_off147 (k1_t1 : Fin k1_t1_loop.trips) : Fin 3 → Nat :=
  let c0_398 : Index := 0#32
  let c0_399 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c18_i32 : BitVec 32 := 18#32
  let v689 : BitVec 32 := Scalar.addi v4 c18_i32
  let v692 : Index := Scalar.indexCast v689
  ![0, 0, v692.toNat]
def k1_off148 (k1_t1 : Fin k1_t1_loop.trips) : Fin 3 → Nat :=
  let c0_400 : Index := 0#32
  let c1_401 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c18_i32 : BitVec 32 := 18#32
  let v689 : BitVec 32 := Scalar.addi v4 c18_i32
  let v694 : Index := Scalar.indexCast v689
  ![0, 1, v694.toNat]
def k1_off149 (k1_t1 : Fin k1_t1_loop.trips) : Fin 3 → Nat :=
  let c0_402 : Index := 0#32
  let c2_403 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c18_i32 : BitVec 32 := 18#32
  let v689 : BitVec 32 := Scalar.addi v4 c18_i32
  let v696 : Index := Scalar.indexCast v689
  ![0, 2, v696.toNat]
def k1_off150 (k1_t1 : Fin k1_t1_loop.trips) : Fin 3 → Nat :=
  let c0_404 : Index := 0#32
  let c3_405 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c18_i32 : BitVec 32 := 18#32
  let v689 : BitVec 32 := Scalar.addi v4 c18_i32
  let v698 : Index := Scalar.indexCast v689
  ![0, 3, v698.toNat]
def k1_off151 (v691 : BitVec 32) : Fin 3 → Nat :=
  let v700 : Index := Scalar.indexCast v691
  let c0_406 : Index := 0#32
  let c0_407 : Index := 0#32
  ![v700.toNat, 0, 0]

def k1_off152 (v691 : BitVec 32) (c256_i32_408 : BitVec 32) : Fin 3 → Nat :=
  let v705 : BitVec 32 := Scalar.addi v691 c256_i32_408
  let v706 : Index := Scalar.indexCast v705
  let c0_409 : Index := 0#32
  let c0_410 : Index := 0#32
  ![v706.toNat, 0, 0]
def k1_off153 (v691 : BitVec 32) : Fin 3 → Nat :=
  let c256_i32_414 : BitVec 32 := 256#32
  let v719 : BitVec 32 := Scalar.addi v691 c256_i32_414
  let c1_i32_415 : BitVec 32 := 1#32
  let v720 : BitVec 32 := Scalar.addi v719 c1_i32_415
  let v721 : Index := Scalar.indexCast v720
  let c0_416 : Index := 0#32
  let c0_417 : Index := 0#32
  ![v721.toNat, 0, 0]

def k1_chk19 (v691 : BitVec 32) : Prop :=
  (∀ a, (k1_off151 v691) a + S1x1x128.size a ≤ S65536x1x128.size a) ∧
  (∀ (r : Fin 2), ∀ a, (k1_off152 v691 (BitVec.ofNat 32 (1 + 255 * r.val))) a + S1x1x128.size a ≤ S65536x1x128.size a) ∧
  (∀ a, (k1_off153 v691) a + S1x1x128.size a ≤ S65536x1x128.size a)
theorem k1_off151_inb : ∀ (v691 : BitVec 32) (k1_hw19 : k1_chk19 v691), ∀ a, (k1_off151 v691) a + S1x1x128.size a ≤ S65536x1x128.size a := fun v691 k1_hw19 => k1_hw19.1
theorem k1_off152_inb : ∀ (v691 : BitVec 32) (k1_hw19 : k1_chk19 v691), ∀ (r : Fin 2), ∀ a, (k1_off152 v691 (BitVec.ofNat 32 (1 + 255 * r.val))) a + S1x1x128.size a ≤ S65536x1x128.size a := fun v691 k1_hw19 r => k1_hw19.2.1 r
theorem k1_off153_inb : ∀ (v691 : BitVec 32) (k1_hw19 : k1_chk19 v691), ∀ a, (k1_off153 v691) a + S1x1x128.size a ≤ S65536x1x128.size a := fun v691 k1_hw19 => k1_hw19.2.2

def k1_off154 (k1_t1 : Fin k1_t1_loop.trips) : Fin 3 → Nat :=
  let c0_418 : Index := 0#32
  let c0_419 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c19_i32 : BitVec 32 := 19#32
  let v727 : BitVec 32 := Scalar.addi v4 c19_i32
  let v728 : Index := Scalar.indexCast v727
  ![0, 0, v728.toNat]
def k1_off155 (k1_t1 : Fin k1_t1_loop.trips) : Fin 3 → Nat :=
  let c0_420 : Index := 0#32
  let c0_421 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c19_i32 : BitVec 32 := 19#32
  let v727 : BitVec 32 := Scalar.addi v4 c19_i32
  let v730 : Index := Scalar.indexCast v727
  ![0, 0, v730.toNat]
def k1_off156 (k1_t1 : Fin k1_t1_loop.trips) : Fin 3 → Nat :=
  let c0_422 : Index := 0#32
  let c1_423 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c19_i32 : BitVec 32 := 19#32
  let v727 : BitVec 32 := Scalar.addi v4 c19_i32
  let v732 : Index := Scalar.indexCast v727
  ![0, 1, v732.toNat]
def k1_off157 (k1_t1 : Fin k1_t1_loop.trips) : Fin 3 → Nat :=
  let c0_424 : Index := 0#32
  let c2_425 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c19_i32 : BitVec 32 := 19#32
  let v727 : BitVec 32 := Scalar.addi v4 c19_i32
  let v734 : Index := Scalar.indexCast v727
  ![0, 2, v734.toNat]
def k1_off158 (k1_t1 : Fin k1_t1_loop.trips) : Fin 3 → Nat :=
  let c0_426 : Index := 0#32
  let c3_427 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c19_i32 : BitVec 32 := 19#32
  let v727 : BitVec 32 := Scalar.addi v4 c19_i32
  let v736 : Index := Scalar.indexCast v727
  ![0, 3, v736.toNat]
def k1_off159 (v729 : BitVec 32) : Fin 3 → Nat :=
  let v738 : Index := Scalar.indexCast v729
  let c0_428 : Index := 0#32
  let c0_429 : Index := 0#32
  ![v738.toNat, 0, 0]

def k1_off160 (v729 : BitVec 32) (c256_i32_430 : BitVec 32) : Fin 3 → Nat :=
  let v743 : BitVec 32 := Scalar.addi v729 c256_i32_430
  let v744 : Index := Scalar.indexCast v743
  let c0_431 : Index := 0#32
  let c0_432 : Index := 0#32
  ![v744.toNat, 0, 0]
def k1_off161 (v729 : BitVec 32) : Fin 3 → Nat :=
  let c256_i32_436 : BitVec 32 := 256#32
  let v757 : BitVec 32 := Scalar.addi v729 c256_i32_436
  let c1_i32_437 : BitVec 32 := 1#32
  let v758 : BitVec 32 := Scalar.addi v757 c1_i32_437
  let v759 : Index := Scalar.indexCast v758
  let c0_438 : Index := 0#32
  let c0_439 : Index := 0#32
  ![v759.toNat, 0, 0]

def k1_chk20 (v729 : BitVec 32) : Prop :=
  (∀ a, (k1_off159 v729) a + S1x1x128.size a ≤ S65536x1x128.size a) ∧
  (∀ (r : Fin 2), ∀ a, (k1_off160 v729 (BitVec.ofNat 32 (1 + 255 * r.val))) a + S1x1x128.size a ≤ S65536x1x128.size a) ∧
  (∀ a, (k1_off161 v729) a + S1x1x128.size a ≤ S65536x1x128.size a)
theorem k1_off159_inb : ∀ (v729 : BitVec 32) (k1_hw20 : k1_chk20 v729), ∀ a, (k1_off159 v729) a + S1x1x128.size a ≤ S65536x1x128.size a := fun v729 k1_hw20 => k1_hw20.1
theorem k1_off160_inb : ∀ (v729 : BitVec 32) (k1_hw20 : k1_chk20 v729), ∀ (r : Fin 2), ∀ a, (k1_off160 v729 (BitVec.ofNat 32 (1 + 255 * r.val))) a + S1x1x128.size a ≤ S65536x1x128.size a := fun v729 k1_hw20 r => k1_hw20.2.1 r
theorem k1_off161_inb : ∀ (v729 : BitVec 32) (k1_hw20 : k1_chk20 v729), ∀ a, (k1_off161 v729) a + S1x1x128.size a ≤ S65536x1x128.size a := fun v729 k1_hw20 => k1_hw20.2.2

def k1_off162 (k1_t1 : Fin k1_t1_loop.trips) : Fin 3 → Nat :=
  let c0_440 : Index := 0#32
  let c0_441 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c20_i32 : BitVec 32 := 20#32
  let v765 : BitVec 32 := Scalar.addi v4 c20_i32
  let v766 : Index := Scalar.indexCast v765
  ![0, 0, v766.toNat]
def k1_off163 (k1_t1 : Fin k1_t1_loop.trips) : Fin 3 → Nat :=
  let c0_442 : Index := 0#32
  let c0_443 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c20_i32 : BitVec 32 := 20#32
  let v765 : BitVec 32 := Scalar.addi v4 c20_i32
  let v768 : Index := Scalar.indexCast v765
  ![0, 0, v768.toNat]
def k1_off164 (k1_t1 : Fin k1_t1_loop.trips) : Fin 3 → Nat :=
  let c0_444 : Index := 0#32
  let c1_445 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c20_i32 : BitVec 32 := 20#32
  let v765 : BitVec 32 := Scalar.addi v4 c20_i32
  let v770 : Index := Scalar.indexCast v765
  ![0, 1, v770.toNat]
def k1_off165 (k1_t1 : Fin k1_t1_loop.trips) : Fin 3 → Nat :=
  let c0_446 : Index := 0#32
  let c2_447 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c20_i32 : BitVec 32 := 20#32
  let v765 : BitVec 32 := Scalar.addi v4 c20_i32
  let v772 : Index := Scalar.indexCast v765
  ![0, 2, v772.toNat]
def k1_off166 (k1_t1 : Fin k1_t1_loop.trips) : Fin 3 → Nat :=
  let c0_448 : Index := 0#32
  let c3_449 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c20_i32 : BitVec 32 := 20#32
  let v765 : BitVec 32 := Scalar.addi v4 c20_i32
  let v774 : Index := Scalar.indexCast v765
  ![0, 3, v774.toNat]
def k1_off167 (v767 : BitVec 32) : Fin 3 → Nat :=
  let v776 : Index := Scalar.indexCast v767
  let c0_450 : Index := 0#32
  let c0_451 : Index := 0#32
  ![v776.toNat, 0, 0]

def k1_off168 (v767 : BitVec 32) (c256_i32_452 : BitVec 32) : Fin 3 → Nat :=
  let v781 : BitVec 32 := Scalar.addi v767 c256_i32_452
  let v782 : Index := Scalar.indexCast v781
  let c0_453 : Index := 0#32
  let c0_454 : Index := 0#32
  ![v782.toNat, 0, 0]
def k1_off169 (v767 : BitVec 32) : Fin 3 → Nat :=
  let c256_i32_458 : BitVec 32 := 256#32
  let v795 : BitVec 32 := Scalar.addi v767 c256_i32_458
  let c1_i32_459 : BitVec 32 := 1#32
  let v796 : BitVec 32 := Scalar.addi v795 c1_i32_459
  let v797 : Index := Scalar.indexCast v796
  let c0_460 : Index := 0#32
  let c0_461 : Index := 0#32
  ![v797.toNat, 0, 0]

def k1_chk21 (v767 : BitVec 32) : Prop :=
  (∀ a, (k1_off167 v767) a + S1x1x128.size a ≤ S65536x1x128.size a) ∧
  (∀ (r : Fin 2), ∀ a, (k1_off168 v767 (BitVec.ofNat 32 (1 + 255 * r.val))) a + S1x1x128.size a ≤ S65536x1x128.size a) ∧
  (∀ a, (k1_off169 v767) a + S1x1x128.size a ≤ S65536x1x128.size a)
theorem k1_off167_inb : ∀ (v767 : BitVec 32) (k1_hw21 : k1_chk21 v767), ∀ a, (k1_off167 v767) a + S1x1x128.size a ≤ S65536x1x128.size a := fun v767 k1_hw21 => k1_hw21.1
theorem k1_off168_inb : ∀ (v767 : BitVec 32) (k1_hw21 : k1_chk21 v767), ∀ (r : Fin 2), ∀ a, (k1_off168 v767 (BitVec.ofNat 32 (1 + 255 * r.val))) a + S1x1x128.size a ≤ S65536x1x128.size a := fun v767 k1_hw21 r => k1_hw21.2.1 r
theorem k1_off169_inb : ∀ (v767 : BitVec 32) (k1_hw21 : k1_chk21 v767), ∀ a, (k1_off169 v767) a + S1x1x128.size a ≤ S65536x1x128.size a := fun v767 k1_hw21 => k1_hw21.2.2

def k1_off170 (k1_t1 : Fin k1_t1_loop.trips) : Fin 3 → Nat :=
  let c0_462 : Index := 0#32
  let c0_463 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c21_i32 : BitVec 32 := 21#32
  let v803 : BitVec 32 := Scalar.addi v4 c21_i32
  let v804 : Index := Scalar.indexCast v803
  ![0, 0, v804.toNat]
def k1_off171 (k1_t1 : Fin k1_t1_loop.trips) : Fin 3 → Nat :=
  let c0_464 : Index := 0#32
  let c0_465 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c21_i32 : BitVec 32 := 21#32
  let v803 : BitVec 32 := Scalar.addi v4 c21_i32
  let v806 : Index := Scalar.indexCast v803
  ![0, 0, v806.toNat]
def k1_off172 (k1_t1 : Fin k1_t1_loop.trips) : Fin 3 → Nat :=
  let c0_466 : Index := 0#32
  let c1_467 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c21_i32 : BitVec 32 := 21#32
  let v803 : BitVec 32 := Scalar.addi v4 c21_i32
  let v808 : Index := Scalar.indexCast v803
  ![0, 1, v808.toNat]
def k1_off173 (k1_t1 : Fin k1_t1_loop.trips) : Fin 3 → Nat :=
  let c0_468 : Index := 0#32
  let c2_469 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c21_i32 : BitVec 32 := 21#32
  let v803 : BitVec 32 := Scalar.addi v4 c21_i32
  let v810 : Index := Scalar.indexCast v803
  ![0, 2, v810.toNat]
def k1_off174 (k1_t1 : Fin k1_t1_loop.trips) : Fin 3 → Nat :=
  let c0_470 : Index := 0#32
  let c3_471 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c21_i32 : BitVec 32 := 21#32
  let v803 : BitVec 32 := Scalar.addi v4 c21_i32
  let v812 : Index := Scalar.indexCast v803
  ![0, 3, v812.toNat]
def k1_off175 (v805 : BitVec 32) : Fin 3 → Nat :=
  let v814 : Index := Scalar.indexCast v805
  let c0_472 : Index := 0#32
  let c0_473 : Index := 0#32
  ![v814.toNat, 0, 0]

def k1_off176 (v805 : BitVec 32) (c256_i32_474 : BitVec 32) : Fin 3 → Nat :=
  let v819 : BitVec 32 := Scalar.addi v805 c256_i32_474
  let v820 : Index := Scalar.indexCast v819
  let c0_475 : Index := 0#32
  let c0_476 : Index := 0#32
  ![v820.toNat, 0, 0]
def k1_off177 (v805 : BitVec 32) : Fin 3 → Nat :=
  let c256_i32_480 : BitVec 32 := 256#32
  let v833 : BitVec 32 := Scalar.addi v805 c256_i32_480
  let c1_i32_481 : BitVec 32 := 1#32
  let v834 : BitVec 32 := Scalar.addi v833 c1_i32_481
  let v835 : Index := Scalar.indexCast v834
  let c0_482 : Index := 0#32
  let c0_483 : Index := 0#32
  ![v835.toNat, 0, 0]

def k1_chk22 (v805 : BitVec 32) : Prop :=
  (∀ a, (k1_off175 v805) a + S1x1x128.size a ≤ S65536x1x128.size a) ∧
  (∀ (r : Fin 2), ∀ a, (k1_off176 v805 (BitVec.ofNat 32 (1 + 255 * r.val))) a + S1x1x128.size a ≤ S65536x1x128.size a) ∧
  (∀ a, (k1_off177 v805) a + S1x1x128.size a ≤ S65536x1x128.size a)
theorem k1_off175_inb : ∀ (v805 : BitVec 32) (k1_hw22 : k1_chk22 v805), ∀ a, (k1_off175 v805) a + S1x1x128.size a ≤ S65536x1x128.size a := fun v805 k1_hw22 => k1_hw22.1
theorem k1_off176_inb : ∀ (v805 : BitVec 32) (k1_hw22 : k1_chk22 v805), ∀ (r : Fin 2), ∀ a, (k1_off176 v805 (BitVec.ofNat 32 (1 + 255 * r.val))) a + S1x1x128.size a ≤ S65536x1x128.size a := fun v805 k1_hw22 r => k1_hw22.2.1 r
theorem k1_off177_inb : ∀ (v805 : BitVec 32) (k1_hw22 : k1_chk22 v805), ∀ a, (k1_off177 v805) a + S1x1x128.size a ≤ S65536x1x128.size a := fun v805 k1_hw22 => k1_hw22.2.2

def k1_off178 (k1_t1 : Fin k1_t1_loop.trips) : Fin 3 → Nat :=
  let c0_484 : Index := 0#32
  let c0_485 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c22_i32 : BitVec 32 := 22#32
  let v841 : BitVec 32 := Scalar.addi v4 c22_i32
  let v842 : Index := Scalar.indexCast v841
  ![0, 0, v842.toNat]
def k1_off179 (k1_t1 : Fin k1_t1_loop.trips) : Fin 3 → Nat :=
  let c0_486 : Index := 0#32
  let c0_487 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c22_i32 : BitVec 32 := 22#32
  let v841 : BitVec 32 := Scalar.addi v4 c22_i32
  let v844 : Index := Scalar.indexCast v841
  ![0, 0, v844.toNat]
def k1_off180 (k1_t1 : Fin k1_t1_loop.trips) : Fin 3 → Nat :=
  let c0_488 : Index := 0#32
  let c1_489 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c22_i32 : BitVec 32 := 22#32
  let v841 : BitVec 32 := Scalar.addi v4 c22_i32
  let v846 : Index := Scalar.indexCast v841
  ![0, 1, v846.toNat]
def k1_off181 (k1_t1 : Fin k1_t1_loop.trips) : Fin 3 → Nat :=
  let c0_490 : Index := 0#32
  let c2_491 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c22_i32 : BitVec 32 := 22#32
  let v841 : BitVec 32 := Scalar.addi v4 c22_i32
  let v848 : Index := Scalar.indexCast v841
  ![0, 2, v848.toNat]
def k1_off182 (k1_t1 : Fin k1_t1_loop.trips) : Fin 3 → Nat :=
  let c0_492 : Index := 0#32
  let c3_493 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c22_i32 : BitVec 32 := 22#32
  let v841 : BitVec 32 := Scalar.addi v4 c22_i32
  let v850 : Index := Scalar.indexCast v841
  ![0, 3, v850.toNat]
def k1_off183 (v843 : BitVec 32) : Fin 3 → Nat :=
  let v852 : Index := Scalar.indexCast v843
  let c0_494 : Index := 0#32
  let c0_495 : Index := 0#32
  ![v852.toNat, 0, 0]

def k1_off184 (v843 : BitVec 32) (c256_i32_496 : BitVec 32) : Fin 3 → Nat :=
  let v857 : BitVec 32 := Scalar.addi v843 c256_i32_496
  let v858 : Index := Scalar.indexCast v857
  let c0_497 : Index := 0#32
  let c0_498 : Index := 0#32
  ![v858.toNat, 0, 0]
def k1_off185 (v843 : BitVec 32) : Fin 3 → Nat :=
  let c256_i32_502 : BitVec 32 := 256#32
  let v871 : BitVec 32 := Scalar.addi v843 c256_i32_502
  let c1_i32_503 : BitVec 32 := 1#32
  let v872 : BitVec 32 := Scalar.addi v871 c1_i32_503
  let v873 : Index := Scalar.indexCast v872
  let c0_504 : Index := 0#32
  let c0_505 : Index := 0#32
  ![v873.toNat, 0, 0]

def k1_chk23 (v843 : BitVec 32) : Prop :=
  (∀ a, (k1_off183 v843) a + S1x1x128.size a ≤ S65536x1x128.size a) ∧
  (∀ (r : Fin 2), ∀ a, (k1_off184 v843 (BitVec.ofNat 32 (1 + 255 * r.val))) a + S1x1x128.size a ≤ S65536x1x128.size a) ∧
  (∀ a, (k1_off185 v843) a + S1x1x128.size a ≤ S65536x1x128.size a)
theorem k1_off183_inb : ∀ (v843 : BitVec 32) (k1_hw23 : k1_chk23 v843), ∀ a, (k1_off183 v843) a + S1x1x128.size a ≤ S65536x1x128.size a := fun v843 k1_hw23 => k1_hw23.1
theorem k1_off184_inb : ∀ (v843 : BitVec 32) (k1_hw23 : k1_chk23 v843), ∀ (r : Fin 2), ∀ a, (k1_off184 v843 (BitVec.ofNat 32 (1 + 255 * r.val))) a + S1x1x128.size a ≤ S65536x1x128.size a := fun v843 k1_hw23 r => k1_hw23.2.1 r
theorem k1_off185_inb : ∀ (v843 : BitVec 32) (k1_hw23 : k1_chk23 v843), ∀ a, (k1_off185 v843) a + S1x1x128.size a ≤ S65536x1x128.size a := fun v843 k1_hw23 => k1_hw23.2.2

def k1_off186 (k1_t1 : Fin k1_t1_loop.trips) : Fin 3 → Nat :=
  let c0_506 : Index := 0#32
  let c0_507 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c23_i32 : BitVec 32 := 23#32
  let v879 : BitVec 32 := Scalar.addi v4 c23_i32
  let v880 : Index := Scalar.indexCast v879
  ![0, 0, v880.toNat]
def k1_off187 (k1_t1 : Fin k1_t1_loop.trips) : Fin 3 → Nat :=
  let c0_508 : Index := 0#32
  let c0_509 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c23_i32 : BitVec 32 := 23#32
  let v879 : BitVec 32 := Scalar.addi v4 c23_i32
  let v882 : Index := Scalar.indexCast v879
  ![0, 0, v882.toNat]
def k1_off188 (k1_t1 : Fin k1_t1_loop.trips) : Fin 3 → Nat :=
  let c0_510 : Index := 0#32
  let c1_511 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c23_i32 : BitVec 32 := 23#32
  let v879 : BitVec 32 := Scalar.addi v4 c23_i32
  let v884 : Index := Scalar.indexCast v879
  ![0, 1, v884.toNat]
def k1_off189 (k1_t1 : Fin k1_t1_loop.trips) : Fin 3 → Nat :=
  let c0_512 : Index := 0#32
  let c2_513 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c23_i32 : BitVec 32 := 23#32
  let v879 : BitVec 32 := Scalar.addi v4 c23_i32
  let v886 : Index := Scalar.indexCast v879
  ![0, 2, v886.toNat]
def k1_off190 (k1_t1 : Fin k1_t1_loop.trips) : Fin 3 → Nat :=
  let c0_514 : Index := 0#32
  let c3_515 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c23_i32 : BitVec 32 := 23#32
  let v879 : BitVec 32 := Scalar.addi v4 c23_i32
  let v888 : Index := Scalar.indexCast v879
  ![0, 3, v888.toNat]
def k1_off191 (v881 : BitVec 32) : Fin 3 → Nat :=
  let v890 : Index := Scalar.indexCast v881
  let c0_516 : Index := 0#32
  let c0_517 : Index := 0#32
  ![v890.toNat, 0, 0]

def k1_off192 (v881 : BitVec 32) (c256_i32_518 : BitVec 32) : Fin 3 → Nat :=
  let v895 : BitVec 32 := Scalar.addi v881 c256_i32_518
  let v896 : Index := Scalar.indexCast v895
  let c0_519 : Index := 0#32
  let c0_520 : Index := 0#32
  ![v896.toNat, 0, 0]
def k1_off193 (v881 : BitVec 32) : Fin 3 → Nat :=
  let c256_i32_524 : BitVec 32 := 256#32
  let v909 : BitVec 32 := Scalar.addi v881 c256_i32_524
  let c1_i32_525 : BitVec 32 := 1#32
  let v910 : BitVec 32 := Scalar.addi v909 c1_i32_525
  let v911 : Index := Scalar.indexCast v910
  let c0_526 : Index := 0#32
  let c0_527 : Index := 0#32
  ![v911.toNat, 0, 0]

def k1_chk24 (v881 : BitVec 32) : Prop :=
  (∀ a, (k1_off191 v881) a + S1x1x128.size a ≤ S65536x1x128.size a) ∧
  (∀ (r : Fin 2), ∀ a, (k1_off192 v881 (BitVec.ofNat 32 (1 + 255 * r.val))) a + S1x1x128.size a ≤ S65536x1x128.size a) ∧
  (∀ a, (k1_off193 v881) a + S1x1x128.size a ≤ S65536x1x128.size a)
theorem k1_off191_inb : ∀ (v881 : BitVec 32) (k1_hw24 : k1_chk24 v881), ∀ a, (k1_off191 v881) a + S1x1x128.size a ≤ S65536x1x128.size a := fun v881 k1_hw24 => k1_hw24.1
theorem k1_off192_inb : ∀ (v881 : BitVec 32) (k1_hw24 : k1_chk24 v881), ∀ (r : Fin 2), ∀ a, (k1_off192 v881 (BitVec.ofNat 32 (1 + 255 * r.val))) a + S1x1x128.size a ≤ S65536x1x128.size a := fun v881 k1_hw24 r => k1_hw24.2.1 r
theorem k1_off193_inb : ∀ (v881 : BitVec 32) (k1_hw24 : k1_chk24 v881), ∀ a, (k1_off193 v881) a + S1x1x128.size a ≤ S65536x1x128.size a := fun v881 k1_hw24 => k1_hw24.2.2

def k1_off194 (k1_t1 : Fin k1_t1_loop.trips) : Fin 3 → Nat :=
  let c0_528 : Index := 0#32
  let c0_529 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c24_i32 : BitVec 32 := 24#32
  let v917 : BitVec 32 := Scalar.addi v4 c24_i32
  let v918 : Index := Scalar.indexCast v917
  ![0, 0, v918.toNat]
def k1_off195 (k1_t1 : Fin k1_t1_loop.trips) : Fin 3 → Nat :=
  let c0_530 : Index := 0#32
  let c0_531 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c24_i32 : BitVec 32 := 24#32
  let v917 : BitVec 32 := Scalar.addi v4 c24_i32
  let v920 : Index := Scalar.indexCast v917
  ![0, 0, v920.toNat]
def k1_off196 (k1_t1 : Fin k1_t1_loop.trips) : Fin 3 → Nat :=
  let c0_532 : Index := 0#32
  let c1_533 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c24_i32 : BitVec 32 := 24#32
  let v917 : BitVec 32 := Scalar.addi v4 c24_i32
  let v922 : Index := Scalar.indexCast v917
  ![0, 1, v922.toNat]
def k1_off197 (k1_t1 : Fin k1_t1_loop.trips) : Fin 3 → Nat :=
  let c0_534 : Index := 0#32
  let c2_535 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c24_i32 : BitVec 32 := 24#32
  let v917 : BitVec 32 := Scalar.addi v4 c24_i32
  let v924 : Index := Scalar.indexCast v917
  ![0, 2, v924.toNat]
def k1_off198 (k1_t1 : Fin k1_t1_loop.trips) : Fin 3 → Nat :=
  let c0_536 : Index := 0#32
  let c3_537 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c24_i32 : BitVec 32 := 24#32
  let v917 : BitVec 32 := Scalar.addi v4 c24_i32
  let v926 : Index := Scalar.indexCast v917
  ![0, 3, v926.toNat]
def k1_off199 (v919 : BitVec 32) : Fin 3 → Nat :=
  let v928 : Index := Scalar.indexCast v919
  let c0_538 : Index := 0#32
  let c0_539 : Index := 0#32
  ![v928.toNat, 0, 0]

def k1_off200 (v919 : BitVec 32) (c256_i32_540 : BitVec 32) : Fin 3 → Nat :=
  let v933 : BitVec 32 := Scalar.addi v919 c256_i32_540
  let v934 : Index := Scalar.indexCast v933
  let c0_541 : Index := 0#32
  let c0_542 : Index := 0#32
  ![v934.toNat, 0, 0]
def k1_off201 (v919 : BitVec 32) : Fin 3 → Nat :=
  let c256_i32_546 : BitVec 32 := 256#32
  let v947 : BitVec 32 := Scalar.addi v919 c256_i32_546
  let c1_i32_547 : BitVec 32 := 1#32
  let v948 : BitVec 32 := Scalar.addi v947 c1_i32_547
  let v949 : Index := Scalar.indexCast v948
  let c0_548 : Index := 0#32
  let c0_549 : Index := 0#32
  ![v949.toNat, 0, 0]

def k1_chk25 (v919 : BitVec 32) : Prop :=
  (∀ a, (k1_off199 v919) a + S1x1x128.size a ≤ S65536x1x128.size a) ∧
  (∀ (r : Fin 2), ∀ a, (k1_off200 v919 (BitVec.ofNat 32 (1 + 255 * r.val))) a + S1x1x128.size a ≤ S65536x1x128.size a) ∧
  (∀ a, (k1_off201 v919) a + S1x1x128.size a ≤ S65536x1x128.size a)
theorem k1_off199_inb : ∀ (v919 : BitVec 32) (k1_hw25 : k1_chk25 v919), ∀ a, (k1_off199 v919) a + S1x1x128.size a ≤ S65536x1x128.size a := fun v919 k1_hw25 => k1_hw25.1
theorem k1_off200_inb : ∀ (v919 : BitVec 32) (k1_hw25 : k1_chk25 v919), ∀ (r : Fin 2), ∀ a, (k1_off200 v919 (BitVec.ofNat 32 (1 + 255 * r.val))) a + S1x1x128.size a ≤ S65536x1x128.size a := fun v919 k1_hw25 r => k1_hw25.2.1 r
theorem k1_off201_inb : ∀ (v919 : BitVec 32) (k1_hw25 : k1_chk25 v919), ∀ a, (k1_off201 v919) a + S1x1x128.size a ≤ S65536x1x128.size a := fun v919 k1_hw25 => k1_hw25.2.2

def k1_off202 (k1_t1 : Fin k1_t1_loop.trips) : Fin 3 → Nat :=
  let c0_550 : Index := 0#32
  let c0_551 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c25_i32 : BitVec 32 := 25#32
  let v955 : BitVec 32 := Scalar.addi v4 c25_i32
  let v956 : Index := Scalar.indexCast v955
  ![0, 0, v956.toNat]
def k1_off203 (k1_t1 : Fin k1_t1_loop.trips) : Fin 3 → Nat :=
  let c0_552 : Index := 0#32
  let c0_553 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c25_i32 : BitVec 32 := 25#32
  let v955 : BitVec 32 := Scalar.addi v4 c25_i32
  let v958 : Index := Scalar.indexCast v955
  ![0, 0, v958.toNat]
def k1_off204 (k1_t1 : Fin k1_t1_loop.trips) : Fin 3 → Nat :=
  let c0_554 : Index := 0#32
  let c1_555 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c25_i32 : BitVec 32 := 25#32
  let v955 : BitVec 32 := Scalar.addi v4 c25_i32
  let v960 : Index := Scalar.indexCast v955
  ![0, 1, v960.toNat]
def k1_off205 (k1_t1 : Fin k1_t1_loop.trips) : Fin 3 → Nat :=
  let c0_556 : Index := 0#32
  let c2_557 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c25_i32 : BitVec 32 := 25#32
  let v955 : BitVec 32 := Scalar.addi v4 c25_i32
  let v962 : Index := Scalar.indexCast v955
  ![0, 2, v962.toNat]
def k1_off206 (k1_t1 : Fin k1_t1_loop.trips) : Fin 3 → Nat :=
  let c0_558 : Index := 0#32
  let c3_559 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c25_i32 : BitVec 32 := 25#32
  let v955 : BitVec 32 := Scalar.addi v4 c25_i32
  let v964 : Index := Scalar.indexCast v955
  ![0, 3, v964.toNat]
def k1_off207 (v957 : BitVec 32) : Fin 3 → Nat :=
  let v966 : Index := Scalar.indexCast v957
  let c0_560 : Index := 0#32
  let c0_561 : Index := 0#32
  ![v966.toNat, 0, 0]

def k1_off208 (v957 : BitVec 32) (c256_i32_562 : BitVec 32) : Fin 3 → Nat :=
  let v971 : BitVec 32 := Scalar.addi v957 c256_i32_562
  let v972 : Index := Scalar.indexCast v971
  let c0_563 : Index := 0#32
  let c0_564 : Index := 0#32
  ![v972.toNat, 0, 0]
def k1_off209 (v957 : BitVec 32) : Fin 3 → Nat :=
  let c256_i32_568 : BitVec 32 := 256#32
  let v985 : BitVec 32 := Scalar.addi v957 c256_i32_568
  let c1_i32_569 : BitVec 32 := 1#32
  let v986 : BitVec 32 := Scalar.addi v985 c1_i32_569
  let v987 : Index := Scalar.indexCast v986
  let c0_570 : Index := 0#32
  let c0_571 : Index := 0#32
  ![v987.toNat, 0, 0]

def k1_chk26 (v957 : BitVec 32) : Prop :=
  (∀ a, (k1_off207 v957) a + S1x1x128.size a ≤ S65536x1x128.size a) ∧
  (∀ (r : Fin 2), ∀ a, (k1_off208 v957 (BitVec.ofNat 32 (1 + 255 * r.val))) a + S1x1x128.size a ≤ S65536x1x128.size a) ∧
  (∀ a, (k1_off209 v957) a + S1x1x128.size a ≤ S65536x1x128.size a)
theorem k1_off207_inb : ∀ (v957 : BitVec 32) (k1_hw26 : k1_chk26 v957), ∀ a, (k1_off207 v957) a + S1x1x128.size a ≤ S65536x1x128.size a := fun v957 k1_hw26 => k1_hw26.1
theorem k1_off208_inb : ∀ (v957 : BitVec 32) (k1_hw26 : k1_chk26 v957), ∀ (r : Fin 2), ∀ a, (k1_off208 v957 (BitVec.ofNat 32 (1 + 255 * r.val))) a + S1x1x128.size a ≤ S65536x1x128.size a := fun v957 k1_hw26 r => k1_hw26.2.1 r
theorem k1_off209_inb : ∀ (v957 : BitVec 32) (k1_hw26 : k1_chk26 v957), ∀ a, (k1_off209 v957) a + S1x1x128.size a ≤ S65536x1x128.size a := fun v957 k1_hw26 => k1_hw26.2.2

def k1_off210 (k1_t1 : Fin k1_t1_loop.trips) : Fin 3 → Nat :=
  let c0_572 : Index := 0#32
  let c0_573 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c26_i32 : BitVec 32 := 26#32
  let v993 : BitVec 32 := Scalar.addi v4 c26_i32
  let v994 : Index := Scalar.indexCast v993
  ![0, 0, v994.toNat]
def k1_off211 (k1_t1 : Fin k1_t1_loop.trips) : Fin 3 → Nat :=
  let c0_574 : Index := 0#32
  let c0_575 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c26_i32 : BitVec 32 := 26#32
  let v993 : BitVec 32 := Scalar.addi v4 c26_i32
  let v996 : Index := Scalar.indexCast v993
  ![0, 0, v996.toNat]
def k1_off212 (k1_t1 : Fin k1_t1_loop.trips) : Fin 3 → Nat :=
  let c0_576 : Index := 0#32
  let c1_577 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c26_i32 : BitVec 32 := 26#32
  let v993 : BitVec 32 := Scalar.addi v4 c26_i32
  let v998 : Index := Scalar.indexCast v993
  ![0, 1, v998.toNat]
def k1_off213 (k1_t1 : Fin k1_t1_loop.trips) : Fin 3 → Nat :=
  let c0_578 : Index := 0#32
  let c2_579 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c26_i32 : BitVec 32 := 26#32
  let v993 : BitVec 32 := Scalar.addi v4 c26_i32
  let v1000 : Index := Scalar.indexCast v993
  ![0, 2, v1000.toNat]
def k1_off214 (k1_t1 : Fin k1_t1_loop.trips) : Fin 3 → Nat :=
  let c0_580 : Index := 0#32
  let c3_581 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c26_i32 : BitVec 32 := 26#32
  let v993 : BitVec 32 := Scalar.addi v4 c26_i32
  let v1002 : Index := Scalar.indexCast v993
  ![0, 3, v1002.toNat]
def k1_off215 (v995 : BitVec 32) : Fin 3 → Nat :=
  let v1004 : Index := Scalar.indexCast v995
  let c0_582 : Index := 0#32
  let c0_583 : Index := 0#32
  ![v1004.toNat, 0, 0]

def k1_off216 (v995 : BitVec 32) (c256_i32_584 : BitVec 32) : Fin 3 → Nat :=
  let v1009 : BitVec 32 := Scalar.addi v995 c256_i32_584
  let v1010 : Index := Scalar.indexCast v1009
  let c0_585 : Index := 0#32
  let c0_586 : Index := 0#32
  ![v1010.toNat, 0, 0]
def k1_off217 (v995 : BitVec 32) : Fin 3 → Nat :=
  let c256_i32_590 : BitVec 32 := 256#32
  let v1023 : BitVec 32 := Scalar.addi v995 c256_i32_590
  let c1_i32_591 : BitVec 32 := 1#32
  let v1024 : BitVec 32 := Scalar.addi v1023 c1_i32_591
  let v1025 : Index := Scalar.indexCast v1024
  let c0_592 : Index := 0#32
  let c0_593 : Index := 0#32
  ![v1025.toNat, 0, 0]

def k1_chk27 (v995 : BitVec 32) : Prop :=
  (∀ a, (k1_off215 v995) a + S1x1x128.size a ≤ S65536x1x128.size a) ∧
  (∀ (r : Fin 2), ∀ a, (k1_off216 v995 (BitVec.ofNat 32 (1 + 255 * r.val))) a + S1x1x128.size a ≤ S65536x1x128.size a) ∧
  (∀ a, (k1_off217 v995) a + S1x1x128.size a ≤ S65536x1x128.size a)
theorem k1_off215_inb : ∀ (v995 : BitVec 32) (k1_hw27 : k1_chk27 v995), ∀ a, (k1_off215 v995) a + S1x1x128.size a ≤ S65536x1x128.size a := fun v995 k1_hw27 => k1_hw27.1
theorem k1_off216_inb : ∀ (v995 : BitVec 32) (k1_hw27 : k1_chk27 v995), ∀ (r : Fin 2), ∀ a, (k1_off216 v995 (BitVec.ofNat 32 (1 + 255 * r.val))) a + S1x1x128.size a ≤ S65536x1x128.size a := fun v995 k1_hw27 r => k1_hw27.2.1 r
theorem k1_off217_inb : ∀ (v995 : BitVec 32) (k1_hw27 : k1_chk27 v995), ∀ a, (k1_off217 v995) a + S1x1x128.size a ≤ S65536x1x128.size a := fun v995 k1_hw27 => k1_hw27.2.2

def k1_off218 (k1_t1 : Fin k1_t1_loop.trips) : Fin 3 → Nat :=
  let c0_594 : Index := 0#32
  let c0_595 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c27_i32 : BitVec 32 := 27#32
  let v1031 : BitVec 32 := Scalar.addi v4 c27_i32
  let v1032 : Index := Scalar.indexCast v1031
  ![0, 0, v1032.toNat]
def k1_off219 (k1_t1 : Fin k1_t1_loop.trips) : Fin 3 → Nat :=
  let c0_596 : Index := 0#32
  let c0_597 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c27_i32 : BitVec 32 := 27#32
  let v1031 : BitVec 32 := Scalar.addi v4 c27_i32
  let v1034 : Index := Scalar.indexCast v1031
  ![0, 0, v1034.toNat]
def k1_off220 (k1_t1 : Fin k1_t1_loop.trips) : Fin 3 → Nat :=
  let c0_598 : Index := 0#32
  let c1_599 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c27_i32 : BitVec 32 := 27#32
  let v1031 : BitVec 32 := Scalar.addi v4 c27_i32
  let v1036 : Index := Scalar.indexCast v1031
  ![0, 1, v1036.toNat]
def k1_off221 (k1_t1 : Fin k1_t1_loop.trips) : Fin 3 → Nat :=
  let c0_600 : Index := 0#32
  let c2_601 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c27_i32 : BitVec 32 := 27#32
  let v1031 : BitVec 32 := Scalar.addi v4 c27_i32
  let v1038 : Index := Scalar.indexCast v1031
  ![0, 2, v1038.toNat]
def k1_off222 (k1_t1 : Fin k1_t1_loop.trips) : Fin 3 → Nat :=
  let c0_602 : Index := 0#32
  let c3_603 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c27_i32 : BitVec 32 := 27#32
  let v1031 : BitVec 32 := Scalar.addi v4 c27_i32
  let v1040 : Index := Scalar.indexCast v1031
  ![0, 3, v1040.toNat]
def k1_off223 (v1033 : BitVec 32) : Fin 3 → Nat :=
  let v1042 : Index := Scalar.indexCast v1033
  let c0_604 : Index := 0#32
  let c0_605 : Index := 0#32
  ![v1042.toNat, 0, 0]

def k1_off224 (v1033 : BitVec 32) (c256_i32_606 : BitVec 32) : Fin 3 → Nat :=
  let v1047 : BitVec 32 := Scalar.addi v1033 c256_i32_606
  let v1048 : Index := Scalar.indexCast v1047
  let c0_607 : Index := 0#32
  let c0_608 : Index := 0#32
  ![v1048.toNat, 0, 0]
def k1_off225 (v1033 : BitVec 32) : Fin 3 → Nat :=
  let c256_i32_612 : BitVec 32 := 256#32
  let v1061 : BitVec 32 := Scalar.addi v1033 c256_i32_612
  let c1_i32_613 : BitVec 32 := 1#32
  let v1062 : BitVec 32 := Scalar.addi v1061 c1_i32_613
  let v1063 : Index := Scalar.indexCast v1062
  let c0_614 : Index := 0#32
  let c0_615 : Index := 0#32
  ![v1063.toNat, 0, 0]

def k1_chk28 (v1033 : BitVec 32) : Prop :=
  (∀ a, (k1_off223 v1033) a + S1x1x128.size a ≤ S65536x1x128.size a) ∧
  (∀ (r : Fin 2), ∀ a, (k1_off224 v1033 (BitVec.ofNat 32 (1 + 255 * r.val))) a + S1x1x128.size a ≤ S65536x1x128.size a) ∧
  (∀ a, (k1_off225 v1033) a + S1x1x128.size a ≤ S65536x1x128.size a)
theorem k1_off223_inb : ∀ (v1033 : BitVec 32) (k1_hw28 : k1_chk28 v1033), ∀ a, (k1_off223 v1033) a + S1x1x128.size a ≤ S65536x1x128.size a := fun v1033 k1_hw28 => k1_hw28.1
theorem k1_off224_inb : ∀ (v1033 : BitVec 32) (k1_hw28 : k1_chk28 v1033), ∀ (r : Fin 2), ∀ a, (k1_off224 v1033 (BitVec.ofNat 32 (1 + 255 * r.val))) a + S1x1x128.size a ≤ S65536x1x128.size a := fun v1033 k1_hw28 r => k1_hw28.2.1 r
theorem k1_off225_inb : ∀ (v1033 : BitVec 32) (k1_hw28 : k1_chk28 v1033), ∀ a, (k1_off225 v1033) a + S1x1x128.size a ≤ S65536x1x128.size a := fun v1033 k1_hw28 => k1_hw28.2.2

def k1_off226 (k1_t1 : Fin k1_t1_loop.trips) : Fin 3 → Nat :=
  let c0_616 : Index := 0#32
  let c0_617 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c28_i32 : BitVec 32 := 28#32
  let v1069 : BitVec 32 := Scalar.addi v4 c28_i32
  let v1070 : Index := Scalar.indexCast v1069
  ![0, 0, v1070.toNat]
def k1_off227 (k1_t1 : Fin k1_t1_loop.trips) : Fin 3 → Nat :=
  let c0_618 : Index := 0#32
  let c0_619 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c28_i32 : BitVec 32 := 28#32
  let v1069 : BitVec 32 := Scalar.addi v4 c28_i32
  let v1072 : Index := Scalar.indexCast v1069
  ![0, 0, v1072.toNat]
def k1_off228 (k1_t1 : Fin k1_t1_loop.trips) : Fin 3 → Nat :=
  let c0_620 : Index := 0#32
  let c1_621 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c28_i32 : BitVec 32 := 28#32
  let v1069 : BitVec 32 := Scalar.addi v4 c28_i32
  let v1074 : Index := Scalar.indexCast v1069
  ![0, 1, v1074.toNat]
def k1_off229 (k1_t1 : Fin k1_t1_loop.trips) : Fin 3 → Nat :=
  let c0_622 : Index := 0#32
  let c2_623 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c28_i32 : BitVec 32 := 28#32
  let v1069 : BitVec 32 := Scalar.addi v4 c28_i32
  let v1076 : Index := Scalar.indexCast v1069
  ![0, 2, v1076.toNat]
def k1_off230 (k1_t1 : Fin k1_t1_loop.trips) : Fin 3 → Nat :=
  let c0_624 : Index := 0#32
  let c3_625 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c28_i32 : BitVec 32 := 28#32
  let v1069 : BitVec 32 := Scalar.addi v4 c28_i32
  let v1078 : Index := Scalar.indexCast v1069
  ![0, 3, v1078.toNat]
def k1_off231 (v1071 : BitVec 32) : Fin 3 → Nat :=
  let v1080 : Index := Scalar.indexCast v1071
  let c0_626 : Index := 0#32
  let c0_627 : Index := 0#32
  ![v1080.toNat, 0, 0]

def k1_off232 (v1071 : BitVec 32) (c256_i32_628 : BitVec 32) : Fin 3 → Nat :=
  let v1085 : BitVec 32 := Scalar.addi v1071 c256_i32_628
  let v1086 : Index := Scalar.indexCast v1085
  let c0_629 : Index := 0#32
  let c0_630 : Index := 0#32
  ![v1086.toNat, 0, 0]
def k1_off233 (v1071 : BitVec 32) : Fin 3 → Nat :=
  let c256_i32_634 : BitVec 32 := 256#32
  let v1099 : BitVec 32 := Scalar.addi v1071 c256_i32_634
  let c1_i32_635 : BitVec 32 := 1#32
  let v1100 : BitVec 32 := Scalar.addi v1099 c1_i32_635
  let v1101 : Index := Scalar.indexCast v1100
  let c0_636 : Index := 0#32
  let c0_637 : Index := 0#32
  ![v1101.toNat, 0, 0]

def k1_chk29 (v1071 : BitVec 32) : Prop :=
  (∀ a, (k1_off231 v1071) a + S1x1x128.size a ≤ S65536x1x128.size a) ∧
  (∀ (r : Fin 2), ∀ a, (k1_off232 v1071 (BitVec.ofNat 32 (1 + 255 * r.val))) a + S1x1x128.size a ≤ S65536x1x128.size a) ∧
  (∀ a, (k1_off233 v1071) a + S1x1x128.size a ≤ S65536x1x128.size a)
theorem k1_off231_inb : ∀ (v1071 : BitVec 32) (k1_hw29 : k1_chk29 v1071), ∀ a, (k1_off231 v1071) a + S1x1x128.size a ≤ S65536x1x128.size a := fun v1071 k1_hw29 => k1_hw29.1
theorem k1_off232_inb : ∀ (v1071 : BitVec 32) (k1_hw29 : k1_chk29 v1071), ∀ (r : Fin 2), ∀ a, (k1_off232 v1071 (BitVec.ofNat 32 (1 + 255 * r.val))) a + S1x1x128.size a ≤ S65536x1x128.size a := fun v1071 k1_hw29 r => k1_hw29.2.1 r
theorem k1_off233_inb : ∀ (v1071 : BitVec 32) (k1_hw29 : k1_chk29 v1071), ∀ a, (k1_off233 v1071) a + S1x1x128.size a ≤ S65536x1x128.size a := fun v1071 k1_hw29 => k1_hw29.2.2

def k1_off234 (k1_t1 : Fin k1_t1_loop.trips) : Fin 3 → Nat :=
  let c0_638 : Index := 0#32
  let c0_639 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c29_i32 : BitVec 32 := 29#32
  let v1107 : BitVec 32 := Scalar.addi v4 c29_i32
  let v1108 : Index := Scalar.indexCast v1107
  ![0, 0, v1108.toNat]
def k1_off235 (k1_t1 : Fin k1_t1_loop.trips) : Fin 3 → Nat :=
  let c0_640 : Index := 0#32
  let c0_641 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c29_i32 : BitVec 32 := 29#32
  let v1107 : BitVec 32 := Scalar.addi v4 c29_i32
  let v1110 : Index := Scalar.indexCast v1107
  ![0, 0, v1110.toNat]
def k1_off236 (k1_t1 : Fin k1_t1_loop.trips) : Fin 3 → Nat :=
  let c0_642 : Index := 0#32
  let c1_643 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c29_i32 : BitVec 32 := 29#32
  let v1107 : BitVec 32 := Scalar.addi v4 c29_i32
  let v1112 : Index := Scalar.indexCast v1107
  ![0, 1, v1112.toNat]
def k1_off237 (k1_t1 : Fin k1_t1_loop.trips) : Fin 3 → Nat :=
  let c0_644 : Index := 0#32
  let c2_645 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c29_i32 : BitVec 32 := 29#32
  let v1107 : BitVec 32 := Scalar.addi v4 c29_i32
  let v1114 : Index := Scalar.indexCast v1107
  ![0, 2, v1114.toNat]
def k1_off238 (k1_t1 : Fin k1_t1_loop.trips) : Fin 3 → Nat :=
  let c0_646 : Index := 0#32
  let c3_647 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c29_i32 : BitVec 32 := 29#32
  let v1107 : BitVec 32 := Scalar.addi v4 c29_i32
  let v1116 : Index := Scalar.indexCast v1107
  ![0, 3, v1116.toNat]
def k1_off239 (v1109 : BitVec 32) : Fin 3 → Nat :=
  let v1118 : Index := Scalar.indexCast v1109
  let c0_648 : Index := 0#32
  let c0_649 : Index := 0#32
  ![v1118.toNat, 0, 0]

def k1_off240 (v1109 : BitVec 32) (c256_i32_650 : BitVec 32) : Fin 3 → Nat :=
  let v1123 : BitVec 32 := Scalar.addi v1109 c256_i32_650
  let v1124 : Index := Scalar.indexCast v1123
  let c0_651 : Index := 0#32
  let c0_652 : Index := 0#32
  ![v1124.toNat, 0, 0]
def k1_off241 (v1109 : BitVec 32) : Fin 3 → Nat :=
  let c256_i32_656 : BitVec 32 := 256#32
  let v1137 : BitVec 32 := Scalar.addi v1109 c256_i32_656
  let c1_i32_657 : BitVec 32 := 1#32
  let v1138 : BitVec 32 := Scalar.addi v1137 c1_i32_657
  let v1139 : Index := Scalar.indexCast v1138
  let c0_658 : Index := 0#32
  let c0_659 : Index := 0#32
  ![v1139.toNat, 0, 0]

def k1_chk30 (v1109 : BitVec 32) : Prop :=
  (∀ a, (k1_off239 v1109) a + S1x1x128.size a ≤ S65536x1x128.size a) ∧
  (∀ (r : Fin 2), ∀ a, (k1_off240 v1109 (BitVec.ofNat 32 (1 + 255 * r.val))) a + S1x1x128.size a ≤ S65536x1x128.size a) ∧
  (∀ a, (k1_off241 v1109) a + S1x1x128.size a ≤ S65536x1x128.size a)
theorem k1_off239_inb : ∀ (v1109 : BitVec 32) (k1_hw30 : k1_chk30 v1109), ∀ a, (k1_off239 v1109) a + S1x1x128.size a ≤ S65536x1x128.size a := fun v1109 k1_hw30 => k1_hw30.1
theorem k1_off240_inb : ∀ (v1109 : BitVec 32) (k1_hw30 : k1_chk30 v1109), ∀ (r : Fin 2), ∀ a, (k1_off240 v1109 (BitVec.ofNat 32 (1 + 255 * r.val))) a + S1x1x128.size a ≤ S65536x1x128.size a := fun v1109 k1_hw30 r => k1_hw30.2.1 r
theorem k1_off241_inb : ∀ (v1109 : BitVec 32) (k1_hw30 : k1_chk30 v1109), ∀ a, (k1_off241 v1109) a + S1x1x128.size a ≤ S65536x1x128.size a := fun v1109 k1_hw30 => k1_hw30.2.2

def k1_off242 (k1_t1 : Fin k1_t1_loop.trips) : Fin 3 → Nat :=
  let c0_660 : Index := 0#32
  let c0_661 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c30_i32 : BitVec 32 := 30#32
  let v1145 : BitVec 32 := Scalar.addi v4 c30_i32
  let v1146 : Index := Scalar.indexCast v1145
  ![0, 0, v1146.toNat]
def k1_off243 (k1_t1 : Fin k1_t1_loop.trips) : Fin 3 → Nat :=
  let c0_662 : Index := 0#32
  let c0_663 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c30_i32 : BitVec 32 := 30#32
  let v1145 : BitVec 32 := Scalar.addi v4 c30_i32
  let v1148 : Index := Scalar.indexCast v1145
  ![0, 0, v1148.toNat]
def k1_off244 (k1_t1 : Fin k1_t1_loop.trips) : Fin 3 → Nat :=
  let c0_664 : Index := 0#32
  let c1_665 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c30_i32 : BitVec 32 := 30#32
  let v1145 : BitVec 32 := Scalar.addi v4 c30_i32
  let v1150 : Index := Scalar.indexCast v1145
  ![0, 1, v1150.toNat]
def k1_off245 (k1_t1 : Fin k1_t1_loop.trips) : Fin 3 → Nat :=
  let c0_666 : Index := 0#32
  let c2_667 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c30_i32 : BitVec 32 := 30#32
  let v1145 : BitVec 32 := Scalar.addi v4 c30_i32
  let v1152 : Index := Scalar.indexCast v1145
  ![0, 2, v1152.toNat]
def k1_off246 (k1_t1 : Fin k1_t1_loop.trips) : Fin 3 → Nat :=
  let c0_668 : Index := 0#32
  let c3_669 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c30_i32 : BitVec 32 := 30#32
  let v1145 : BitVec 32 := Scalar.addi v4 c30_i32
  let v1154 : Index := Scalar.indexCast v1145
  ![0, 3, v1154.toNat]
def k1_off247 (v1147 : BitVec 32) : Fin 3 → Nat :=
  let v1156 : Index := Scalar.indexCast v1147
  let c0_670 : Index := 0#32
  let c0_671 : Index := 0#32
  ![v1156.toNat, 0, 0]

def k1_off248 (v1147 : BitVec 32) (c256_i32_672 : BitVec 32) : Fin 3 → Nat :=
  let v1161 : BitVec 32 := Scalar.addi v1147 c256_i32_672
  let v1162 : Index := Scalar.indexCast v1161
  let c0_673 : Index := 0#32
  let c0_674 : Index := 0#32
  ![v1162.toNat, 0, 0]
def k1_off249 (v1147 : BitVec 32) : Fin 3 → Nat :=
  let c256_i32_678 : BitVec 32 := 256#32
  let v1175 : BitVec 32 := Scalar.addi v1147 c256_i32_678
  let c1_i32_679 : BitVec 32 := 1#32
  let v1176 : BitVec 32 := Scalar.addi v1175 c1_i32_679
  let v1177 : Index := Scalar.indexCast v1176
  let c0_680 : Index := 0#32
  let c0_681 : Index := 0#32
  ![v1177.toNat, 0, 0]

def k1_chk31 (v1147 : BitVec 32) : Prop :=
  (∀ a, (k1_off247 v1147) a + S1x1x128.size a ≤ S65536x1x128.size a) ∧
  (∀ (r : Fin 2), ∀ a, (k1_off248 v1147 (BitVec.ofNat 32 (1 + 255 * r.val))) a + S1x1x128.size a ≤ S65536x1x128.size a) ∧
  (∀ a, (k1_off249 v1147) a + S1x1x128.size a ≤ S65536x1x128.size a)
theorem k1_off247_inb : ∀ (v1147 : BitVec 32) (k1_hw31 : k1_chk31 v1147), ∀ a, (k1_off247 v1147) a + S1x1x128.size a ≤ S65536x1x128.size a := fun v1147 k1_hw31 => k1_hw31.1
theorem k1_off248_inb : ∀ (v1147 : BitVec 32) (k1_hw31 : k1_chk31 v1147), ∀ (r : Fin 2), ∀ a, (k1_off248 v1147 (BitVec.ofNat 32 (1 + 255 * r.val))) a + S1x1x128.size a ≤ S65536x1x128.size a := fun v1147 k1_hw31 r => k1_hw31.2.1 r
theorem k1_off249_inb : ∀ (v1147 : BitVec 32) (k1_hw31 : k1_chk31 v1147), ∀ a, (k1_off249 v1147) a + S1x1x128.size a ≤ S65536x1x128.size a := fun v1147 k1_hw31 => k1_hw31.2.2

def k1_off250 (k1_t1 : Fin k1_t1_loop.trips) : Fin 3 → Nat :=
  let c0_682 : Index := 0#32
  let c0_683 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c31_i32 : BitVec 32 := 31#32
  let v1183 : BitVec 32 := Scalar.addi v4 c31_i32
  let v1184 : Index := Scalar.indexCast v1183
  ![0, 0, v1184.toNat]
def k1_off251 (k1_t1 : Fin k1_t1_loop.trips) : Fin 3 → Nat :=
  let c0_684 : Index := 0#32
  let c0_685 : Index := 0#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c31_i32 : BitVec 32 := 31#32
  let v1183 : BitVec 32 := Scalar.addi v4 c31_i32
  let v1186 : Index := Scalar.indexCast v1183
  ![0, 0, v1186.toNat]
def k1_off252 (k1_t1 : Fin k1_t1_loop.trips) : Fin 3 → Nat :=
  let c0_686 : Index := 0#32
  let c1_687 : Index := 1#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c31_i32 : BitVec 32 := 31#32
  let v1183 : BitVec 32 := Scalar.addi v4 c31_i32
  let v1188 : Index := Scalar.indexCast v1183
  ![0, 1, v1188.toNat]
def k1_off253 (k1_t1 : Fin k1_t1_loop.trips) : Fin 3 → Nat :=
  let c0_688 : Index := 0#32
  let c2_689 : Index := 2#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c31_i32 : BitVec 32 := 31#32
  let v1183 : BitVec 32 := Scalar.addi v4 c31_i32
  let v1190 : Index := Scalar.indexCast v1183
  ![0, 2, v1190.toNat]
def k1_off254 (k1_t1 : Fin k1_t1_loop.trips) : Fin 3 → Nat :=
  let c0_690 : Index := 0#32
  let c3_691 : Index := 3#32
  let c0_i32_1 : BitVec 32 := 0#32
  let c1_i32 : BitVec 32 := 1#32
  let arg8 : BitVec 32 := Scf.iv c0_i32_1 c1_i32 k1_t1
  let c32_i32 : BitVec 32 := 32#32
  let v4 : BitVec 32 := Scalar.muli arg8 c32_i32
  let c31_i32 : BitVec 32 := 31#32
  let v1183 : BitVec 32 := Scalar.addi v4 c31_i32
  let v1192 : Index := Scalar.indexCast v1183
  ![0, 3, v1192.toNat]
def k1_off255 (v1185 : BitVec 32) : Fin 3 → Nat :=
  let v1194 : Index := Scalar.indexCast v1185
  let c0_692 : Index := 0#32
  let c0_693 : Index := 0#32
  ![v1194.toNat, 0, 0]

def k1_off256 (v1185 : BitVec 32) (c256_i32_694 : BitVec 32) : Fin 3 → Nat :=
  let v1199 : BitVec 32 := Scalar.addi v1185 c256_i32_694
  let v1200 : Index := Scalar.indexCast v1199
  let c0_695 : Index := 0#32
  let c0_696 : Index := 0#32
  ![v1200.toNat, 0, 0]
def k1_off257 (v1185 : BitVec 32) : Fin 3 → Nat :=
  let c256_i32_700 : BitVec 32 := 256#32
  let v1213 : BitVec 32 := Scalar.addi v1185 c256_i32_700
  let c1_i32_701 : BitVec 32 := 1#32
  let v1214 : BitVec 32 := Scalar.addi v1213 c1_i32_701
  let v1215 : Index := Scalar.indexCast v1214
  let c0_702 : Index := 0#32
  let c0_703 : Index := 0#32
  ![v1215.toNat, 0, 0]

def k1_chk32 (v1185 : BitVec 32) : Prop :=
  (∀ a, (k1_off255 v1185) a + S1x1x128.size a ≤ S65536x1x128.size a) ∧
  (∀ (r : Fin 2), ∀ a, (k1_off256 v1185 (BitVec.ofNat 32 (1 + 255 * r.val))) a + S1x1x128.size a ≤ S65536x1x128.size a) ∧
  (∀ a, (k1_off257 v1185) a + S1x1x128.size a ≤ S65536x1x128.size a)
theorem k1_off255_inb : ∀ (v1185 : BitVec 32) (k1_hw32 : k1_chk32 v1185), ∀ a, (k1_off255 v1185) a + S1x1x128.size a ≤ S65536x1x128.size a := fun v1185 k1_hw32 => k1_hw32.1
theorem k1_off256_inb : ∀ (v1185 : BitVec 32) (k1_hw32 : k1_chk32 v1185), ∀ (r : Fin 2), ∀ a, (k1_off256 v1185 (BitVec.ofNat 32 (1 + 255 * r.val))) a + S1x1x128.size a ≤ S65536x1x128.size a := fun v1185 k1_hw32 r => k1_hw32.2.1 r
theorem k1_off257_inb : ∀ (v1185 : BitVec 32) (k1_hw32 : k1_chk32 v1185), ∀ a, (k1_off257 v1185) a + S1x1x128.size a ≤ S65536x1x128.size a := fun v1185 k1_hw32 => k1_hw32.2.2

def k1_off258 (k1_t1 : Fin k1_t1_loop.trips) : Fin 4 → Nat :=
  let c0_704 : Index := 0#32
  let c0_i32_1 : BitVec 32 := 0#32
  let c1_i32 : BitVec 32 := 1#32
  let arg8 : BitVec 32 := Scf.iv c0_i32_1 c1_i32 k1_t1
  let v1246 : Index := Scalar.indexCast arg8
  let c0_705 : Index := 0#32
  let c0_706 : Index := 0#32
  ![0, v1246.toNat, 0, 0]
def cc1_transform_0 (i : grid1.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .smem S1x1x4000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .smem S1x4x4000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x125x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S2x256x256x256 : Shape := ⟨4, ![2, 256, 256, 256]⟩
abbrev S2x10000x2x2 : Shape := ⟨4, ![2, 10000, 2, 2]⟩
abbrev S128x256 : Shape := ⟨2, ![128, 256]⟩
abbrev S128 : Shape := ⟨1, ![128]⟩
abbrev S1024x1024 : Shape := ⟨2, ![1024, 1024]⟩
abbrev S1024 : Shape := ⟨1, ![1024]⟩
abbrev S3x1024 : Shape := ⟨2, ![3, 1024]⟩
abbrev S3 : Shape := ⟨1, ![3]⟩
abbrev S128x2x256x256 : Shape := ⟨4, ![128, 2, 256, 256]⟩
abbrev S2x128x256x256 : Shape := ⟨4, ![2, 128, 256, 256]⟩
abbrev S1x128x1x1 : Shape := ⟨4, ![1, 128, 1, 1]⟩
abbrev S_ : Shape := ⟨0, ![]⟩
abbrev S31 : Shape := ⟨1, ![31]⟩
abbrev S1 : Shape := ⟨1, ![1]⟩
abbrev S32 : Shape := ⟨1, ![32]⟩
abbrev S32x1 : Shape := ⟨2, ![32, 1]⟩
abbrev S2x10000x1x2 : Shape := ⟨4, ![2, 10000, 1, 2]⟩
abbrev S1x1x32x1 : Shape := ⟨4, ![1, 1, 32, 1]⟩
abbrev S2x10000x32x2 : Shape := ⟨4, ![2, 10000, 32, 2]⟩
abbrev S2x320000x2 : Shape := ⟨3, ![2, 320000, 2]⟩
abbrev S2x320000x1 : Shape := ⟨3, ![2, 320000, 1]⟩
abbrev S2x320000 : Shape := ⟨2, ![2, 320000]⟩
abbrev S2x128x320000 : Shape := ⟨3, ![2, 128, 320000]⟩
abbrev S2x1x320000 : Shape := ⟨3, ![2, 1, 320000]⟩
abbrev S2x128x10000x32 : Shape := ⟨4, ![2, 128, 10000, 32]⟩
abbrev S2x10000x128x32 : Shape := ⟨4, ![2, 10000, 128, 32]⟩
abbrev S2x10000x128x8x4 : Shape := ⟨5, ![2, 10000, 128, 8, 4]⟩
abbrev S2x10000x128x8 : Shape := ⟨4, ![2, 10000, 128, 8]⟩
abbrev S20000x1024 : Shape := ⟨2, ![20000, 1024]⟩
abbrev S1x1024 : Shape := ⟨2, ![1, 1024]⟩
abbrev S1024x3 : Shape := ⟨2, ![1024, 3]⟩
abbrev S20000x3 : Shape := ⟨2, ![20000, 3]⟩
abbrev S1x3 : Shape := ⟨2, ![1, 3]⟩

abbrev nBuf : Space → Nat
  | .hbm => 231
  | .vmem => 0
  | .smem => 0
  | _ => 0

abbrev hbmTy0_0 (i : Nat) : BufTy := match i % 128 with
  | 0 => ⟨S2x256x256x256, .f32⟩
  | 1 => ⟨S2x10000x2x2, .f32⟩
  | 2 => ⟨S128x256, .f32⟩
  | 3 => ⟨S128, .f32⟩
  | 4 => ⟨S1024x1024, .f32⟩
  | 5 => ⟨S1024, .f32⟩
  | 6 => ⟨S1024x1024, .f32⟩
  | 7 => ⟨S1024, .f32⟩
  | 8 => ⟨S3x1024, .f32⟩
  | 9 => ⟨S3, .f32⟩
  | 10 => ⟨S128x2x256x256, .f32⟩
  | 11 => ⟨S2x128x256x256, .f32⟩
  | 12 => ⟨S1x128x1x1, .f32⟩
  | 13 => ⟨S2x128x256x256, .f32⟩
  | 14 => ⟨S2x128x256x256, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S31, .f32⟩
  | 23 => ⟨S_, .f32⟩
  | 24 => ⟨S31, .f32⟩
  | 25 => ⟨S31, .f32⟩
  | 26 => ⟨S1, .f32⟩
  | 27 => ⟨S_, .f32⟩
  | 28 => ⟨S31, .f32⟩
  | 29 => ⟨S31, .f32⟩
  | 30 => ⟨S31, .f32⟩
  | 31 => ⟨S31, .f32⟩
  | 32 => ⟨S1, .f32⟩
  | 33 => ⟨S31, .f32⟩
  | 34 => ⟨S31, .f32⟩
  | 35 => ⟨S31, .f32⟩
  | 36 => ⟨S1, .f32⟩
  | 37 => ⟨S32, .f32⟩
  | 38 => ⟨S32x1, .f32⟩
  | 39 => ⟨S2x10000x1x2, .f32⟩
  | 40 => ⟨S1x1x32x1, .f32⟩
  | 41 => ⟨S2x10000x32x2, .f32⟩
  | 42 => ⟨S2x10000x32x2, .f32⟩
  | 43 => ⟨S2x10000x32x2, .f32⟩
  | 44 => ⟨S2x10000x1x2, .f32⟩
  | 45 => ⟨S_, .f32⟩
  | 46 => ⟨S32x1, .f32⟩
  | 47 => ⟨S32x1, .f32⟩
  | 48 => ⟨S1x1x32x1, .f32⟩
  | 49 => ⟨S2x10000x32x2, .f32⟩
  | 50 => ⟨S2x10000x32x2, .f32⟩
  | 51 => ⟨S2x10000x32x2, .f32⟩
  | 52 => ⟨S2x10000x32x2, .f32⟩
  | 53 => ⟨S_, .f32⟩
  | 54 => ⟨S2x10000x32x2, .f32⟩
  | 55 => ⟨S2x10000x32x2, .f32⟩
  | 56 => ⟨S2x320000x2, .f32⟩
  | 57 => ⟨S2x320000x1, .f32⟩
  | 58 => ⟨S2x320000, .f32⟩
  | 59 => ⟨S2x320000x1, .f32⟩
  | 60 => ⟨S2x320000, .f32⟩
  | 61 => ⟨S2x320000, .f32⟩
  | 62 => ⟨S_, .f32⟩
  | 63 => ⟨S_, .f32⟩
  | 64 => ⟨S_, .f32⟩
  | 65 => ⟨S2x320000, .f32⟩
  | 66 => ⟨S2x320000, .f32⟩
  | 67 => ⟨S_, .f32⟩
  | 68 => ⟨S2x320000, .f32⟩
  | 69 => ⟨S2x320000, .f32⟩
  | 70 => ⟨S2x320000, .f32⟩
  | 71 => ⟨S_, .f32⟩
  | 72 => ⟨S_, .f32⟩
  | 73 => ⟨S_, .f32⟩
  | 74 => ⟨S2x320000, .f32⟩
  | 75 => ⟨S2x320000, .f32⟩
  | 76 => ⟨S_, .f32⟩
  | 77 => ⟨S2x320000, .f32⟩
  | 78 => ⟨S2x320000, .f32⟩
  | 79 => ⟨S_, .f32⟩
  | 80 => ⟨S2x320000, .f32⟩
  | 81 => ⟨S2x320000, .f32⟩
  | 82 => ⟨S_, .f32⟩
  | 83 => ⟨S_, .f32⟩
  | 84 => ⟨S_, .f32⟩
  | 85 => ⟨S2x320000, .f32⟩
  | 86 => ⟨S2x320000, .f32⟩
  | 87 => ⟨S_, .f32⟩
  | 88 => ⟨S2x320000, .f32⟩
  | 89 => ⟨S2x320000, .f32⟩
  | 90 => ⟨S_, .f32⟩
  | 91 => ⟨S2x320000, .f32⟩
  | 92 => ⟨S2x320000, .f32⟩
  | 93 => ⟨S_, .f32⟩
  | 94 => ⟨S_, .f32⟩
  | 95 => ⟨S_, .f32⟩
  | 96 => ⟨S2x320000, .f32⟩
  | 97 => ⟨S2x320000, .f32⟩
  | 98 => ⟨S_, .f32⟩
  | 99 => ⟨S2x320000, .f32⟩
  | 100 => ⟨S2x320000, .f32⟩
  | 101 => ⟨S2x320000, .i32⟩
  | 102 => ⟨S2x320000, .i32⟩
  | 103 => ⟨S2x320000, .i32⟩
  | 104 => ⟨S2x320000, .i32⟩
  | 105 => ⟨S_, .i32⟩
  | 106 => ⟨S2x320000, .i32⟩
  | 107 => ⟨S2x320000, .i1⟩
  | 108 => ⟨S_, .i32⟩
  | 109 => ⟨S2x320000, .i32⟩
  | 110 => ⟨S2x320000, .i32⟩
  | 111 => ⟨S2x320000, .i32⟩
  | 112 => ⟨S_, .i32⟩
  | 113 => ⟨S2x320000, .i32⟩
  | 114 => ⟨S2x320000, .i1⟩
  | 115 => ⟨S_, .i32⟩
  | 116 => ⟨S2x320000, .i32⟩
  | 117 => ⟨S2x320000, .i32⟩
  | 118 => ⟨S2x320000, .i32⟩
  | 119 => ⟨S2x320000x1, .i32⟩
  | 120 => ⟨S2x320000x1, .i32⟩
  | 121 => ⟨S2x320000x2, .i32⟩
  | 122 => ⟨S2x128x320000, .f32⟩
  | 123 => ⟨S2x320000, .f32⟩
  | 124 => ⟨S2x320000, .f32⟩
  | 125 => ⟨S2x320000, .f32⟩
  | 126 => ⟨S2x1x320000, .f32⟩
  | 127 => ⟨S2x128x320000, .f32⟩
  | _ => ⟨S2x256x256x256, .f32⟩

abbrev hbmTy0_1 (i : Nat) : BufTy := match i % 128 with
  | 0 => ⟨S2x128x320000, .f32⟩
  | 1 => ⟨S_, .i32⟩
  | 2 => ⟨S2x320000, .i32⟩
  | 3 => ⟨S2x320000, .i1⟩
  | 4 => ⟨S_, .i32⟩
  | 5 => ⟨S2x320000, .i32⟩
  | 6 => ⟨S2x320000, .i32⟩
  | 7 => ⟨S2x320000, .i32⟩
  | 8 => ⟨S_, .i32⟩
  | 9 => ⟨S2x320000, .i32⟩
  | 10 => ⟨S2x320000, .i1⟩
  | 11 => ⟨S_, .i32⟩
  | 12 => ⟨S2x320000, .i32⟩
  | 13 => ⟨S2x320000, .i32⟩
  | 14 => ⟨S2x320000, .i32⟩
  | 15 => ⟨S2x320000x1, .i32⟩
  | 16 => ⟨S2x320000x1, .i32⟩
  | 17 => ⟨S2x320000x2, .i32⟩
  | 18 => ⟨S2x128x320000, .f32⟩
  | 19 => ⟨S2x320000, .f32⟩
  | 20 => ⟨S2x320000, .f32⟩
  | 21 => ⟨S2x320000, .f32⟩
  | 22 => ⟨S2x1x320000, .f32⟩
  | 23 => ⟨S2x128x320000, .f32⟩
  | 24 => ⟨S2x128x320000, .f32⟩
  | 25 => ⟨S2x128x320000, .f32⟩
  | 26 => ⟨S_, .i32⟩
  | 27 => ⟨S2x320000, .i32⟩
  | 28 => ⟨S2x320000, .i1⟩
  | 29 => ⟨S_, .i32⟩
  | 30 => ⟨S2x320000, .i32⟩
  | 31 => ⟨S2x320000, .i32⟩
  | 32 => ⟨S2x320000, .i32⟩
  | 33 => ⟨S_, .i32⟩
  | 34 => ⟨S2x320000, .i32⟩
  | 35 => ⟨S2x320000, .i1⟩
  | 36 => ⟨S_, .i32⟩
  | 37 => ⟨S2x320000, .i32⟩
  | 38 => ⟨S2x320000, .i32⟩
  | 39 => ⟨S2x320000, .i32⟩
  | 40 => ⟨S2x320000x1, .i32⟩
  | 41 => ⟨S2x320000x1, .i32⟩
  | 42 => ⟨S2x320000x2, .i32⟩
  | 43 => ⟨S2x128x320000, .f32⟩
  | 44 => ⟨S2x320000, .f32⟩
  | 45 => ⟨S2x320000, .f32⟩
  | 46 => ⟨S2x320000, .f32⟩
  | 47 => ⟨S2x1x320000, .f32⟩
  | 48 => ⟨S2x128x320000, .f32⟩
  | 49 => ⟨S2x128x320000, .f32⟩
  | 50 => ⟨S2x128x320000, .f32⟩
  | 51 => ⟨S_, .i32⟩
  | 52 => ⟨S2x320000, .i32⟩
  | 53 => ⟨S2x320000, .i1⟩
  | 54 => ⟨S_, .i32⟩
  | 55 => ⟨S2x320000, .i32⟩
  | 56 => ⟨S2x320000, .i32⟩
  | 57 => ⟨S2x320000, .i32⟩
  | 58 => ⟨S_, .i32⟩
  | 59 => ⟨S2x320000, .i32⟩
  | 60 => ⟨S2x320000, .i1⟩
  | 61 => ⟨S_, .i32⟩
  | 62 => ⟨S2x320000, .i32⟩
  | 63 => ⟨S2x320000, .i32⟩
  | 64 => ⟨S2x320000, .i32⟩
  | 65 => ⟨S2x320000x1, .i32⟩
  | 66 => ⟨S2x320000x1, .i32⟩
  | 67 => ⟨S2x320000x2, .i32⟩
  | 68 => ⟨S2x128x320000, .f32⟩
  | 69 => ⟨S2x320000, .f32⟩
  | 70 => ⟨S2x320000, .f32⟩
  | 71 => ⟨S2x320000, .f32⟩
  | 72 => ⟨S2x1x320000, .f32⟩
  | 73 => ⟨S2x128x320000, .f32⟩
  | 74 => ⟨S2x128x320000, .f32⟩
  | 75 => ⟨S2x128x320000, .f32⟩
  | 76 => ⟨S2x128x10000x32, .f32⟩
  | 77 => ⟨S2x10000x128x32, .f32⟩
  | 78 => ⟨S2x10000x128x8x4, .f32⟩
  | 79 => ⟨S_, .f32⟩
  | 80 => ⟨S2x10000x128x8, .f32⟩
  | 81 => ⟨S20000x1024, .f32⟩
  | 82 => ⟨S1024x1024, .f32⟩
  | 83 => ⟨S20000x1024, .f32⟩
  | 84 => ⟨S1x1024, .f32⟩
  | 85 => ⟨S20000x1024, .f32⟩
  | 86 => ⟨S20000x1024, .f32⟩
  | 87 => ⟨S_, .f32⟩
  | 88 => ⟨S20000x1024, .f32⟩
  | 89 => ⟨S20000x1024, .f32⟩
  | 90 => ⟨S1024x1024, .f32⟩
  | 91 => ⟨S20000x1024, .f32⟩
  | 92 => ⟨S1x1024, .f32⟩
  | 93 => ⟨S20000x1024, .f32⟩
  | 94 => ⟨S20000x1024, .f32⟩
  | 95 => ⟨S_, .f32⟩
  | 96 => ⟨S20000x1024, .f32⟩
  | 97 => ⟨S20000x1024, .f32⟩
  | 98 => ⟨S1024x3, .f32⟩
  | 99 => ⟨S20000x3, .f32⟩
  | 100 => ⟨S1x3, .f32⟩
  | 101 => ⟨S20000x3, .f32⟩
  | 102 => ⟨S20000x3, .f32⟩
  | _ => ⟨S2x256x256x256, .f32⟩

abbrev hbmTy (i : Nat) : BufTy := match i / 128 with
  | 0 => hbmTy0_0 i
  | 1 => hbmTy0_1 i
  | _ => ⟨S2x256x256x256, .f32⟩

abbrev bufTy : (tb : Table) → Fin (tcTables nBuf tb) → BufTy
  | .hbm, ⟨i, _⟩ => hbmTy i
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_2 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_cst_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v28 : Ref sig .tc := ⟨.hbm, 69, rfl⟩
abbrev main_v29 : Ref sig .tc := ⟨.hbm, 70, rfl⟩
abbrev main_cst_5 : Ref sig .tc := ⟨.hbm, 71, rfl⟩
abbrev main_cst_6 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v30 : Ref sig .tc := ⟨.hbm, 78, rfl⟩
abbrev main_cst_7 : Ref sig .tc := ⟨.hbm, 79, rfl⟩
abbrev main_v31 : Ref sig .tc := ⟨.hbm, 80, rfl⟩
abbrev main_v32 : Ref sig .tc := ⟨.hbm, 81, rfl⟩
abbrev main_cst_8 : Ref sig .tc := ⟨.hbm, 82, rfl⟩
abbrev main_cst_9 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v33 : Ref sig .tc := ⟨.hbm, 89, rfl⟩
abbrev main_cst_10 : Ref sig .tc := ⟨.hbm, 90, rfl⟩
abbrev main_v34 : Ref sig .tc := ⟨.hbm, 91, rfl⟩
abbrev main_v35 : Ref sig .tc := ⟨.hbm, 92, rfl⟩
abbrev main_cst_11 : Ref sig .tc := ⟨.hbm, 93, rfl⟩
abbrev main_cst_12 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_c : Ref sig .tc := ⟨.hbm, 105, rfl⟩
abbrev main_v41 : Ref sig .tc := ⟨.hbm, 106, rfl⟩
abbrev main_v42 : Ref sig .tc := ⟨.hbm, 107, rfl⟩
abbrev main_c_13 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_c_14 : Ref sig .tc := ⟨.hbm, 112, rfl⟩
abbrev main_v46 : Ref sig .tc := ⟨.hbm, 113, rfl⟩
abbrev main_v47 : Ref sig .tc := ⟨.hbm, 114, rfl⟩
abbrev main_c_15 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_c_16 : Ref sig .tc := ⟨.hbm, 129, rfl⟩
abbrev main_v61 : Ref sig .tc := ⟨.hbm, 130, rfl⟩
abbrev main_v62 : Ref sig .tc := ⟨.hbm, 131, rfl⟩
abbrev main_c_17 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_c_18 : Ref sig .tc := ⟨.hbm, 136, rfl⟩
abbrev main_v66 : Ref sig .tc := ⟨.hbm, 137, rfl⟩
abbrev main_v67 : Ref sig .tc := ⟨.hbm, 138, rfl⟩
abbrev main_c_19 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_c_20 : Ref sig .tc := ⟨.hbm, 154, rfl⟩
abbrev main_v82 : Ref sig .tc := ⟨.hbm, 155, rfl⟩
abbrev main_v83 : Ref sig .tc := ⟨.hbm, 156, rfl⟩
abbrev main_c_21 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_c_22 : Ref sig .tc := ⟨.hbm, 161, rfl⟩
abbrev main_v87 : Ref sig .tc := ⟨.hbm, 162, rfl⟩
abbrev main_v88 : Ref sig .tc := ⟨.hbm, 163, rfl⟩
abbrev main_c_23 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_c_24 : Ref sig .tc := ⟨.hbm, 179, rfl⟩
abbrev main_v103 : Ref sig .tc := ⟨.hbm, 180, rfl⟩
abbrev main_v104 : Ref sig .tc := ⟨.hbm, 181, rfl⟩
abbrev main_c_25 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_c_26 : Ref sig .tc := ⟨.hbm, 186, rfl⟩
abbrev main_v108 : Ref sig .tc := ⟨.hbm, 187, rfl⟩
abbrev main_v109 : Ref sig .tc := ⟨.hbm, 188, rfl⟩
abbrev main_c_27 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_cst_28 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_call5_cst : Ref sig .tc := ⟨.hbm, 215, rfl⟩
abbrev main_call5_v0 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_call6_cst : Ref sig .tc := ⟨.hbm, 223, rfl⟩
abbrev main_call6_v0 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩

abbrev nD : Nat := 1
abbrev τ : Topo := Topo.v7x

variable {F : FTy → Type} [FloatOps F]
-- ==== Proof.KernelIdeal.Fc1Region.lean ====
/- The first call, the linear layer on the feature map: its body, its proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.VecWindow
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.KernelIdeal Cert.KernelIdeal.Gen

variable {F : FTy → Type} [FloatOps F]

/-- The algebra of the whole run. -/
local notation "𝕄" => MT nD τ sig Unit (Elt F) ℕ (Pipeline.UD sig nD τ) ℕ

variable (W : Dev nD → Valuation τ sig (Elt F))

/-- The block of window `w` at point `t`, cut out of its array at the contents `W`. -/
def fc1Block (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (Pipeline.arrRef spec0 w)))

set_option maxHeartbeats 2000000 in
/-- The body on whole buffers: the inputs stay, and the output's buffer is left at the payload of the inputs. -/
theorem fc1_body (c : Dev nD) (i : grid0.Coords)
    (a0 : Memref sig .tc .vmem S1x256x2048 .f32) (h0 : a0.IsWhole)
    (a1 : Memref sig .tc .vmem S128x256 .f32) (h1 : a1.IsWhole)
    (a2 : Memref sig .tc .vmem S1x128 .f32) (h2 : a2.IsWhole)
    (a3 : Memref sig .tc .vmem S1x2048x128 .f32) (h3 : a3.IsWhole)
    (x0 : Vec F S1x256x2048 .f32) (x1 : Vec F S128x256 .f32) (x2 : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (k0_pay1 x0 x1 x2)) -∗ K ⟨⟩))
      ⊢ wp frame (wpE (defs₀ (F := F)) Variants.none c none) Set.univ (cc0__fc1_body i a0 h0 a1 h1 a2 h2 a3 h3) K := by
  simp only [cc0__fc1_body_eq_skeleton]; unfold cc0__fc1_body_skel
  unfold owns
  iintro ⟨⟨%f0, %e0, H0⟩, ⟨%f1, %e1, H1⟩, ⟨%f2, %e2, H2⟩, ⟨%d, %f, -, H⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H
  ipureintro
  refine (View.read_writes_full _ _ _ _ _).trans ?_
  refine congr (congr (congrArg k0_pay1 ?_) ?_) ?_ <;> exact View.readAt_full _ _ _

/-- The region's proof data entered at the contents `W`: every input's buffer holds its block, the output's is left at the
    payload of the blocks. -/
def fc1Dat (c : Dev nD) : Dat τ (Elt F) Unit ℕ (Pipeline.UD sig nD τ) ℕ cfg0 c where
  A w := W c (Proc.devRef .tc (Pipeline.arrRef spec0 w))
  after w t := match w with
    | ⟨0, _⟩ => fc1Block W c 0 t
    | ⟨1, _⟩ => fc1Block W c 1 t
    | ⟨2, _⟩ => fc1Block W c 2 t
    | ⟨3, _⟩ => k0_pay1 (fc1Block W c 0 t) (fc1Block W c 1 t) (fc1Block W c 2 t)
  Φ _ := Pipeline.ΦA spec0 c
  q _ := fullShare
  owed _ := 0

theorem fc1_A (c : Dev nD) (w : Fin cfg0.W) :
    (fc1Dat W c).A w = W c (Proc.devRef .tc (Pipeline.arrRef spec0 w)) := by dsimp only [fc1Dat]

/-- The body leaves the output's buffer at the payload of the blocks. -/
theorem fc1_after_out (c : Dev nD) (t : Fin cfg0.N) :
    (fc1Dat W c).after 3 t = k0_pay1 (fc1Block W c 0 t) (fc1Block W c 1 t) (fc1Block W c 2 t) := by dsimp only [fc1Dat]

/-- The body leaves every input's buffer as it is. -/
theorem fc1_after_in (c : Dev nD) (t : Fin cfg0.N) :
    (fc1Dat W c).after 0 t = fc1Block W c 0 t ∧ (fc1Dat W c).after 1 t = fc1Block W c 1 t ∧ (fc1Dat W c).after 2 t = fc1Block W c 2 t := by
  dsimp only [fc1Dat]; simp only [and_self]

/-- The body finds every input's block in its buffer. -/
theorem fc1_before (c : Dev nD) (t : Fin cfg0.N) :
    (∀ d, (fc1Dat W c).before 0 t d = fc1Block W c 0 t) ∧ (∀ d, (fc1Dat W c).before 1 t d = fc1Block W c 1 t) ∧ (∀ d, (fc1Dat W c).before 2 t d = fc1Block W c 2 t) := by
  have key : ∀ (w : Fin cfg0.W) (hw : (cfg0.win w).isOut = false) (hlive : ∀ i, cfg0.idle w i = false)
      (hclip : ∀ t t' : Fin cfg0.N, (cfg0.win w).clip (cfg0.grid.coords t) = (cfg0.win w).clip (cfg0.grid.coords t'))
      (hkeep : ∀ t, (cfg0.win w).cut (cfg0.grid.coords t) ((fc1Dat W c).after w t) = fc1Block W c w t) (d),
      (fc1Dat W c).before w t d = (fc1Dat W c).fetched w t d := fun w hw hlive hclip hkeep d =>
    (fc1Dat W c).before_in_eq_fetched w hw hlive (fun t t' _ => hclip t t')
      (fun t => by rw [hkeep]; unfold Dat.blockOf fc1Block; rw [fc1_A]; try rfl) t d
  refine ⟨?_, ?_, ?_⟩ <;> intro d
  · exact (key 0 rfl (fun _ => rfl) (fun _ _ => rfl) (fun t => by dsimp only [fc1Dat]) d).trans
      (by unfold Dat.fetched Dat.blockOf fc1Block; rw [fc1_A]; try rfl)
  · exact (key 1 rfl (fun _ => rfl) (fun _ _ => rfl) (fun t => by dsimp only [fc1Dat]) d).trans
      (by unfold Dat.fetched Dat.blockOf fc1Block; rw [fc1_A]; try rfl)
  · exact (key 2 rfl (fun _ => rfl) (fun _ _ => rfl) (fun t => by dsimp only [fc1Dat]) d).trans
      (by unfold Dat.fetched Dat.blockOf fc1Block; rw [fc1_A]; try rfl)

/-- What the body is called with at point `t`. -/
def fc1Pre (c : Dev nD) (t : Fin cfg0.N) : sProp 𝕄 :=
  iprop((fc1Dat W c).Φ t.castSucc ∗ (fc1Dat W c).owesAt () t.castSucc
    ∗ (∃ d, owns (c : Thread nD τ) (st0_0 t) fullShare ((fc1Dat W c).before 0 t d))
    ∗ (∃ d, owns (c : Thread nD τ) (st0_1 t) fullShare ((fc1Dat W c).before 1 t d))
    ∗ (∃ d, owns (c : Thread nD τ) (st0_2 t) fullShare ((fc1Dat W c).before 2 t d))
    ∗ (∃ d, owns (c : Thread nD τ) (st0_3 t) fullShare ((fc1Dat W c).before 3 t d)))

/-- What the body returns at point `t`. -/
def fc1Post (c : Dev nD) (t : Fin cfg0.N) : sProp 𝕄 :=
  iprop((fc1Dat W c).Φ t.succ ∗ (fc1Dat W c).owesAt () t.succ
    ∗ owns (c : Thread nD τ) (st0_0 t) fullShare ((fc1Dat W c).after 0 t)
    ∗ owns (c : Thread nD τ) (st0_1 t) fullShare ((fc1Dat W c).after 1 t)
    ∗ owns (c : Thread nD τ) (st0_2 t) fullShare ((fc1Dat W c).after 2 t)
    ∗ owns (c : Thread nD τ) (st0_3 t) fullShare ((fc1Dat W c).after 3 t))

/-- The body at a point of the grid. -/
theorem fc1_point (c : Dev nD) (t : Fin cfg0.N) :
    fc1Pre W c t ⊢ wp frame (wpE (defs₀ (F := F)) Variants.none c none) Set.univ (bodyAt0 t) (fun _ => fc1Post W c t) := by
  unfold fc1Pre fc1Post bodyAt0
  obtain ⟨b0, b1, b2⟩ := fc1_before W c t
  obtain ⟨p0, p1, p2⟩ := fc1_after_in W c t
  simp only [b0, b1, b2]
  rw [show (fc1Dat W c).Φ t.succ = (fc1Dat W c).Φ t.castSucc from rfl,
    show (fc1Dat W c).owesAt () t.succ = (fc1Dat W c).owesAt () t.castSucc from rfl,
    p0, p1, p2, fc1_after_out]
  iintro ⟨HΦ, Ho, ⟨%d0, H0⟩, ⟨%d1, H1⟩, ⟨%d2, H2⟩, ⟨%d, H⟩⟩
  iapply (fc1_body c (grid0.coords t) _ _ _ _ _ _ _ _ (fc1Block W c 0 t) (fc1Block W c 1 t) (fc1Block W c 2 t) _)
  isplitl [H0]; · iexact H0
  isplitl [H1]; · iexact H1
  isplitl [H2]; · iexact H2
  isplitl [H]; · iexists _; iexact H
  iintro ⟨H0, H1, H2, H⟩
  isplitl [HΦ]; · iexact HΦ
  isplitl [Ho]; · iexact Ho
  isplitl [H0]; · iexact H0
  isplitl [H1]; · iexact H1
  isplitl [H2]; · iexact H2
  iexact H

/-- The region's body obligation. -/
theorem fc1_obligation (c : Dev nD) : BodyObligation (fc1Dat W c) (defs₀ (F := F)) Variants.none () Set.univ := fun t => by
  have row : defs₀ (F := F) .tc cfg0.body (cfg0.bodyArgs t (cfg0.slots t)) = bodyAt0 t := by
    unfold defs₀; rw [Defs.onTc_tc]
  rw [bigSep_W0, bigSep_W0, row]
  exact triple_restated (fc1_point W c t) rfl .rfl fun _ => .rfl

end Cert.KernelIdeal.Hand
end
-- ==== Proof.KernelIdeal.GatherTrip.lean ====
/- One trip of the gather's counted loop: what the kernel stores in one line of its output block.

   A line has 32 sample points. Point `i` of line `k` reads an index word and four weights at position
   `32 * k + i` of the two tables, four rows of the image at the word and at the word plus 256, 1 and 257,
   and adds the four weighted rows. The 32 points are reduced in groups of four by maxima, and the eight
   maxima are laid side by side. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Pipeline.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The algebra of the whole run: the pipelines' rounds beside the counters of the gather's own transfer. -/
local notation "𝕄" => MT nD τ sig Unit (Elt F) ℕ (Pipeline.UD sig nD τ) ℕ

/-- An index word of which all four rows it names lie in the image. -/
def InImage (v : BitVec 32) : Prop := v.toNat + 257 < 65536

/-- Where point `i` of line `k` stands in row `r` of a table. -/
def ptOff (r i : ℕ) (k : Fin k1_t1_loop.trips) : Fin 3 → ℕ :=
  ![0, r, (Scalar.indexCast (Scalar.addi (Scalar.muli (Scf.iv 0#32 1#32 k) 32#32) (BitVec.ofNat 32 i))).toNat]

theorem trips_eq : k1_t1_loop.trips = 125 := by decide +kernel

theorem ptOff_eq (r i : ℕ) (hi : i < 32) (k : Fin k1_t1_loop.trips) : ptOff r i k = ![0, r, 32 * k.val + i] := by
  have hk : k.val < 125 := lt_of_lt_of_eq k.isLt trips_eq
  unfold ptOff Scf.iv Scalar.indexCast Scalar.addi Scalar.muli
  congr 3
  simp [IntOp.addi, IntOp.muli, BitVec.toNat_add, BitVec.toNat_mul]
  omega

theorem ptOff_inb3 (r i : ℕ) (hr : r < 4) (hi : i < 32) (k : Fin k1_t1_loop.trips) (a) :
    ptOff r i k a + S1x1x1.size a ≤ S1x4x4000.size a := by
  have hk : k.val < 125 := lt_of_lt_of_eq k.isLt trips_eq
  rw [ptOff_eq r i hi k]
  fin_cases a
  · show 0 + 1 ≤ 1; omega
  · show r + 1 ≤ 4; omega
  · show 32 * k.val + i + 1 ≤ 4000; omega

theorem ptOff_inb2 (i : ℕ) (hi : i < 32) (k : Fin k1_t1_loop.trips) (a) :
    ptOff 0 i k a + S1x1x1.size a ≤ S1x1x4000.size a := by
  have hk : k.val < 125 := lt_of_lt_of_eq k.isLt trips_eq
  rw [ptOff_eq 0 i hi k]
  fin_cases a
  · show 0 + 1 ≤ 1; omega
  · show 0 + 1 ≤ 1; omega
  · show 32 * k.val + i + 1 ≤ 4000; omega

/-- The side condition the kernel assumes of an index word holds of a word whose rows lie in the image. -/
theorem chk_of_inImage (v : BitVec 32) (h : InImage v) : k1_chk1 v := by
  unfold InImage at h
  have e1 : (v + 1#32).toNat = v.toNat + 1 := by rw [BitVec.toNat_add]; simp; omega
  have e2 : (v + 256#32).toNat = v.toNat + 256 := by rw [BitVec.toNat_add]; simp; omega
  have e3 : (v + 256#32 + 1#32).toNat = v.toNat + 257 := by rw [BitVec.toNat_add, e2]; simp; omega
  refine ⟨fun a => ?_, fun r a => ?_, fun a => ?_⟩
  · fin_cases a
    · show v.toNat + 1 ≤ 65536; omega
    · show 0 + 1 ≤ 1; omega
    · show 0 + 128 ≤ 128; omega
  · fin_cases a
    · fin_cases r
      · show (v + 1#32).toNat + 1 ≤ 65536; omega
      · show (v + 256#32).toNat + 1 ≤ 65536; omega
    · show 0 + 1 ≤ 1; omega
    · show 0 + 128 ≤ 128; omega
  · fin_cases a
    · show (v + 256#32 + 1#32).toNat + 1 ≤ 65536; omega
    · show 0 + 1 ≤ 1; omega
    · show 0 + 128 ≤ 128; omega

section Trip

variable (arg2 : Memref sig .tc .smem S1x1x4000 .i32) (arg3 : Memref sig .tc .smem S1x4x4000 .f32)
  (arg5 : Memref sig .tc .vmem S1x125x1x1024 .f32) (arg6 : Memref sig .tc .vmem S65536x1x128 .f32)
  (X2 : BufTy.Contents (Elt F) arg2.view.ty) (X3 : BufTy.Contents (Elt F) arg3.view.ty) (X6 : BufTy.Contents (Elt F) arg6.view.ty)

/-- The index word of point `i` of line `k`. -/
def wordAt (i : Fin 32) (k : Fin k1_t1_loop.trips) : BitVec 32 :=
  arg2.view.readAt (Elt F) (Rect.unit (s := S1x1x4000) (ptOff 0 i.val k) S1x1x1.size (ptOff_inb2 i.val i.isLt k)).toLoadRect X2
    (Shape.Idx.first (show 0 < S1x1x1.numel from numel1_S1x1x1 ▸ Nat.one_pos))

theorem chk_wordAt (hX : ∀ j, InImage (arg2.view.read (Elt F) X2 j : BitVec 32)) (i : Fin 32) (k : Fin k1_t1_loop.trips) :
    k1_chk1 (wordAt (F := F) arg2 X2 i k) := chk_of_inImage _ (hX _)

/-- Weight `r` of point `i` of line `k`. -/
def weightAt (r : Fin 4) (i : Fin 32) (k : Fin k1_t1_loop.trips) : F .f32 :=
  arg3.view.readAt (Elt F) (Rect.unit (s := S1x4x4000) (ptOff r.val i.val k) S1x1x1.size (ptOff_inb3 r.val i.val r.isLt i.isLt k)).toLoadRect X3
    (Shape.Idx.first (show 0 < S1x1x1.numel from numel1_S1x1x1 ▸ Nat.one_pos))

/-- The row of the image an offset names. -/
def rowAt (off : Fin 3 → ℕ) (inb : ∀ a, off a + S1x1x128.size a ≤ S65536x1x128.size a) : FVec F S1x128 .f32 :=
  shapeCast S1x128 (arg6.view.readAt (Elt F) (Rect.unit (s := S65536x1x128) off S1x1x128.size inb).toLoadRect X6 : Vec F S1x1x128 .f32)
    shapeCasts_S1x1x128_S1x128

/-- Point `i` of line `k`: the four weighted rows added from the left. -/
def pointVec (hX : ∀ j, InImage (arg2.view.read (Elt F) X2 j : BitVec 32)) (k : Fin k1_t1_loop.trips) (i : Fin 32) : FVec F S1x128 .f32 :=
  addf (addf (addf
    (mulf (rowAt arg6 X6 _ (k1_off7_inb _ (chk_wordAt arg2 X2 hX i k))) (broadcast S1x128 (weightAt arg3 X3 0 i k)))
    (mulf (rowAt arg6 X6 _ (k1_off8_inb _ (chk_wordAt arg2 X2 hX i k) 1)) (broadcast S1x128 (weightAt arg3 X3 1 i k))))
    (mulf (rowAt arg6 X6 _ (k1_off8_inb _ (chk_wordAt arg2 X2 hX i k) 0)) (broadcast S1x128 (weightAt arg3 X3 2 i k))))
    (mulf (rowAt arg6 X6 _ (k1_off9_inb _ (chk_wordAt arg2 X2 hX i k))) (broadcast S1x128 (weightAt arg3 X3 3 i k)))

/-- The maximum of points `a`, `b`, `c`, `d`, in two steps. -/
def max4 (p : Fin 32 → FVec F S1x128 .f32) (a b c d : Fin 32) : FVec F S1x128 .f32 :=
  maximumf (maximumf (p a) (p b)) (maximumf (p c) (p d))

/-- A line of the output: the eight maxima laid side by side. -/
def lineOf (p : Fin 32 → FVec F S1x128 .f32) : FVec F S1x1x1x1024 .f32 :=
  shapeCast S1x1x1x1024 (concatenate S1x1024 1
    [⟨S1x128, max4 p 0 1 2 3⟩, ⟨S1x128, max4 p 4 5 6 7⟩, ⟨S1x128, max4 p 8 9 10 11⟩, ⟨S1x128, max4 p 12 13 14 15⟩,
      ⟨S1x128, max4 p 16 17 18 19⟩, ⟨S1x128, max4 p 20 21 22 23⟩, ⟨S1x128, max4 p 24 25 26 27⟩, ⟨S1x128, max4 p 28 29 30 31⟩]
    concatenates_S1x128_S1x128_S1x128_S1x128_S1x128_S1x128_S1x128_S1x128_S1x1024_d1 : FVec F S1x1024 .f32) shapeCasts_S1x1024_S1x1x1x1024

/-- The place of line `k` in the output block, holding what the trip computes. -/
def linePiece (hX : ∀ j, InImage (arg2.view.read (Elt F) X2 j : BitVec 32)) (k : Fin k1_t1_loop.trips) : View.Piece (Elt F) S1x125x1x1024 .f32 :=
  ⟨Rect.unit (s := S1x125x1x1024) (k1_off258 k) S1x1x1x1024.size (k1_off258_inb k), lineOf (pointVec arg2 arg3 arg6 X2 X3 X6 hX k)⟩

/-- What a trip holds: the two tables and the image at their contents, and the output block at any. -/
def TripRes (c : Dev nD) (f : BufTy.Contents (Elt F) arg5.view.ty) : sProp 𝕄 :=
  iprop((arg2.view.loc (c : Thread nD τ) ↦[arg2.view.set]{fullShare} X2) ∗ (arg3.view.loc (c : Thread nD τ) ↦[arg3.view.set]{fullShare} X3)
    ∗ (arg6.view.loc (c : Thread nD τ) ↦[arg6.view.set]{fullShare} X6) ∗ (arg5.view.loc (c : Thread nD τ) ↦[arg5.view.set]{fullShare} f))

set_option maxHeartbeats 40000000 in
/-- ONE TRIP at a symbolic line `k`: from the tables, the image and any output block, the region leaves the block with line `k`
    stored in it and everything else as it was. -/
theorem trip (𝒱 : Variants) (c : Dev nD) (bd : Option 𝒱.V) (i : grid1.Coords) (harg2 : arg2.IsWhole) (harg3 : arg3.IsWhole)
    (arg4 : Memref sig .tc .hbm S2x65536x1x128 .f32) (harg4 : arg4.IsWhole) (harg5 : arg5.IsWhole) (harg6 : arg6.IsWhole) (arg7 : DmaSems sig S_)
    (hX : ∀ j, InImage (arg2.view.read (Elt F) X2 j : BitVec 32)) (k : Fin k1_t1_loop.trips) (E : Set ℕ) (f : BufTy.Contents (Elt F) arg5.view.ty) :
    TripRes (F := F) arg2 arg3 arg5 arg6 X2 X3 X6 c f
      ⊢ wp frame (wpE (defs₀ (F := F)) 𝒱 (c : Thread nD τ) bd) E (k1_t1_body (F := F) i arg2 harg2 arg3 harg3 arg4 harg4 arg5 harg5 arg6 harg6 arg7 k PUnit.unit)
          (fun _ => TripRes (F := F) arg2 arg3 arg5 arg6 X2 X3 X6 c (arg5.view.writes (Elt F) f [linePiece arg2 arg3 arg6 X2 X3 X6 hX k])) := by
  have hk : k.val < 125 := lt_of_lt_of_eq k.isLt trips_eq
  unfold k1_t1_body TripRes
  iintro ⟨HR_arg2, HR_arg3, HR_arg6, HW_arg5⟩
  sl_exec (disch := (refine chk_of_inImage _ ?_; exact hX _))
  sl_step
  isplitl [HR_arg2]; · iexact HR_arg2
  isplitl [HR_arg3]; · iexact HR_arg3
  isplitl [HR_arg6]; · iexact HR_arg6
  iexact HW_arg5

end Trip

end Cert.KernelIdeal.Hand
end
-- ==== Proof.KernelIdeal.GatherLoop.lean ====
/- The gather's body on any staging memrefs: the block of lines it leaves, and the image it carries. -/
module

public import proofs.«01_k».proof.Proof.KernelIdeal.GatherTrip
public import Idealize.ShloMosaic.Lib.WritesUnit
public import Idealize.ShloMosaic.Lib.Pipeline.Value
public import Idealize.ShloMosaic.Lib.Pointwise.Index

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The algebra of the whole run. -/
local notation "𝕄" => MT nD τ sig Unit (Elt F) ℕ (Pipeline.UD sig nD τ) ℕ

section Values

/-- Point `q` of the tables at lane `d`: the four weighted rows of the image added from the left. -/
def pointVal (x2 : Vec F S1x1x4000 .i32) (x3 : Vec F S1x4x4000 .f32) (x6 : Vec F S65536x1x128 .f32) (q : Fin 4000) (d : Fin 128) : F .f32 :=
  let n : ℕ := (x2 (ix3 0 0 q) : BitVec 32).toNat
  let row : ℕ → F .f32 := fun r => x6 (ix3 (Fin.ofNat 65536 r) 0 d)
  let w : Fin 4 → F .f32 := fun r => x3 (ix3 0 r q)
  FloatOps.addf (FloatOps.addf (FloatOps.addf (FloatOps.mulf (row n) (w 0)) (FloatOps.mulf (row (n + 256)) (w 1)))
    (FloatOps.mulf (row (n + 1)) (w 2))) (FloatOps.mulf (row (n + 257)) (w 3))

/-- Entry `e` of line `k`: the maximum, in two steps, of the four points of group `e / 128` at lane `e % 128`. -/
def lineVal (x2 : Vec F S1x1x4000 .i32) (x3 : Vec F S1x4x4000 .f32) (x6 : Vec F S65536x1x128 .f32) (k : Fin 125) (e : Fin 1024) : F .f32 :=
  let p : Fin 4 → F .f32 := fun r => pointVal x2 x3 x6 ⟨32 * k.val + (4 * (e.val / 128) + r.val), by omega⟩ ⟨e.val % 128, by omega⟩
  FloatOps.maximumf (FloatOps.maximumf (p 0) (p 1)) (FloatOps.maximumf (p 2) (p 3))

/-- The block of 125 lines. -/
def blockVal (x2 : Vec F S1x1x4000 .i32) (x3 : Vec F S1x4x4000 .f32) (x6 : Vec F S65536x1x128 .f32) : Vec F S1x125x1x1024 .f32 :=
  fun y => lineVal x2 x3 x6 (y 1) (y 3)

variable (arg2 : Memref sig .tc .smem S1x1x4000 .i32) (arg3 : Memref sig .tc .smem S1x4x4000 .f32)
  (arg5 : Memref sig .tc .vmem S1x125x1x1024 .f32) (arg6 : Memref sig .tc .vmem S65536x1x128 .f32)
  (X2 : BufTy.Contents (Elt F) arg2.view.ty) (X3 : BufTy.Contents (Elt F) arg3.view.ty) (X6 : BufTy.Contents (Elt F) arg6.view.ty)
  (hX : ∀ j, InImage (arg2.view.read (Elt F) X2 j : BitVec 32))

theorem idx111 (a : S1x1x1.Idx) (b : Fin 3) : (a b).val = 0 := by
  have := (a b).isLt
  fin_cases b <;> simpa using this

theorem wordAt_eq (i : Fin 32) (k : Fin k1_t1_loop.trips) (q : Fin 4000) (hq : q.val = 32 * k.val + i.val) :
    wordAt (F := F) arg2 X2 i k = arg2.view.read (Elt F) X2 (ix3 0 0 q) := by
  unfold wordAt
  rw [View.readAt_apply]
  congr 1
  funext a
  apply Fin.ext
  show ptOff 0 i.val k a + 1 * _ = _
  refine (congrArg₂ (· + ·) (congrFun (ptOff_eq 0 i.val i.isLt k) a) (congrArg (1 * ·) (idx111 _ a))).trans ?_
  fin_cases a
  · rfl
  · rfl
  · exact hq.symm

theorem weightAt_eq (r : Fin 4) (i : Fin 32) (k : Fin k1_t1_loop.trips) (q : Fin 4000) (hq : q.val = 32 * k.val + i.val) :
    weightAt (F := F) arg3 X3 r i k = arg3.view.read (Elt F) X3 (ix3 0 r q) := by
  unfold weightAt
  rw [View.readAt_apply]
  congr 1
  funext a
  apply Fin.ext
  show ptOff r.val i.val k a + 1 * _ = _
  refine (congrArg₂ (· + ·) (congrFun (ptOff_eq r.val i.val i.isLt k) a) (congrArg (1 * ·) (idx111 _ a))).trans ?_
  fin_cases a
  · rfl
  · rfl
  · exact hq.symm

theorem rowAt_eq (off : Fin 3 → ℕ) (inb : ∀ a, off a + S1x1x128.size a ≤ S65536x1x128.size a) (n : ℕ) (h0 : off = ![n, 0, 0]) (d : Fin 128) :
    rowAt (F := F) arg6 X6 off inb (ix2 0 d) = arg6.view.read (Elt F) X6 (ix3 (Fin.ofNat 65536 n) 0 d) := by
  subst h0
  have hn : n + 1 ≤ 65536 := inb 0
  unfold rowAt
  rw [shapeCast_apply _ _ _ (ix3 0 0 d) (by
    rw [Shape.rowMajor_val_three, Shape.rowMajor_val_two]; simp [ix3, ix2])]
  rw [View.readAt_apply]
  congr 1
  funext a
  apply Fin.ext
  fin_cases a
  · show n + 1 * 0 = n % 65536; omega
  · rfl
  · show 0 + 1 * d.val = d.val; omega

theorem pointVec_eq (k : Fin k1_t1_loop.trips) (i : Fin 32) (d : Fin 128) (q : Fin 4000) (hq : q.val = 32 * k.val + i.val) :
    pointVec arg2 arg3 arg6 X2 X3 X6 hX k i (ix2 0 d)
      = pointVal (arg2.view.read (Elt F) X2) (arg3.view.read (Elt F) X3) (arg6.view.read (Elt F) X6) q d := by
  have hin : InImage (wordAt (F := F) arg2 X2 i k) := hX _
  unfold InImage at hin
  have e1 : (wordAt (F := F) arg2 X2 i k + 1#32).toNat = (wordAt (F := F) arg2 X2 i k).toNat + 1 := by rw [BitVec.toNat_add]; simp; omega
  have e2 : (wordAt (F := F) arg2 X2 i k + 256#32).toNat = (wordAt (F := F) arg2 X2 i k).toNat + 256 := by rw [BitVec.toNat_add]; simp; omega
  have e3 : (wordAt (F := F) arg2 X2 i k + 256#32 + 1#32).toNat = (wordAt (F := F) arg2 X2 i k).toNat + 257 := by
    rw [BitVec.toNat_add, e2]; simp; omega
  unfold pointVec pointVal
  dsimp only [addf, mulf, broadcast]
  have r0 := rowAt_eq arg6 X6 _ (k1_off7_inb _ (chk_wordAt arg2 X2 hX i k)) (wordAt (F := F) arg2 X2 i k).toNat rfl d
  have r1 := rowAt_eq arg6 X6 _ (k1_off8_inb _ (chk_wordAt arg2 X2 hX i k) 1) ((wordAt (F := F) arg2 X2 i k).toNat + 256) (by rw [← e2]; rfl) d
  have r2 := rowAt_eq arg6 X6 _ (k1_off8_inb _ (chk_wordAt arg2 X2 hX i k) 0) ((wordAt (F := F) arg2 X2 i k).toNat + 1) (by rw [← e1]; rfl) d
  have r3 := rowAt_eq arg6 X6 _ (k1_off9_inb _ (chk_wordAt arg2 X2 hX i k)) ((wordAt (F := F) arg2 X2 i k).toNat + 257) (by rw [← e3]; rfl) d
  rw [r0, r1, r2, r3,
    wordAt_eq arg2 X2 i k q hq, weightAt_eq arg3 X3 0 i k q hq, weightAt_eq arg3 X3 1 i k q hq, weightAt_eq arg3 X3 2 i k q hq,
    weightAt_eq arg3 X3 3 i k q hq]

/-- Group `n` of a line's points. -/
def group (p : Fin 32 → FVec F S1x128 .f32) (n : Fin 8) : FVec F S1x128 .f32 :=
  max4 p ⟨4 * n.val, by omega⟩ ⟨4 * n.val + 1, by omega⟩ ⟨4 * n.val + 2, by omega⟩ ⟨4 * n.val + 3, by omega⟩

theorem lineOf_apply (p : Fin 32 → FVec F S1x128 .f32) (e : Fin 1024) :
    lineOf p (ix4 0 0 0 e) = group p ⟨e.val / 128, by omega⟩ (ix2 0 ⟨e.val % 128, by omega⟩) := by
  unfold lineOf
  rw [shapeCast_apply _ _ _ (ix2 0 e) (by
    rw [Shape.rowMajor_val_two, Shape.rowMajor_val_four]; simp [ix4, ix2])]
  exact concatenate_ofFn_apply (t := S1x1024) (s₁ := S1x128) 1 (N := 8) (fun n => group p n) _ rfl 128 rfl (ix2 0 e) ⟨e.val / 128, by omega⟩ rfl _ rfl
    (fun b hb => by fin_cases b; · rfl
                    · exact absurd rfl hb)

theorem lineOf_eq (k : Fin k1_t1_loop.trips) (k' : Fin 125) (hk : k'.val = k.val) (e : Fin 1024) :
    lineOf (pointVec arg2 arg3 arg6 X2 X3 X6 hX k) (ix4 0 0 0 e)
      = lineVal (arg2.view.read (Elt F) X2) (arg3.view.read (Elt F) X3) (arg6.view.read (Elt F) X6) k' e := by
  rw [lineOf_apply]
  unfold group max4 lineVal
  dsimp only [maximumf]
  rw [pointVec_eq arg2 arg3 arg6 X2 X3 X6 hX k _ _ ⟨32 * k'.val + (4 * (e.val / 128) + 0), by omega⟩ (by simp only; omega),
    pointVec_eq arg2 arg3 arg6 X2 X3 X6 hX k _ _ ⟨32 * k'.val + (4 * (e.val / 128) + 1), by omega⟩ (by simp only; omega),
    pointVec_eq arg2 arg3 arg6 X2 X3 X6 hX k _ _ ⟨32 * k'.val + (4 * (e.val / 128) + 2), by omega⟩ (by simp only; omega),
    pointVec_eq arg2 arg3 arg6 X2 X3 X6 hX k _ _ ⟨32 * k'.val + (4 * (e.val / 128) + 3), by omega⟩ (by simp only; omega)]
  rfl

/-- The lines stored before trip `n`, the last first. -/
def linesBefore : ℕ → List (View.Piece (Elt F) S1x125x1x1024 .f32)
  | 0 => []
  | n + 1 => (if h : n < k1_t1_loop.trips then [linePiece arg2 arg3 arg6 X2 X3 X6 hX ⟨n, h⟩] else []) ++ linesBefore n

theorem linesBefore_succ (k : Fin k1_t1_loop.trips) :
    linesBefore arg2 arg3 arg6 X2 X3 X6 hX (k.val + 1) = linePiece arg2 arg3 arg6 X2 X3 X6 hX k :: linesBefore arg2 arg3 arg6 X2 X3 X6 hX k.val := by
  show (if h : k.val < k1_t1_loop.trips then _ else _) ++ _ = _
  rw [dif_pos k.isLt]; rfl

/-- A line stored stays: after `n` trips every line below `n` reads as its trip computed it. -/
theorem read_linesBefore (G : BufTy.Contents (Elt F) arg5.view.ty) (n : ℕ) (hn : n ≤ 125) (y : S1x125x1x1024.Idx) (hy : (y 1).val < n) :
    arg5.view.read (Elt F) (arg5.view.writes (Elt F) G (linesBefore arg2 arg3 arg6 X2 X3 X6 hX n)) y
      = blockVal (arg2.view.read (Elt F) X2) (arg3.view.read (Elt F) X3) (arg6.view.read (Elt F) X6) y := by
  induction n with
  | zero => exact absurd hy (Nat.not_lt_zero _)
  | succ n ih =>
    have hlt : n < k1_t1_loop.trips := by rw [trips_eq]; omega
    rw [show linesBefore arg2 arg3 arg6 X2 X3 X6 hX (n + 1) = _ from linesBefore_succ arg2 arg3 arg6 X2 X3 X6 hX ⟨n, hlt⟩]
    unfold linePiece
    by_cases h : (y 1).val = n
    · rw [View.read_writes_cons_unit_of_mem (size := S1x1x1x1024.size) (off' := ![0, n, 0, 0]) arg5.view G (k1_off258_inb ⟨n, hlt⟩) (lineOf (pointVec arg2 arg3 arg6 X2 X3 X6 hX ⟨n, hlt⟩)) _ y (ix4 0 0 0 (y 3)) (k1_off258_eq ⟨n, hlt⟩) (fun a => by
        fin_cases a
        · have := (y 0).isLt; show (y 0).val = 0 + 0; exact Nat.lt_one_iff.mp this
        · show (y 1).val = n + 0; omega
        · have := (y 2).isLt; show (y 2).val = 0 + 0; exact Nat.lt_one_iff.mp this
        · show (y 3).val = 0 + (y 3).val; omega)]
      exact lineOf_eq arg2 arg3 arg6 X2 X3 X6 hX ⟨n, hlt⟩ (y 1) h (y 3)
    · rw [View.read_writes_cons_unit_of_not_mem (size := S1x1x1x1024.size) (off' := ![0, n, 0, 0]) arg5.view G (k1_off258_inb ⟨n, hlt⟩) (lineOf (pointVec arg2 arg3 arg6 X2 X3 X6 hX ⟨n, hlt⟩)) _ y (k1_off258_eq ⟨n, hlt⟩) 1 (.inl (by show (y 1).val < n; omega))]
      exact ih (by omega) (by omega)

/-- The invariant of the counted loop: the tables and the image as they were, the block with the lines before `k` stored. -/
abbrev loopRes (c : Dev nD) (G : BufTy.Contents (Elt F) arg5.view.ty) (k : ℕ) : sProp 𝕄 :=
  iprop((arg2.view.loc (c : Thread nD τ) ↦[arg2.view.set]{fullShare} X2) ∗ (arg3.view.loc (c : Thread nD τ) ↦[arg3.view.set]{fullShare} X3)
    ∗ (arg6.view.loc (c : Thread nD τ) ↦[arg6.view.set]{fullShare} X6)
    ∗ (∃ f, (arg5.view.loc (c : Thread nD τ) ↦[arg5.view.set]{fullShare} f) ∗ ⌜f = arg5.view.writes (Elt F) G (linesBefore arg2 arg3 arg6 X2 X3 X6 hX k)⌝))

end Values

set_option warn.classDefReducibility false in
/-- THE LOOP by its invariant, at the whole run's algebra. -/
@[sl_loop] def gatherLoop (𝒱 : Variants) (c : Dev nD) (bd : Option 𝒱.V) (E : Set ℕ) (i : grid1.Coords)
    (arg2 : Memref sig .tc .smem S1x1x4000 .i32) (harg2 : arg2.IsWhole) (arg3 : Memref sig .tc .smem S1x4x4000 .f32) (harg3 : arg3.IsWhole)
    (arg4 : Memref sig .tc .hbm S2x65536x1x128 .f32) (harg4 : arg4.IsWhole) (arg5 : Memref sig .tc .vmem S1x125x1x1024 .f32) (harg5 : arg5.IsWhole)
    (arg6 : Memref sig .tc .vmem S65536x1x128 .f32) (harg6 : arg6.IsWhole) (arg7 : DmaSems sig S_)
    (X2 : BufTy.Contents (Elt F) arg2.view.ty) (X3 : BufTy.Contents (Elt F) arg3.view.ty) (X6 : BufTy.Contents (Elt F) arg6.view.ty)
    (G : BufTy.Contents (Elt F) arg5.view.ty) (hX : ∀ j, InImage (arg2.view.read (Elt F) X2 j : BitVec 32)) :
    LoopInvTy_k1_t1 (F := F) Unit ℕ (Pipeline.UD sig nD τ) ℕ 𝒱 c bd E i arg2 harg2 arg3 harg3 arg4 harg4 arg5 harg5 arg6 harg6 arg7 where
  inv k _ := loopRes arg2 arg3 arg5 arg6 X2 X3 X6 hX c G k
  step k acc := by
    iintro ⟨H2, H3, H6, ⟨%f, H5, %hf⟩⟩
    iapply (wp_wand_r Idealize.ShloMosaic.frame (wpE (defs₀ (F := F)) 𝒱 (c : Thread nD τ) bd) E)
    isplitl [H2 H3 H6 H5]
    · iapply (trip arg2 arg3 arg5 arg6 X2 X3 X6 𝒱 c bd i harg2 harg3 arg4 harg4 harg5 harg6 arg7 hX k E f)
      unfold TripRes
      isplitl [H2]; · iexact H2
      isplitl [H3]; · iexact H3
      isplitl [H6]; · iexact H6
      iexact H5
    · unfold TripRes
      iintro %_ ⟨H2, H3, H6, H5⟩
      isplitl [H2]; · iexact H2
      isplitl [H3]; · iexact H3
      isplitl [H6]; · iexact H6
      rw [linesBefore_succ]
      iexists _; isplitl [H5]; · iexact H5
      ipureintro; rw [hf, ← View.writes_append]; rfl

end Cert.KernelIdeal.Hand
end
-- ==== Proof.KernelIdeal.GatherBody.lean ====
/- The gather's body in its two cases: at a batch's first point it copies the batch's image into its scratch, at every other
   point it finds the image there. -/
module

public import proofs.«01_k».proof.Proof.KernelIdeal.GatherLoop

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The algebra of the whole run. -/
local notation "𝕄" => MT nD τ sig Unit (Elt F) ℕ (Pipeline.UD sig nD τ) ℕ

/-- The images of both batches, whole in HBM. -/
abbrev images : Memref sig .tc .hbm S2x65536x1x128 .f32 := Memref.whole main_v61
/-- Contents of a memref's buffer on core `c`. -/
abbrev BufOf (c : Dev nD) {sp : Space} {S : Shape} {e : EltTy} (M : Memref sig .tc sp S e) : Type := Buf (Elt F) (M.view.loc (c : Thread nD τ))
/-- A memref's buffer held whole at contents `f`. -/
abbrev holdsAt (c : Dev nD) {sp : Space} {S : Shape} {e : EltTy} (M : Memref sig .tc sp S e) (f : BufOf (F := F) c M) : sProp 𝕄 :=
  M.view.loc (c : Thread nD τ) ↦{fullShare} f

/-- The image of batch `b`. -/
def imageOf (x : Vec F S2x65536x1x128 .f32) (b : Fin 2) : Vec F S65536x1x128 .f32 := fun y => x (ix4 b (y 0) (y 1) (y 2))

/-- The copy's source, one batch's image cut out of the array of both, reads as that image. -/
theorem read_image (i : grid1.Coords) {inb} {h₁} (x : Vec F S2x65536x1x128 .f32) :
    ((images.slice (Rect.unit (k1_off1 i) S1x65536x1x128.size inb) h₁).squeeze S65536x1x128 squeezes_S1x65536x1x128_S65536x1x128).view.read (Elt F) x
      = imageOf x (i 0) := by
  funext y
  have hq : Shape.reshapeEquiv squeezes_S1x65536x1x128_S65536x1x128.numel_eq y
      = (ix4 (0 : Fin 1) (y 0) (y 1) (y 2) : S1x65536x1x128.Idx) := by
    refine Shape.reshapeEquiv_eq_of_rowMajor _ ?_
    rw [Shape.rowMajor_val_three, Shape.rowMajor_val_four]
    simp [ix4]
  show x ((Rect.unit (s := S2x65536x1x128) (k1_off1 i) S1x65536x1x128.size inb).emb (Shape.reshapeEquiv _ y)) = x (ix4 (i 0) (y 0) (y 1) (y 2))
  rw [hq]
  refine congrArg x (funext fun a => Fin.ext ?_)
  have e := congrFun (k1_off1_eq i) a
  rw [Rect.emb_apply]
  fin_cases a <;> simp_all [Rect.unit, ix4]

section Runs

variable (c : Dev nD) (i : grid1.Coords)
    (arg2 : Memref sig .tc .smem S1x1x4000 .i32) (harg2 : arg2.IsWhole) (arg3 : Memref sig .tc .smem S1x4x4000 .f32) (harg3 : arg3.IsWhole)
    (arg5 : Memref sig .tc .vmem S1x125x1x1024 .f32) (harg5 : arg5.IsWhole)
    (arg6 : Memref sig .tc .vmem S65536x1x128 .f32) (harg6 : arg6.IsWhole)
    (x2 : Vec F S1x1x4000 .i32) (x3 : Vec F S1x4x4000 .f32) (hx : ∀ j, InImage (x2 j : BitVec 32))

include hx in
set_option maxHeartbeats 4000000 in
/-- A point that keeps the image: the block is that of the tables and the image held. -/
theorem run_keep (hc : ¬ k1_cond1 i = 1#1) (x6 : Vec F S65536x1x128 .f32) (W : Waits sig Unit) (K : PUnit → sProp 𝕄) :
    iprop(owns (c : Thread nD τ) arg2 fullShare x2 ∗ owns (c : Thread nD τ) arg3 fullShare x3 ∗ (∃ d, owns (c : Thread nD τ) arg5 fullShare d)
        ∗ owns (c : Thread nD τ) arg6 fullShare x6 ∗ owes (c : Thread nD τ) 0 W
        ∗ (iprop(owns (c : Thread nD τ) arg2 fullShare x2 ∗ owns (c : Thread nD τ) arg3 fullShare x3
            ∗ owns (c : Thread nD τ) arg5 fullShare (blockVal x2 x3 x6) ∗ owns (c : Thread nD τ) arg6 fullShare x6
            ∗ (∃ W', owes (c : Thread nD τ) 0 W')) -∗ K ⟨⟩))
      ⊢ wp frame (wpE (defs₀ (F := F)) Variants.none c none) Set.univ
          (cc1__gather_body i arg2 harg2 arg3 harg3 images (Memref.isWhole_whole _) arg5 harg5 arg6 harg6 cc1_scratch1) K := by
  simp only [cc1__gather_body_eq_skeleton]; unfold cc1__gather_body_skel
  unfold owns
  iintro ⟨⟨%f2, %hf2, H2⟩, ⟨%f3, %hf3, H3⟩, ⟨%d5, %f5, -, H5⟩, ⟨%f6, %hf6, H6⟩, HW, Hk⟩
  have hX : ∀ j, InImage (arg2.view.read (Elt F) f2 j : BitVec 32) := fun j => by rw [hf2]; exact hx j
  sl_exec (disch := first | sl_exact hc)
  sl_step
  iapply Hk
  isplitl [H2]; · iexists _; isplitr; · ipureintro; exact hf2
                  iexact H2
  isplitl [H3]; · iexists _; isplitr; · ipureintro; exact hf3
                  iexact H3
  isplitl [H5]
  · iexists _; isplitr; swap; · iexact H5
    ipureintro; funext y
    rw [← hf2, ← hf3, ← hf6]
    exact read_linesBefore arg2 arg3 arg5 arg6 _ _ _ hX _ k1_t1_loop.trips (le_of_eq trips_eq) y (by rw [trips_eq]; exact (y 1).isLt)
  isplitl [H6]; · iexists _; isplitr; · ipureintro; exact hf6
                  iexact H6
  iexists _; iexact HW

include hx in
set_option maxHeartbeats 4000000 in
/-- A batch's first point: the image of the batch is copied into the scratch, whatever stood there, and the block is that of the
    tables and that image. -/
theorem run_copy (hc : k1_cond1 i = 1#1) (fh : BufOf (F := F) c images) (W : Waits sig Unit) (K : PUnit → sProp 𝕄) :
    iprop(owns (c : Thread nD τ) arg2 fullShare x2 ∗ owns (c : Thread nD τ) arg3 fullShare x3 ∗ (∃ d, owns (c : Thread nD τ) arg5 fullShare d)
        ∗ (∃ d, owns (c : Thread nD τ) arg6 fullShare d) ∗ semVal ((c : Thread nD τ), SemLoc.dma 12) 0 ∗ holdsAt c images fh ∗ owes (c : Thread nD τ) 0 W
        ∗ (iprop(owns (c : Thread nD τ) arg2 fullShare x2 ∗ owns (c : Thread nD τ) arg3 fullShare x3
            ∗ owns (c : Thread nD τ) arg5 fullShare (blockVal x2 x3 (imageOf fh (i 0))) ∗ owns (c : Thread nD τ) arg6 fullShare (imageOf fh (i 0))
            ∗ semVal ((c : Thread nD τ), SemLoc.dma 12) 0 ∗ holdsAt c images fh ∗ (∃ W', owes (c : Thread nD τ) 0 W')) -∗ K ⟨⟩))
      ⊢ wp frame (wpE (defs₀ (F := F)) Variants.none c none) Set.univ
          (cc1__gather_body i arg2 harg2 arg3 harg3 images (Memref.isWhole_whole _) arg5 harg5 arg6 harg6 cc1_scratch1) K := by
  simp only [cc1__gather_body_eq_skeleton]; unfold cc1__gather_body_skel
  unfold owns
  iintro ⟨⟨%f2, %hf2, H2⟩, ⟨%f3, %hf3, H3⟩, ⟨%d5, %f5, -, H5⟩, ⟨%d6, %f6, -, H6⟩, Hq, Hh, HW, Hk⟩
  have hX : ∀ j, InImage (arg2.view.read (Elt F) f2 j : BitVec 32) := fun j => by rw [hf2]; exact hx j
  sl_exec (disch := first | sl_exact hc)
  sl_step
  have h6 : ∀ f, arg6.view.read (Elt F) (arg6.view.writes (Elt F) f [⟨Rect.whole S65536x1x128, run_copy.sl.dma0 c i hc fh⟩]) = imageOf fh (i 0) :=
    fun f => (View.read_writes_whole _ f _).trans (by delta run_copy.sl.dma0; exact read_image i fh)
  iapply Hk
  isplitl [H2]; · iexists _; isplitr; · ipureintro; exact hf2
                  iexact H2
  isplitl [H3]; · iexists _; isplitr; · ipureintro; exact hf3
                  iexact H3
  isplitl [H5]
  · iexists _; isplitr; swap; · iexact H5
    ipureintro; funext y
    rw [← hf2, ← hf3, ← h6 arg6.view.junk]
    exact read_linesBefore arg2 arg3 arg5 arg6 _ _ _ hX _ k1_t1_loop.trips (le_of_eq trips_eq) y (by rw [trips_eq]; exact (y 1).isLt)
  isplitl [H6]
  · iexists _; isplitr; swap; · iexact H6
    ipureintro; exact h6 _
  isplitl [Hq]; · iexact Hq
  isplitl [Hh]; · iexact Hh
  iexists _; iexact HW

end Runs

end Cert.KernelIdeal.Hand
end
-- ==== Proof.KernelIdeal.GatherRegion.lean ====
/- The second call, the gather: its proof data and its obligation. Between points the scratch carries the image of the batch
   whose points are being run; before a batch's first point it may hold anything. -/
module

public import proofs.«01_k».proof.Proof.KernelIdeal.GatherBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.KernelIdeal Cert.KernelIdeal.Gen

variable {F : FTy → Type} [FloatOps F]

/-- The algebra of the whole run. -/
local notation "𝕄" => MT nD τ sig Unit (Elt F) ℕ (Pipeline.UD sig nD τ) ℕ

variable (W : Dev nD → Valuation τ sig (Elt F))

/-- The block of window `w` at point `t`, cut out of its array at the contents `W`. -/
def gatherBlock (c : Dev nD) (w : Fin cfg1.W) (t : Fin cfg1.N) :
    ((cfg1.win w).xblock (cfg1.grid.coords t)).Idx → Elt F (cfg1.win w).elt :=
  ((cfg1.win w).blk t).view.read (Elt F) (W c (Proc.devRef .tc (Pipeline.arrRef spec1 w)))

/-- The array of both batches' images at the contents `W`. -/
abbrev imagesAt (c : Dev nD) : Vec F S2x65536x1x128 .f32 := W c (Proc.devRef .tc main_v61)

/-- The batch whose points include point `n` of the grid. -/
def batchOf (n : ℕ) : Fin 2 := ⟨n / 80 % 2, Nat.mod_lt _ (by decide)⟩

/-- The grid's first coordinate is the batch. -/
theorem coord_batch (t : Fin grid1.N) : grid1.coords t 0 = batchOf t.val :=
  Fin.ext (Pipeline.Grid.coords_val t 0 (by decide) rfl)

/-- A point copies an image exactly when it is a batch's first. -/
theorem copies_iff : ∀ t : Fin grid1.N, k1_cond1 (grid1.coords t) = 1#1 ↔ t.val % 80 = 0 := fun t => by
  have e0 : (grid1.coords t 0).val = t.val / 80 % 2 := Pipeline.Grid.coords_val t 0 (by decide) rfl
  have e1 : (grid1.coords t 1).val = t.val / 1 % 80 := Pipeline.Grid.coords_val t 1 (by decide) rfl
  have ht : t.val < 160 := t.isLt
  simp only [k1_cond1, e0, e1]
  word_cmp

/-- The scratch's memref. -/
abbrev scratch : Memref sig .tc .vmem S65536x1x128 .f32 := Memref.whole cc1_scratch0

/-- What the scratch holds before point `n`: anything if a batch starts there, else the batch's image. -/
def carried (c : Dev nD) (n : ℕ) : sProp 𝕄 :=
  if n % 80 = 0 then iprop(∃ d, owns (c : Thread nD τ) scratch fullShare d)
  else owns (c : Thread nD τ) scratch fullShare (imageOf (imagesAt W c) (batchOf n))

/-- The scoped buffers of the core that this call does not touch. -/
def untouched (c : Dev nD) : sProp 𝕄 :=
  Pipeline.scopedRestBut (Ix := Unit) (Name := ℕ) (U := Pipeline.UD sig nD τ) (Lvl := ℕ) (Val := Elt F) spec1 c [cc1_scratch0]

/-- The region's invariant before point `n`. -/
def gatherInv (c : Dev nD) (n : ℕ) : sProp 𝕄 :=
  iprop(carried W c n ∗ untouched c ∗ (∃ r, prngReg c r) ∗ semVal ((c : Thread nD τ), SemLoc.dma 12) 0 ∗ holdsAt c images (imagesAt W c))

/-- The region's proof data entered at the contents `W`: the tables' buffers hold their blocks, the output's is left at the
    gathered block. -/
def gatherDat (c : Dev nD) : Dat τ (Elt F) Unit ℕ (Pipeline.UD sig nD τ) ℕ cfg1 c where
  A w := W c (Proc.devRef .tc (Pipeline.arrRef spec1 w))
  after w t := match w with
    | ⟨0, _⟩ => gatherBlock W c 0 t
    | ⟨1, _⟩ => gatherBlock W c 1 t
    | ⟨2, _⟩ => blockVal (gatherBlock W c 0 t) (gatherBlock W c 1 t) (imageOf (imagesAt W c) (batchOf t.val))
  Φ t := gatherInv W c t.val
  q _ := fullShare
  owed _ := 0

theorem gather_A (c : Dev nD) (w : Fin cfg1.W) :
    (gatherDat W c).A w = W c (Proc.devRef .tc (Pipeline.arrRef spec1 w)) := by dsimp only [gatherDat]

/-- The body leaves the output's buffer at the gathered block. -/
theorem gather_after_out (c : Dev nD) (t : Fin cfg1.N) :
    (gatherDat W c).after 2 t = blockVal (gatherBlock W c 0 t) (gatherBlock W c 1 t) (imageOf (imagesAt W c) (batchOf t.val)) := by
  dsimp only [gatherDat]

/-- The body leaves the tables' buffers as they are. -/
theorem gather_after_in (c : Dev nD) (t : Fin cfg1.N) :
    (gatherDat W c).after 0 t = gatherBlock W c 0 t ∧ (gatherDat W c).after 1 t = gatherBlock W c 1 t := by
  dsimp only [gatherDat]; simp only [and_self]

/-- The body finds the tables' blocks in their buffers. -/
theorem gather_before (c : Dev nD) (t : Fin cfg1.N) :
    (∀ d, (gatherDat W c).before 0 t d = gatherBlock W c 0 t) ∧ (∀ d, (gatherDat W c).before 1 t d = gatherBlock W c 1 t) := by
  refine ⟨fun d => ?_, fun d => ?_⟩
  · rw [(gatherDat W c).before_fetched 0 t (fetch1_0 t) d]
    unfold Dat.fetched Dat.blockOf gatherBlock; rw [gather_A]; try rfl
  · rw [(gatherDat W c).before_fetched 1 t (fetch1_1 t) d]
    unfold Dat.fetched Dat.blockOf gatherBlock; rw [gather_A]; try rfl

/-- What the body is called with at point `t`. -/
def gatherPre (c : Dev nD) (t : Fin cfg1.N) : sProp 𝕄 :=
  iprop((gatherDat W c).Φ t.castSucc ∗ (gatherDat W c).owesAt () t.castSucc
    ∗ (∃ d, owns (c : Thread nD τ) (st1_0 t) fullShare ((gatherDat W c).before 0 t d))
    ∗ (∃ d, owns (c : Thread nD τ) (st1_1 t) fullShare ((gatherDat W c).before 1 t d))
    ∗ (∃ d, owns (c : Thread nD τ) (st1_2 t) fullShare ((gatherDat W c).before 2 t d)))

/-- What the body returns at point `t`. -/
def gatherPost (c : Dev nD) (t : Fin cfg1.N) : sProp 𝕄 :=
  iprop((gatherDat W c).Φ t.succ ∗ (gatherDat W c).owesAt () t.succ
    ∗ owns (c : Thread nD τ) (st1_0 t) fullShare ((gatherDat W c).after 0 t)
    ∗ owns (c : Thread nD τ) (st1_1 t) fullShare ((gatherDat W c).after 1 t)
    ∗ owns (c : Thread nD τ) (st1_2 t) fullShare ((gatherDat W c).after 2 t))

theorem carried_start (c : Dev nD) (n : ℕ) (h : n % 80 = 0) :
    carried W c n = iprop(∃ d, owns (c : Thread nD τ) scratch fullShare d) := by unfold carried; rw [if_pos h]

theorem carried_within (c : Dev nD) (n : ℕ) (h : ¬ n % 80 = 0) :
    carried W c n = owns (c : Thread nD τ) scratch fullShare (imageOf (imagesAt W c) (batchOf n)) := by unfold carried; rw [if_neg h]

/-- After a point the scratch holds the image of that point's batch, which is more than the next point asks for. -/
theorem carried_next (c : Dev nD) (n : ℕ) :
    owns (c : Thread nD τ) scratch fullShare (imageOf (imagesAt W c) (batchOf n)) ⊢ carried W c (n + 1) := by
  unfold carried
  by_cases h : (n + 1) % 80 = 0
  · rw [if_pos h]; iintro H; iexists _; iexact H
  · rw [if_neg h, show batchOf (n + 1) = batchOf n from Fin.ext (by show (n + 1) / 80 % 2 = n / 80 % 2; omega)]

set_option maxHeartbeats 1000000 in
/-- The body at a point of the grid, the tables' words all lying inside the image. -/
theorem gather_point (c : Dev nD) (t : Fin cfg1.N) (hIn : ∀ j, InImage (gatherBlock W c 0 t j : BitVec 32)) :
    gatherPre W c t ⊢ wp frame (wpE (defs₀ (F := F)) Variants.none c none) Set.univ (bodyAt1 t) (fun _ => gatherPost W c t) := by
  unfold gatherPre gatherPost bodyAt1
  obtain ⟨b0, b1⟩ := gather_before W c t
  obtain ⟨p0, p1⟩ := gather_after_in W c t
  simp only [b0, b1]
  rw [show (gatherDat W c).Φ t.castSucc = gatherInv W c t.val from rfl, show (gatherDat W c).Φ t.succ = gatherInv W c (t.val + 1) from rfl,
    p0, p1, gather_after_out]
  unfold gatherInv Dat.owesAt Pipeline.owesWithin
  rw [show (gatherDat W c).owed t.castSucc = 0 from rfl, show (gatherDat W c).owed t.succ = 0 from rfl]
  by_cases h : t.val % 80 = 0
  · rw [carried_start W c t.val h]
    iintro ⟨⟨HS, Hu, Hp, Hq, Hh⟩, ⟨%W0, -, HW⟩, ⟨%d0, H0⟩, ⟨%d1, H1⟩, ⟨%d2, H2⟩⟩
    iapply (run_copy c (grid1.coords t) _ _ _ _ _ _ _ _ (gatherBlock W c 0 t) (gatherBlock W c 1 t) hIn ((copies_iff t).mpr h) (imagesAt W c) W0 _)
    isplitl [H0]; · iexact H0
    isplitl [H1]; · iexact H1
    isplitl [H2]; · iexists _; iexact H2
    isplitl [HS]; · iexact HS
    isplitl [Hq]; · iexact Hq
    isplitl [Hh]; · iexact Hh
    isplitl [HW]; · iexact HW
    rw [coord_batch t]
    iintro ⟨H0, H1, H2, HS, Hq, Hh, ⟨%W', HW⟩⟩
    isplitl [HS Hu Hp Hq Hh]
    · isplitl [HS]; · iapply (carried_next W c t.val); iexact HS
      isplitl [Hu]; · iexact Hu
      isplitl [Hp]; · iexact Hp
      isplitl [Hq]; · iexact Hq
      iexact Hh
    isplitl [HW]
    · iexists W'; isplitr; · ipureintro; exact fun _ _ => Or.inl trivial
      iexact HW
    isplitl [H0]; · iexact H0
    isplitl [H1]; · iexact H1
    iexact H2
  · rw [carried_within W c t.val h]
    iintro ⟨⟨HS, Hu, Hp, Hq, Hh⟩, ⟨%W0, -, HW⟩, ⟨%d0, H0⟩, ⟨%d1, H1⟩, ⟨%d2, H2⟩⟩
    iapply (run_keep c (grid1.coords t) _ _ _ _ _ _ _ _ (gatherBlock W c 0 t) (gatherBlock W c 1 t) hIn (fun h' => h ((copies_iff t).mp h'))
      (imageOf (imagesAt W c) (batchOf t.val)) W0 _)
    isplitl [H0]; · iexact H0
    isplitl [H1]; · iexact H1
    isplitl [H2]; · iexists _; iexact H2
    isplitl [HS]; · iexact HS
    isplitl [HW]; · iexact HW
    iintro ⟨H0, H1, H2, HS, ⟨%W', HW⟩⟩
    isplitl [HS Hu Hp Hq Hh]
    · isplitl [HS]; · iapply (carried_next W c t.val); iexact HS
      isplitl [Hu]; · iexact Hu
      isplitl [Hp]; · iexact Hp
      isplitl [Hq]; · iexact Hq
      iexact Hh
    isplitl [HW]
    · iexists W'; isplitr; · ipureintro; exact fun _ _ => Or.inl trivial
      iexact HW
    isplitl [H0]; · iexact H0
    isplitl [H1]; · iexact H1
    iexact H2

/-- The region's body obligation, every word of the index table lying inside the image. -/
theorem gather_obligation (c : Dev nD) (hIn : ∀ t j, InImage (gatherBlock W c 0 t j : BitVec 32)) :
    BodyObligation (gatherDat W c) (defs₀ (F := F)) Variants.none () Set.univ := fun t => by
  have row : defs₀ (F := F) .tc cfg1.body (cfg1.bodyArgs t (cfg1.slots t)) = bodyAt1 t := by
    unfold defs₀; rw [Defs.onTc_tc]
  rw [bigSep_W1, bigSep_W1, row]
  exact triple_restated (gather_point W c t (hIn t)) rfl .rfl fun _ => .rfl

/-- The call's own semaphore, which its copy signals. -/
def ownSem : Fin 1 → SemLoc sig := fun _ => SemLoc.dma 12

theorem ownSem_facts : Pipeline.OwnSemFacts spec1 ownSem := by decide

/-- The scoped buffers split into the scratch and the untouched ones. -/
theorem scopedRest_split (c : Dev nD) :
    (Pipeline.scopedRest (Ix := Unit) (Name := ℕ) (U := Pipeline.UD sig nD τ) (Lvl := ℕ) (Val := Elt F) spec1 c : sProp 𝕄)
      = iprop((∃ d, owns (c : Thread nD τ) scratch fullShare d) ∗ untouched c) := by
  rw [Pipeline.scopedRest_split_of_list spec1 c [cc1_scratch0] (by decide) (by decide)]
  unfold untouched
  simp only [owns_whole]
  rfl

/-- The call's own semaphores are the one its copy signals. -/
theorem ownSems_eq (c : Dev nD) :
    (Pipeline.ownSems0 (Ix := Unit) (Name := ℕ) (U := Pipeline.UD sig nD τ) (Lvl := ℕ) (Val := Elt F) (τ := τ) ownSem c : sProp 𝕄)
      = semVal ((c : Thread nD τ), SemLoc.dma 12) 0 :=
  Pipeline.ownSems0_eq_of_list c ownSem [0] (by decide) (by decide)

end Cert.KernelIdeal.Hand
end
-- ==== Proof.KernelIdeal.MlpRegion.lean ====
/- The last call, the three-layer perceptron: its body, its proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.VecWindow
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)
open Cert.KernelIdeal Cert.KernelIdeal.Gen

variable {F : FTy → Type} [FloatOps F]

/-- The algebra of the whole run. -/
local notation "𝕄" => MT nD τ sig Unit (Elt F) ℕ (Pipeline.UD sig nD τ) ℕ

variable (W : Dev nD → Valuation τ sig (Elt F))

/-- The block of window `w` at point `t`, cut out of its array at the contents `W`. -/
def mlpBlock (c : Dev nD) (w : Fin cfg2.W) (t : Fin cfg2.N) :
    ((cfg2.win w).xblock (cfg2.grid.coords t)).Idx → Elt F (cfg2.win w).elt :=
  ((cfg2.win w).blk t).view.read (Elt F) (W c (Proc.devRef .tc (Pipeline.arrRef spec2 w)))

set_option maxHeartbeats 2000000 in
/-- The body on whole buffers: the inputs stay, and the output's buffer is left at the payload of the inputs. -/
theorem mlp_body (c : Dev nD) (i : grid2.Coords)
    (a0 : Memref sig .tc .vmem S400x1024 .f32) (h0 : a0.IsWhole)
    (a1 : Memref sig .tc .vmem S1024x1024 .f32) (h1 : a1.IsWhole)
    (a2 : Memref sig .tc .vmem S1x1024 .f32) (h2 : a2.IsWhole)
    (a3 : Memref sig .tc .vmem S1024x1024 .f32) (h3 : a3.IsWhole)
    (a4 : Memref sig .tc .vmem S1x1024 .f32) (h4 : a4.IsWhole)
    (a5 : Memref sig .tc .vmem S128x1024 .f32) (h5 : a5.IsWhole)
    (a6 : Memref sig .tc .vmem S1x128 .f32) (h6 : a6.IsWhole)
    (a7 : Memref sig .tc .vmem S400x128 .f32) (h7 : a7.IsWhole)
    (x0 : Vec F S400x1024 .f32) (x1 : Vec F S1024x1024 .f32) (x2 : Vec F S1x1024 .f32) (x3 : Vec F S1024x1024 .f32) (x4 : Vec F S1x1024 .f32) (x5 : Vec F S128x1024 .f32) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (k2_pay1 x0 x1 x2 x3 x4 x5 x6)) -∗ K ⟨⟩))
      ⊢ wp frame (wpE (defs₀ (F := F)) Variants.none c none) Set.univ (cc2__mlp_body i a0 h0 a1 h1 a2 h2 a3 h3 a4 h4 a5 h5 a6 h6 a7 h7) K := by
  simp only [cc2__mlp_body_eq_skeleton]; unfold cc2__mlp_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d, %f, -, H⟩, Hk⟩
  subst e0 e1 e2 e3 e4 e5 e6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr; swap; · iexact H
  ipureintro
  refine (View.read_writes_full _ _ _ _ _).trans ?_
  refine congr (congr (congr (congr (congr (congr (congrArg k2_pay1 ?_) ?_) ?_) ?_) ?_) ?_) ?_ <;> exact View.readAt_full _ _ _

/-- The region's proof data entered at the contents `W`: every input's buffer holds its block, the output's is left at the
    payload of the blocks. -/
def mlpDat (c : Dev nD) : Dat τ (Elt F) Unit ℕ (Pipeline.UD sig nD τ) ℕ cfg2 c where
  A w := W c (Proc.devRef .tc (Pipeline.arrRef spec2 w))
  after w t := match w with
    | ⟨0, _⟩ => mlpBlock W c 0 t
    | ⟨1, _⟩ => mlpBlock W c 1 t
    | ⟨2, _⟩ => mlpBlock W c 2 t
    | ⟨3, _⟩ => mlpBlock W c 3 t
    | ⟨4, _⟩ => mlpBlock W c 4 t
    | ⟨5, _⟩ => mlpBlock W c 5 t
    | ⟨6, _⟩ => mlpBlock W c 6 t
    | ⟨7, _⟩ => k2_pay1 (mlpBlock W c 0 t) (mlpBlock W c 1 t) (mlpBlock W c 2 t) (mlpBlock W c 3 t) (mlpBlock W c 4 t) (mlpBlock W c 5 t) (mlpBlock W c 6 t)
  Φ _ := Pipeline.ΦA spec2 c
  q _ := fullShare
  owed _ := 0

theorem mlp_A (c : Dev nD) (w : Fin cfg2.W) :
    (mlpDat W c).A w = W c (Proc.devRef .tc (Pipeline.arrRef spec2 w)) := by dsimp only [mlpDat]

/-- The body leaves the output's buffer at the payload of the blocks. -/
theorem mlp_after_out (c : Dev nD) (t : Fin cfg2.N) :
    (mlpDat W c).after 7 t = k2_pay1 (mlpBlock W c 0 t) (mlpBlock W c 1 t) (mlpBlock W c 2 t) (mlpBlock W c 3 t) (mlpBlock W c 4 t) (mlpBlock W c 5 t) (mlpBlock W c 6 t) := by dsimp only [mlpDat]

/-- The body leaves every input's buffer as it is. -/
theorem mlp_after_in (c : Dev nD) (t : Fin cfg2.N) :
    (mlpDat W c).after 0 t = mlpBlock W c 0 t ∧ (mlpDat W c).after 1 t = mlpBlock W c 1 t ∧ (mlpDat W c).after 2 t = mlpBlock W c 2 t ∧ (mlpDat W c).after 3 t = mlpBlock W c 3 t ∧ (mlpDat W c).after 4 t = mlpBlock W c 4 t ∧ (mlpDat W c).after 5 t = mlpBlock W c 5 t ∧ (mlpDat W c).after 6 t = mlpBlock W c 6 t := by
  dsimp only [mlpDat]; simp only [and_self]

/-- The body finds every input's block in its buffer. -/
theorem mlp_before (c : Dev nD) (t : Fin cfg2.N) :
    (∀ d, (mlpDat W c).before 0 t d = mlpBlock W c 0 t) ∧ (∀ d, (mlpDat W c).before 1 t d = mlpBlock W c 1 t) ∧ (∀ d, (mlpDat W c).before 2 t d = mlpBlock W c 2 t) ∧ (∀ d, (mlpDat W c).before 3 t d = mlpBlock W c 3 t) ∧ (∀ d, (mlpDat W c).before 4 t d = mlpBlock W c 4 t) ∧ (∀ d, (mlpDat W c).before 5 t d = mlpBlock W c 5 t) ∧ (∀ d, (mlpDat W c).before 6 t d = mlpBlock W c 6 t) := by
  have key : ∀ (w : Fin cfg2.W) (hw : (cfg2.win w).isOut = false) (hlive : ∀ i, cfg2.idle w i = false)
      (hclip : ∀ t t' : Fin cfg2.N, (cfg2.win w).clip (cfg2.grid.coords t) = (cfg2.win w).clip (cfg2.grid.coords t'))
      (hkeep : ∀ t, (cfg2.win w).cut (cfg2.grid.coords t) ((mlpDat W c).after w t) = mlpBlock W c w t) (d),
      (mlpDat W c).before w t d = (mlpDat W c).fetched w t d := fun w hw hlive hclip hkeep d =>
    (mlpDat W c).before_in_eq_fetched w hw hlive (fun t t' _ => hclip t t')
      (fun t => by rw [hkeep]; unfold Dat.blockOf mlpBlock; rw [mlp_A]; try rfl) t d
  refine ⟨?_, ?_, ?_, ?_, ?_, ?_, ?_⟩ <;> intro d
  · exact (key 0 rfl (fun _ => rfl) (fun _ _ => rfl) (fun t => by dsimp only [mlpDat]) d).trans
      (by unfold Dat.fetched Dat.blockOf mlpBlock; rw [mlp_A]; try rfl)
  · exact (key 1 rfl (fun _ => rfl) (fun _ _ => rfl) (fun t => by dsimp only [mlpDat]) d).trans
      (by unfold Dat.fetched Dat.blockOf mlpBlock; rw [mlp_A]; try rfl)
  · exact (key 2 rfl (fun _ => rfl) (fun _ _ => rfl) (fun t => by dsimp only [mlpDat]) d).trans
      (by unfold Dat.fetched Dat.blockOf mlpBlock; rw [mlp_A]; try rfl)
  · exact (key 3 rfl (fun _ => rfl) (fun _ _ => rfl) (fun t => by dsimp only [mlpDat]) d).trans
      (by unfold Dat.fetched Dat.blockOf mlpBlock; rw [mlp_A]; try rfl)
  · exact (key 4 rfl (fun _ => rfl) (fun _ _ => rfl) (fun t => by dsimp only [mlpDat]) d).trans
      (by unfold Dat.fetched Dat.blockOf mlpBlock; rw [mlp_A]; try rfl)
  · exact (key 5 rfl (fun _ => rfl) (fun _ _ => rfl) (fun t => by dsimp only [mlpDat]) d).trans
      (by unfold Dat.fetched Dat.blockOf mlpBlock; rw [mlp_A]; try rfl)
  · exact (key 6 rfl (fun _ => rfl) (fun _ _ => rfl) (fun t => by dsimp only [mlpDat]) d).trans
      (by unfold Dat.fetched Dat.blockOf mlpBlock; rw [mlp_A]; try rfl)

/-- What the body is called with at point `t`. -/
def mlpPre (c : Dev nD) (t : Fin cfg2.N) : sProp 𝕄 :=
  iprop((mlpDat W c).Φ t.castSucc ∗ (mlpDat W c).owesAt () t.castSucc
    ∗ (∃ d, owns (c : Thread nD τ) (st2_0 t) fullShare ((mlpDat W c).before 0 t d))
    ∗ (∃ d, owns (c : Thread nD τ) (st2_1 t) fullShare ((mlpDat W c).before 1 t d))
    ∗ (∃ d, owns (c : Thread nD τ) (st2_2 t) fullShare ((mlpDat W c).before 2 t d))
    ∗ (∃ d, owns (c : Thread nD τ) (st2_3 t) fullShare ((mlpDat W c).before 3 t d))
    ∗ (∃ d, owns (c : Thread nD τ) (st2_4 t) fullShare ((mlpDat W c).before 4 t d))
    ∗ (∃ d, owns (c : Thread nD τ) (st2_5 t) fullShare ((mlpDat W c).before 5 t d))
    ∗ (∃ d, owns (c : Thread nD τ) (st2_6 t) fullShare ((mlpDat W c).before 6 t d))
    ∗ (∃ d, owns (c : Thread nD τ) (st2_7 t) fullShare ((mlpDat W c).before 7 t d)))

/-- What the body returns at point `t`. -/
def mlpPost (c : Dev nD) (t : Fin cfg2.N) : sProp 𝕄 :=
  iprop((mlpDat W c).Φ t.succ ∗ (mlpDat W c).owesAt () t.succ
    ∗ owns (c : Thread nD τ) (st2_0 t) fullShare ((mlpDat W c).after 0 t)
    ∗ owns (c : Thread nD τ) (st2_1 t) fullShare ((mlpDat W c).after 1 t)
    ∗ owns (c : Thread nD τ) (st2_2 t) fullShare ((mlpDat W c).after 2 t)
    ∗ owns (c : Thread nD τ) (st2_3 t) fullShare ((mlpDat W c).after 3 t)
    ∗ owns (c : Thread nD τ) (st2_4 t) fullShare ((mlpDat W c).after 4 t)
    ∗ owns (c : Thread nD τ) (st2_5 t) fullShare ((mlpDat W c).after 5 t)
    ∗ owns (c : Thread nD τ) (st2_6 t) fullShare ((mlpDat W c).after 6 t)
    ∗ owns (c : Thread nD τ) (st2_7 t) fullShare ((mlpDat W c).after 7 t))

/-- The body at a point of the grid. -/
theorem mlp_point (c : Dev nD) (t : Fin cfg2.N) :
    mlpPre W c t ⊢ wp frame (wpE (defs₀ (F := F)) Variants.none c none) Set.univ (bodyAt2 t) (fun _ => mlpPost W c t) := by
  unfold mlpPre mlpPost bodyAt2
  obtain ⟨b0, b1, b2, b3, b4, b5, b6⟩ := mlp_before W c t
  obtain ⟨p0, p1, p2, p3, p4, p5, p6⟩ := mlp_after_in W c t
  simp only [b0, b1, b2, b3, b4, b5, b6]
  rw [show (mlpDat W c).Φ t.succ = (mlpDat W c).Φ t.castSucc from rfl,
    show (mlpDat W c).owesAt () t.succ = (mlpDat W c).owesAt () t.castSucc from rfl,
    p0, p1, p2, p3, p4, p5, p6, mlp_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d, H⟩⟩
  iapply (mlp_body c (grid2.coords t) _ _ _ _ _ _ _ _ _ _ _ _ _ _ _ _ (mlpBlock W c 0 t) (mlpBlock W c 1 t) (mlpBlock W c 2 t) (mlpBlock W c 3 t) (mlpBlock W c 4 t) (mlpBlock W c 5 t) (mlpBlock W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H]; · iexists _; iexact H
  iintro ⟨H0, H1, H2, H3, H4, H5, H6, H⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

/-- The region's body obligation. -/
theorem mlp_obligation (c : Dev nD) : BodyObligation (mlpDat W c) (defs₀ (F := F)) Variants.none () Set.univ := fun t => by
  have row : defs₀ (F := F) .tc cfg2.body (cfg2.bodyArgs t (cfg2.slots t)) = bodyAt2 t := by
    unfold defs₀; rw [Defs.onTc_tc]
  rw [bigSep_W2, bigSep_W2, row]
  exact triple_restated (mlp_point W c t) rfl .rfl fun _ => .rfl

end Cert.KernelIdeal.Hand
end
-- ==== Proof.KernelIdeal.WholeRun.lean ====
/- The whole run: the three calls' records, the buffers' contents between them, and the run of the program from any memory to
   the contents the calls and the host operations compute, given that the gather's index words lie inside the image. -/
module

public import proofs.«01_k».proof.Proof.KernelIdeal.Fc1Region
public import proofs.«01_k».proof.Proof.KernelIdeal.GatherRegion
public import proofs.«01_k».proof.Proof.KernelIdeal.MlpRegion
public import proofs.«01_k».proof.Proof.Gen.KernelIdeal.Regions
public import Idealize.ShloMosaic.Lib.Pipeline.RegionArraysS
public import Idealize.ShloMosaic.Lib.Pipeline.RegionArraysD

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg)
open Cert.KernelIdeal Cert.KernelIdeal.Gen

variable {F : FTy → Type} [FloatOps F]

/-- The algebra of the whole run. -/
local notation "𝕄" => MT nD τ sig Unit (Elt F) ℕ (Pipeline.UD sig nD τ) ℕ

variable (m : (ℓ : Loc nD τ sig) → Buf (Elt F) ℓ)

/-! ## The buffers' contents before and after each call -/

/-- The host operations between the first call and the gather. -/
abbrev mid (v : Valuation τ sig (Elt F)) : Valuation τ sig (Elt F) :=
  StableHlo.after hostOps1_10 (StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2
      (StableHlo.after hostOps1_1 (StableHlo.after hostOps1 v))))))))))

/-- Before the first call. -/
def enter0 (c : Dev nD) : Valuation τ sig (Elt F) := V1 m c
/-- After the first call. -/
def leave0 (c : Dev nD) : Valuation τ sig (Elt F) := Pipeline.afterRegion (fc1Dat (enter0 m) c) (enter0 m c)
/-- Before the gather. -/
def enter1 (c : Dev nD) : Valuation τ sig (Elt F) := mid (leave0 m c)
/-- After the gather. -/
def leave1 (c : Dev nD) : Valuation τ sig (Elt F) := Pipeline.afterRegion (gatherDat (enter1 m) c) (enter1 m c)
/-- Before the perceptron. -/
def enter2 (c : Dev nD) : Valuation τ sig (Elt F) := StableHlo.after hostOps2 (leave1 m c)
/-- After the perceptron. -/
def leave2 (c : Dev nD) : Valuation τ sig (Elt F) := Pipeline.afterRegion (mlpDat (enter2 m) c) (enter2 m c)
/-- At the end. -/
def atEnd (c : Dev nD) : Valuation τ sig (Elt F) := StableHlo.after hostOps3 (leave2 m c)

/-- What each call leaves in each buffer, by the number of its item in the program. -/
def left : Outs (F := F) := fun n r c =>
  match n with
  | 2 => leave0 m c (Proc.devRef .tc r)
  | 14 => leave1 m c (Proc.devRef .tc r)
  | _ => leave2 m c (Proc.devRef .tc r)

/-- A valuation that keeps `V` off `r` is `V` with `r` updated. -/
theorem update_of_keeps (V V' : Valuation τ sig (Elt F)) (r : DevRef τ sig) (h : ∀ b, b ≠ r → V' b = V b) :
    Function.update V r (V' r) = V' := by
  funext b
  by_cases hb : b = r
  · subst hb; rw [Function.update_self]
  · rw [Function.update_of_ne hb, h b hb]

theorem leave0_keeps (c : Dev nD) (b : DevRef τ sig) (h : b ≠ Proc.devRef .tc main_v2) : leave0 m c b = enter0 m c b := by
  unfold leave0
  by_cases hb : ∃ w, b = Proc.devRef .tc (Pipeline.arrRef spec0 w)
  · obtain ⟨w, rfl⟩ := hb
    refine Pipeline.afterRegion_keeps (fc1Dat (enter0 m) c) _ winFacts0.arr_inj (fc1_A _ c) _ ?_
    intro w' hw'
    obtain rfl := winFacts0.arr_inj hw'
    fin_cases w' <;> first | rfl | exact absurd rfl h
  · exact Pipeline.afterRegion_off (fc1Dat (enter0 m) c) _ Finset.univ b (by
      refine Finset.mem_sdiff.mpr ⟨Finset.mem_univ _, fun hm => hb ?_⟩
      obtain ⟨r, hr, e⟩ := Finset.mem_map.mp hm
      obtain ⟨w, -, rfl⟩ := Finset.mem_image.mp hr
      exact ⟨w, e.symm⟩)

theorem leave1_keeps (c : Dev nD) (b : DevRef τ sig) (h : b ≠ Proc.devRef .tc main_v62) : leave1 m c b = enter1 m c b := by
  unfold leave1
  by_cases hb : ∃ w, b = Proc.devRef .tc (Pipeline.arrRef spec1 w)
  · obtain ⟨w, rfl⟩ := hb
    refine Pipeline.afterRegion_keeps (gatherDat (enter1 m) c) _ winFacts1.arr_inj (gather_A _ c) _ ?_
    intro w' hw'
    obtain rfl := winFacts1.arr_inj hw'
    fin_cases w' <;> first | rfl | exact absurd rfl h
  · exact Pipeline.afterRegion_off (gatherDat (enter1 m) c) _ Finset.univ b (by
      refine Finset.mem_sdiff.mpr ⟨Finset.mem_univ _, fun hm => hb ?_⟩
      obtain ⟨r, hr, e⟩ := Finset.mem_map.mp hm
      obtain ⟨w, -, rfl⟩ := Finset.mem_image.mp hr
      exact ⟨w, e.symm⟩)

theorem leave2_keeps (c : Dev nD) (b : DevRef τ sig) (h : b ≠ Proc.devRef .tc main_v77) : leave2 m c b = enter2 m c b := by
  unfold leave2
  by_cases hb : ∃ w, b = Proc.devRef .tc (Pipeline.arrRef spec2 w)
  · obtain ⟨w, rfl⟩ := hb
    refine Pipeline.afterRegion_keeps (mlpDat (enter2 m) c) _ winFacts2.arr_inj (mlp_A _ c) _ ?_
    intro w' hw'
    obtain rfl := winFacts2.arr_inj hw'
    fin_cases w' <;> first | rfl | exact absurd rfl h
  · exact Pipeline.afterRegion_off (mlpDat (enter2 m) c) _ Finset.univ b (by
      refine Finset.mem_sdiff.mpr ⟨Finset.mem_univ _, fun hm => hb ?_⟩
      obtain ⟨r, hr, e⟩ := Finset.mem_map.mp hm
      obtain ⟨w, -, rfl⟩ := Finset.mem_image.mp hr
      exact ⟨w, e.symm⟩)

theorem V2_eq (c : Dev nD) : V2 m (left m) c = leave0 m c :=
  update_of_keeps (V1 m c) (leave0 m c) _ (leave0_keeps m c)

theorem V13_eq (c : Dev nD) : V13 m (left m) c = enter1 m c := by
  show mid (V2 m (left m) c) = _
  rw [V2_eq]; rfl

theorem V14_eq (c : Dev nD) : V14 m (left m) c = leave1 m c := by
  have e : left m 14 main_v61 c = V13 m (left m) c (Proc.devRef .tc main_v61) := by
    rw [V13_eq]; exact leave1_keeps m c _ (by decide)
  show Function.update (Function.update (V13 m (left m) c) _ _) _ (left m 14 main_v61 c) = _
  rw [e, V13_eq]
  have e2 : Function.update (enter1 m c) (Proc.devRef .tc main_v62) (left m 14 main_v62 c) = leave1 m c :=
    update_of_keeps (enter1 m c) (leave1 m c) _ (leave1_keeps m c)
  rw [e2, ← leave1_keeps m c (Proc.devRef .tc main_v61) (by decide)]
  exact Function.update_eq_self _ _

theorem V15_eq (c : Dev nD) : V15 m (left m) c = enter2 m c := by
  show StableHlo.after hostOps2 (V14 m (left m) c) = _
  rw [V14_eq]; rfl

theorem V16_eq (c : Dev nD) : V16 m (left m) c = leave2 m c := by
  show Function.update (V15 m (left m) c) _ _ = _
  rw [V15_eq]
  exact update_of_keeps (enter2 m c) (leave2 m c) _ (leave2_keeps m c)

theorem V17_eq (c : Dev nD) : V17 m (left m) c = atEnd m c := by
  show StableHlo.after hostOps3 (V16 m (left m) c) = _
  rw [V16_eq]; rfl

/-! ## The calls' records -/

/-- The calls' proof data. -/
def dats : (p : Fin 3) → (c : Dev nD) → Dat τ (Elt F) Unit ℕ (Pipeline.UD sig nD τ) ℕ (cfgs p) c
  | 0 => fc1Dat (enter0 m)
  | 1 => gatherDat (enter1 m)
  | 2 => mlpDat (enter2 m)
  | ⟨_ + 3, h⟩ => absurd h (Nat.not_lt.2 (Nat.le_add_left _ _))

/-- Every TensorCore's cells wait at the one level. -/
def lvls (g : GSem nD τ sig) : Finset Unit := if g.1.2 = .tc then {()} else ∅

theorem lvls_tc (c : Dev nD) (s : SemLoc sig) : () ∈ lvls ((c : Thread nD τ), s) := by
  unfold lvls; rw [if_pos rfl]; exact Finset.mem_singleton_self _

/-- Nothing is owed at any level, so the staging waits' level is as good as any. -/
theorem cut (p : Fin 3) : Pipeline.LevelCut (pcfgs (F := F)) adm () lvls (fun _ _ => (0 : ℕ)) p (fun _ => 0) (fun _ => 0) where
  hι c w s := lvls_tc c _
  hιb _ _ _ := le_refl 0
  hD _ _ _ h := absurd h (lt_irrefl _)

/-- What a core holds beside its buffers between two items: it owes nothing, and its generator register is in some state. -/
def beside (c : Dev nD) : sProp 𝕄 :=
  iprop((∃ Wd, owes (c : Thread nD τ) (0 : CellTallies nD τ sig Unit) Wd) ∗ (∃ r, prngReg c r) ∗ emp)

/-- The first call's record. -/
def rec0 : RegionSeg (pcfgs (F := F)) adm (dats m) () (defs₀ (F := F)) Variants.none lvls (fun _ _ => (0 : ℕ)) 0 :=
  RegionSeg.ofHeldIn (pcfgs (F := F)) adm (dats m) () defs₀ Variants.none lvls (fun _ _ => 0) 0 (fun _ => 0) (Pipeline.ucRefs τ sig)
    (fun c => iprop(∃ r, prngReg c r)) (fun c => iprop(∃ r, prngReg c r)) launch0.toP rfl
    (fun c => (fc1_obligation (enter0 m) c).loose) (fun _ _ => rfl) (fun _ => rfl) (fun c => (fc1Dat (enter0 m) c).share_full fun _ => rfl)
    (fun _ => .rfl) (fun _ => .rfl) (fun _ => 0) (cut 0) (fun _ => iprop(emp)) (enter0 m) (fun c w => fc1_A (enter0 m) c w)

/-- The perceptron's record. -/
def rec2 : RegionSeg (pcfgs (F := F)) adm (dats m) () (defs₀ (F := F)) Variants.none lvls (fun _ _ => (0 : ℕ)) 2 :=
  RegionSeg.ofHeldIn (pcfgs (F := F)) adm (dats m) () defs₀ Variants.none lvls (fun _ _ => 0) 2 (fun _ => 0) (Pipeline.ucRefs τ sig)
    (fun c => iprop(∃ r, prngReg c r)) (fun c => iprop(∃ r, prngReg c r)) launch2.toP rfl
    (fun c => (mlp_obligation (enter2 m) c).loose) (fun _ _ => rfl) (fun _ => rfl) (fun c => (mlpDat (enter2 m) c).share_full fun _ => rfl)
    (fun _ => .rfl) (fun _ => .rfl) (fun _ => 0) (cut 2) (fun _ => iprop(emp)) (enter2 m) (fun c w => mlp_A (enter2 m) c w)

/-- The operand the gather copies from itself. -/
abbrev copied : Finset (Ref sig .tc) := {main_v61}

/-- The index words of the gather's table lie inside the image at every point. -/
def InsideAll : Prop := ∀ c t j, InImage (gatherBlock (enter1 m) c 0 t j : BitVec 32)

theorem held_copied (c : Dev nD) (V : Valuation τ sig (Elt F)) :
    (bigSep copied fun b => ((c.tc : Thread nD τ).loc b) ↦{fullShare} V (Proc.devRef .tc b) : sProp 𝕄)
      = holdsAt c images (V (Proc.devRef .tc main_v61)) :=
  (BI.bigSep_eq_bigSepL_of_eq [main_v61] (by decide) (by decide) _)

/-- The gather's invariant before the first point, from what the launch hands the call. -/
theorem gather_in (c : Dev nD) :
    iprop(Pipeline.scopedRest spec1 c ∗ (∃ r, prngReg c r) ∗ Pipeline.ownSems0 ownSem c
        ∗ (bigSep copied fun b => ((c.tc : Thread nD τ).loc b) ↦{fullShare} enter1 m c (Proc.devRef .tc b)) ∗ Transfers.MayWaits (c : Thread nD τ) () 0)
      ⊢ (gatherDat (enter1 m) c).Φ 0 := by
  rw [held_copied, scopedRest_split, ownSems_eq, show (gatherDat (enter1 m) c).Φ 0 = gatherInv (enter1 m) c 0 from rfl]
  unfold gatherInv
  rw [carried_start _ c 0 (Nat.zero_mod _)]
  iintro ⟨⟨Hs, Hu⟩, Hp, Hq, Hh, -⟩
  isplitl [Hs]; · iexact Hs
  isplitl [Hu]; · iexact Hu
  isplitl [Hp]; · iexact Hp
  isplitl [Hq]; · iexact Hq
  iexact Hh

/-- The gather's invariant after the last point gives back what the launch handed the call. -/
theorem gather_out (c : Dev nD) :
    (gatherDat (enter1 m) c).Φ (Fin.last cfg1.N)
      ⊢ iprop(Pipeline.scopedRest spec1 c ∗ (∃ r, prngReg c r) ∗ Pipeline.ownSems0 ownSem c
        ∗ (bigSep copied fun b => ((c.tc : Thread nD τ).loc b) ↦{fullShare} enter1 m c (Proc.devRef .tc b))) := by
  rw [held_copied, scopedRest_split, ownSems_eq,
    show (gatherDat (enter1 m) c).Φ (Fin.last cfg1.N) = gatherInv (enter1 m) c (Fin.last cfg1.N).val from rfl]
  unfold gatherInv
  rw [carried_start _ c _ (by rw [Fin.val_last, show cfg1.N = 160 from N_1])]
  iintro ⟨Hs, Hu, Hp, Hq, Hh⟩
  isplitl [Hs Hu]
  · isplitl [Hs]; · iexact Hs
    iexact Hu
  isplitl [Hp]; · iexact Hp
  isplitl [Hq]; · iexact Hq
  iexact Hh

/-- The gather's record. -/
def rec1 (hIn : InsideAll m) : RegionSeg (pcfgs (F := F)) adm (dats m) () (defs₀ (F := F)) Variants.none lvls (fun _ _ => (0 : ℕ)) 1 :=
  RegionSeg.ofHeldDH (pcfgs (F := F)) adm (dats m) () defs₀ Variants.none lvls (fun _ _ => 0) 1 (fun _ => 0) () ownSem ownSem_facts
    copied (Pipeline.ucRefs τ sig \ Pipeline.arrRefs spec1) (by decide) launch1.toP rfl
    (fun c => (gather_obligation (enter1 m) c (hIn c)).loose) (fun _ _ => rfl) (fun _ => rfl) (fun c => (gatherDat (enter1 m) c).share_full fun _ => rfl)
    (fun c => by iintro -; iapply (Transfers.MayWaits.zero (c : Thread nD τ) ()); iempintro)
    (enter1 m) (leave1 m)
    (gather_in m) (gather_out m)
    (fun _ => 0) (cut 1) (fun _ => iprop(emp)) (fun c w => gather_A (enter1 m) c w)
    (fun c w => (Pipeline.afterRegion_arr (gatherDat (enter1 m) c) (enter1 m c) winFacts1.arr_inj w).symm)

/-- The buffers that outlive the calls, split at a call's arrays on the way in. -/
theorem split_in (A : Finset (DevRef τ sig)) (hA : A ⊆ Pipeline.ucRefs τ sig) (c : Dev nD) (V : Valuation τ sig (Elt F)) :
    iprop(StableHlo.held (c : Thread nD τ) (Pipeline.ucRefs τ sig) V ∗ beside c)
      ⊢ (iprop(StableHlo.held (c.tc : Thread nD τ) A V ∗ (∃ r, prngReg c r)
        ∗ (StableHlo.held (c.tc : Thread nD τ) (Pipeline.ucRefs τ sig \ A) V ∗ emp)
        ∗ ∃ Wd, owes (c : Thread nD τ) (0 : CellTallies nD τ sig Unit) Wd) : sProp 𝕄) := by
  rw [StableHlo.held_sub_split (c.tc : Thread nD τ) hA V]
  unfold beside
  iintro ⟨⟨Ha, Hu⟩, HO, Hp, He⟩
  isplitl [Ha]; · iexact Ha
  isplitl [Hp]; · iexact Hp
  isplitl [Hu He]
  · isplitl [Hu]; · iexact Hu
    iexact He
  iexact HO

/-- The buffers that outlive the calls, put together again on the way out: the call changed nothing off its arrays. -/
theorem join_out (A : Finset (DevRef τ sig)) (hA : A ⊆ Pipeline.ucRefs τ sig) (c : Dev nD) (V V' : Valuation τ sig (Elt F))
    (h : ∀ b ∈ Pipeline.ucRefs τ sig \ A, V' b = V b) :
    (iprop(StableHlo.held (c.tc : Thread nD τ) A V' ∗ (∃ r, prngReg c r)
        ∗ (StableHlo.held (c.tc : Thread nD τ) (Pipeline.ucRefs τ sig \ A) V ∗ emp)
        ∗ ∃ Wd, owes (c : Thread nD τ) (0 : CellTallies nD τ sig Unit) Wd) : sProp 𝕄)
      ⊢ iprop(StableHlo.held (c : Thread nD τ) (Pipeline.ucRefs τ sig) V' ∗ beside c) := by
  rw [StableHlo.held_sub_split (c.tc : Thread nD τ) hA V',
    StableHlo.held_congr (c.tc : Thread nD τ) (S := Pipeline.ucRefs τ sig \ A) (V := V') (V' := V) h]
  unfold beside
  iintro ⟨Ha, Hp, ⟨Hu, He⟩, HO⟩
  isplitl [Ha Hu]
  · isplitl [Ha]; · iexact Ha
    iexact Hu
  isplitl [HO]; · iexact HO
  isplitl [Hp]; · iexact Hp
  iexact He

theorem rec0_pre (c : Dev nD) :
    iprop(StableHlo.held (c : Thread nD τ) (Pipeline.ucRefs τ sig) (V1 m c) ∗ beside c) ⊢ (rec0 m).pre c := by
  exact split_in (Pipeline.arrRefs spec0) (Pipeline.arrRefs_sub_ucRefs spec0 (by decide)) c (enter0 m c)

theorem rec0_post (c : Dev nD) :
    (rec0 m).post c ⊢ iprop(StableHlo.held (c : Thread nD τ) (Pipeline.ucRefs τ sig) (V2 m (left m) c) ∗ beside c) := by
  rw [V2_eq]
  exact join_out (Pipeline.arrRefs spec0) (Pipeline.arrRefs_sub_ucRefs spec0 (by decide)) c (enter0 m c) (leave0 m c)
    (Pipeline.afterRegion_off (fc1Dat (enter0 m) c) (enter0 m c) _)

theorem rec1_pre (hIn : InsideAll m) (c : Dev nD) :
    iprop(StableHlo.held (c : Thread nD τ) (Pipeline.ucRefs τ sig) (V13 m (left m) c) ∗ beside c) ⊢ (rec1 m hIn).pre c := by
  rw [V13_eq]
  exact split_in (Pipeline.arrRefs spec1) (Pipeline.arrRefs_sub_ucRefs spec1 (by decide)) c (enter1 m c)

theorem rec1_post (hIn : InsideAll m) (c : Dev nD) :
    (rec1 m hIn).post c ⊢ iprop(StableHlo.held (c : Thread nD τ) (Pipeline.ucRefs τ sig) (V14 m (left m) c) ∗ beside c) := by
  rw [V14_eq]
  exact join_out (Pipeline.arrRefs spec1) (Pipeline.arrRefs_sub_ucRefs spec1 (by decide)) c (enter1 m c) (leave1 m c)
    (Pipeline.afterRegion_off (gatherDat (enter1 m) c) (enter1 m c) _)

theorem rec2_pre (c : Dev nD) :
    iprop(StableHlo.held (c : Thread nD τ) (Pipeline.ucRefs τ sig) (V15 m (left m) c) ∗ beside c) ⊢ (rec2 m).pre c := by
  rw [V15_eq]
  exact split_in (Pipeline.arrRefs spec2) (Pipeline.arrRefs_sub_ucRefs spec2 (by decide)) c (enter2 m c)

theorem rec2_post (c : Dev nD) :
    (rec2 m).post c ⊢ iprop(StableHlo.held (c : Thread nD τ) (Pipeline.ucRefs τ sig) (V16 m (left m) c) ∗ beside c) := by
  rw [V16_eq]
  exact join_out (Pipeline.arrRefs spec2) (Pipeline.arrRefs_sub_ucRefs spec2 (by decide)) c (enter2 m c) (leave2 m c)
    (Pipeline.afterRegion_off (mlpDat (enter2 m) c) (enter2 m c) _)

/-! ## The run -/

/-- What a core starts with is the state before the first item. -/
theorem first_state (ρ : Dev nD → PrngReg) (c : Dev nD) :
    (iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ emp) : sProp 𝕄)
      ⊢ iprop(StableHlo.held (c : Thread nD τ) (Pipeline.ucRefs τ sig) (V0 m c) ∗ beside c) := by
  rw [← Pipeline.unscopedBufs_held (Ix := Unit) (Name := ℕ) (U := Pipeline.UD sig nD τ) (Lvl := ℕ) c (V0 m c)]
  unfold beside
  iintro ⟨Hb, -, HO, -, Hp, He⟩
  isplitl [Hb]; · iexact Hb
  isplitl [HO]; · iexists _; iexact HO
  isplitl [Hp]; · iexists _; iexact Hp
  iexact He

set_option backward.isDefEq.respectTransparency.types false in
/-- The program run from any memory with zero counters: it ends, every buffer that outlives the calls holds what the calls and the
    host operations compute, and every counter is back at zero. -/
theorem run_whole (ρ : Dev nD → PrngReg) (hIn : InsideAll m) :
    θ_run defs (onTc (τ := τ) (main (F := F))) ⟨m, fun _ => 0, ρ⟩ (fun r =>
      (∀ c : Dev nD, ∀ b ∈ Pipeline.ucRefs τ sig, r.2.mem (c, b) = V17 m (left m) c b) ∧ r.2.sem = fun _ => 0) := by
  refine Pipeline.θ_run_regions_kit_dev_sems (pcfgs (F := F)) adm (dats m) () cellOf_inj embL defs₀ Variants.none lvls (fun _ _ => 0) m ρ main
    (segs m (left m) Variants.none lvls (fun _ _ => 0) (fun _ => beside) () (dats m) (rec0 m) (rec1 m hIn) (rec2 m))
    (fun c Q => by
      rewrite [main_chain c, Seg.run_eq_chain,
        show (segs m (left m) Variants.none lvls (fun _ _ => 0) (fun _ => beside) () (dats m) (rec0 m) (rec1 m hIn) (rec2 m) c).map Seg.prog = [
          StableHlo.seq hostOps0, Prog.lift (.customCall (Pipeline.entry 0) ()), StableHlo.seq hostOps1, StableHlo.seq hostOps1_1,
          StableHlo.seq hostOps1_2, StableHlo.seq hostOps1_3, StableHlo.seq hostOps1_4, StableHlo.seq hostOps1_5, StableHlo.seq hostOps1_6,
          StableHlo.seq hostOps1_7, StableHlo.seq hostOps1_8, StableHlo.seq hostOps1_9, StableHlo.seq hostOps1_10,
          Prog.lift (.customCall (Pipeline.entry 1) ()), StableHlo.seq hostOps2, Prog.lift (.customCall (Pipeline.entry 2) ()),
          StableHlo.seq hostOps3 ] from rfl]
      exact .rfl)
    (fun c => by simp only [segs, Seg.pipes_host, Seg.pipes_region, Seg.pipes_nil]; decide) (fun _ => 0)
    (fun g hg => by unfold lvls; rw [if_neg hg]) (fun _ => iprop(emp))
    (initOf (Pipeline.cells cfgs cellOf_inj) (Pipeline.launchToks cfgs cellOf_inj), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V17 m (left m) c))
    (hch := fun c => ⟨.rfl, rec0_pre m c,
      rec0_post m c,
      .rfl, .rfl, .rfl, .rfl, .rfl, .rfl, .rfl, .rfl, .rfl, .rfl,
      rec1_pre m hIn c, rec1_post m hIn c,
      rec2_pre m c,
      rec2_post m c,
      BIClass.sep_mono .rfl (by unfold beside; iintro ⟨H, -⟩; iexact H)⟩)
    (hinit := ?_) (QY := fun c s => ∀ b ∈ Pipeline.ucRefs τ sig, s.mem (c, b) = V17 m (left m) c b)
    (hfin := fun c s' => ?_) (hQ := fun _ h hz => ⟨h, funext fun g => hz g (.inr (regions_no_unscoped g.2))⟩)
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ beside c) : sProp 𝕄)
      from bigSep_mono fun c _ => first_state m ρ c)
    iexact H
  · unfold StableHlo.held
    iintro ⟨Hh, HSI⟩
    ihave Hr := (pointsTo_read_all (Pipeline.ucRefs τ sig) (fun b => ((c : Thread nD τ).1, b)) (V17 m (left m) c) s') $$ [Hh HSI]
    · isplitl [Hh] <;> iassumption
    icases Hr with ⟨%h, HSI⟩
    imodintro
    isplitr
    · ipureintro; exact h
    iexact HSI

/-- A TensorCore's reference that outlives the calls is among the buffers the run speaks of. -/
theorem mem_ucRefs (r : Ref sig .tc) (h : (Proc.devRef .tc r : DevRef τ sig).isScoped = false) : Proc.devRef .tc r ∈ Pipeline.ucRefs τ sig :=
  Finset.mem_filter.mpr ⟨StableHlo.devRef_mem_tcRefs r, by rw [h]; exact Bool.false_ne_true⟩

end Cert.KernelIdeal.Hand
end
-- ==== Proof.KernelIdeal.Points.lean ====
/- The host operations between the first call and the gather, read off as functions of the arrays they start from: the sampled
   points, their cells, the index words and the bilinear weights. -/
module

public import proofs.«01_k».proof.Proof.KernelIdeal.WholeRun

@[expose] public section

set_option maxRecDepth 16384

noncomputable section

namespace Cert.KernelIdeal.Hand

open Idealize.ShloMosaic Idealize.ShloMosaic.TcCoe Idealize.ShloMosaic.Tactic Idealize.ShloMosaic.StableHlo
open Idealize.SL.Sem
open Cert.KernelIdeal Cert.KernelIdeal.Gen
open Cert.KernelIdeal.Facts

variable {F : FTy → Type} [FloatOps F]

/-- The constant one in every entry of a line of 31. -/
abbrev ones31 : FVec F S31 .f32 := broadcastInDim S31 ![] bcast_S_S31 (constant S_ .f32 0x3F800000#32)

/-- The thirty-one steps `k / 31`. -/
abbrev steps : FVec F S31 .f32 :=
  Host.divf (sitofp .f32 (iotaInDim S31 32 0)) (broadcastInDim S31 ![] bcast_S_S31 (constant S_ .f32 0x41F80000#32))

/-- The thirty-two weights that a line's first end has at its sample points. -/
def lamOf : FVec F S32 .f32 :=
  concatenate S32 0
    [⟨S31, addf (mulf (broadcastInDim S31 ![0] bcast_S1_S31_0 (shapeCast S1 (constant S_ .f32 0x00000000#32) shapeCasts_S_S1)) (subf ones31 steps))
        (mulf (broadcastInDim S31 ![0] bcast_S1_S31_0 (shapeCast S1 (constant S_ .f32 0x3F800000#32) shapeCasts_S_S1)) steps)⟩,
      ⟨S1, broadcastInDim S1 ![] bcast_S_S1 (constant S_ .f32 0x3F800000#32)⟩] concatenates_S31_S1_S32_d0

/-- The first stretch leaves those weights in its result. -/
theorem lam_read (v : Valuation τ sig (Elt F)) :
    after hostOps1_1 (after hostOps1 v) main_v3 = (lamOf : FVec F S32 .f32) := by
  after_results_simp
  rfl

/-- The points sampled on the lines, in pixels. -/
def pointsOf (l : FVec F S32 .f32) (p : FVec F S2x10000x2x2 .f32) : FVec F S2x10000x32x2 .f32 :=
  subf (addf
      (mulf (broadcastInDim S2x10000x32x2 ![0, 1, 2, 3] bcast_S2x10000x1x2_S2x10000x32x2_0_1_2_3 (extractStridedSlice S2x10000x1x2 ![0, 0, 0, 0] p slices_S2x10000x2x2_S2x10000x1x2_0_0_0_0))
        (broadcastInDim S2x10000x32x2 ![0, 1, 2, 3] bcast_S1x1x32x1_S2x10000x32x2_0_1_2_3 (broadcastInDim S1x1x32x1 ![2, 3] bcast_S32x1_S1x1x32x1_2_3 (broadcastInDim S32x1 ![0] bcast_S32_S32x1_0 l))))
      (mulf (broadcastInDim S2x10000x32x2 ![0, 1, 2, 3] bcast_S2x10000x1x2_S2x10000x32x2_0_1_2_3 (extractStridedSlice S2x10000x1x2 ![0, 0, 1, 0] p slices_S2x10000x2x2_S2x10000x1x2_0_0_1_0))
        (broadcastInDim S2x10000x32x2 ![0, 1, 2, 3] bcast_S1x1x32x1_S2x10000x32x2_0_1_2_3 (broadcastInDim S1x1x32x1 ![2, 3] bcast_S32x1_S1x1x32x1_2_3
          (subf (broadcastInDim S32x1 ![] bcast_S_S32x1 (constant S_ .f32 0x3F800000#32)) (broadcastInDim S32x1 ![0] bcast_S32_S32x1_0 l))))))
    (broadcastInDim S2x10000x32x2 ![] bcast_S_S2x10000x32x2 (constant S_ .f32 0x3F000000#32))

/-- The sampled points' row coordinates, the lines of a picture one after the other. -/
def rowsOf (x : FVec F S2x10000x32x2 .f32) : FVec F S2x320000 .f32 :=
  shapeCast S2x320000 (extractStridedSlice S2x320000x1 ![0, 0, 0] (shapeCast S2x320000x2 x shapeCasts_S2x10000x32x2_S2x320000x2) slices_S2x320000x2_S2x320000x1_0_0_0) shapeCasts_S2x320000x1_S2x320000

/-- The sampled points' column coordinates. -/
def colsOf (x : FVec F S2x10000x32x2 .f32) : FVec F S2x320000 .f32 :=
  shapeCast S2x320000 (extractStridedSlice S2x320000x1 ![0, 0, 1] (shapeCast S2x320000x2 x shapeCasts_S2x10000x32x2_S2x320000x2) slices_S2x320000x2_S2x320000x1_0_0_1) shapeCasts_S2x320000x1_S2x320000

/-- A constant in every entry. -/
abbrev every (w : BitVec 32) : FVec F S2x320000 .f32 := broadcastInDim S2x320000 ![] bcast_S_S2x320000 (constant S_ .f32 w)

/-- The entries cut to lie between 0 and 255. -/
def cutOf (x : FVec F S2x320000 .f32) : FVec F S2x320000 .f32 := minimumf (every 0x437F0000#32) (maximumf (every 0x00000000#32) x)

/-- The lower corner of each point's cell. -/
def lowOf (x : FVec F S2x320000 .f32) : FVec F S2x320000 .f32 := cutOf (Host.floor x)

/-- The upper corner of a cell, of its lower one. -/
def highOf (x : FVec F S2x320000 .f32) : FVec F S2x320000 .f32 := cutOf (addf x (every 0x3F800000#32))

theorem rows_read (v : Valuation τ sig (Elt F)) :
    after hostOps1_2 v main_v22 = rowsOf (pointsOf (v main_v3) (v main_arg1)) := by
  after_results_simp
  rfl

theorem cols_read (v : Valuation τ sig (Elt F)) :
    after hostOps1_2 v main_v24 = colsOf (pointsOf (v main_v3) (v main_arg1)) := by
  after_results_simp
  rfl

/-- The floor and the two bounds that the first cut takes. -/
theorem floor_read (v : Valuation τ sig (Elt F)) :
    after hostOps1_2 v main_v25 = (Host.floor (rowsOf (pointsOf (v main_v3) (v main_arg1))) : FVec F S2x320000 .f32)
      ∧ after hostOps1_2 v main_cst_3 = (constant S_ .f32 0x00000000#32 : FVec F S_ .f32)
      ∧ after hostOps1_2 v main_cst_4 = (constant S_ .f32 0x437F0000#32 : FVec F S_ .f32) := by
  refine ⟨?_, ?_, ?_⟩
  · after_results_simp
    rfl
  · after_results_simp
  · after_results_simp

/-- The rows' lower corners. -/
theorem low_rows_read (v : Valuation τ sig (Elt F)) :
    after hostOps1_3 (after hostOps1_2 v) main_v26 = lowOf (rowsOf (pointsOf (v main_v3) (v main_arg1))) := by
  have h : ∀ u : Valuation τ sig (Elt F), after hostOps1_3 u main_v26
      = (minimumf (broadcastInDim S2x320000 ![] bcast_S_S2x320000 (u main_cst_4)) (maximumf (broadcastInDim S2x320000 ![] bcast_S_S2x320000 (u main_cst_3)) (u main_v25)) : FVec F S2x320000 .f32) := by
    intro u
    after_results_simp
    rfl
  rw [h, (floor_read v).1, (floor_read v).2.1, (floor_read v).2.2]
  rfl

/-- The columns' lower corners. -/
theorem low_cols_read (u : Valuation τ sig (Elt F)) : after hostOps1_5 (after hostOps1_4 u) main_v28 = lowOf (u main_v24) := by
  after_results_simp
  rfl

/-- The rows' upper corners. -/
theorem high_rows_read (u : Valuation τ sig (Elt F)) : after hostOps1_7 (after hostOps1_6 u) main_v31 = highOf (u main_v26) := by
  after_results_simp
  rfl

/-- The columns' upper corners. -/
theorem high_cols_read (u : Valuation τ sig (Elt F)) : after hostOps1_9 (after hostOps1_8 u) main_v34 = highOf (u main_v28) := by
  after_results_simp
  rfl

/-- The index word of each point's cell: 256 times its row and its column. -/
def wordsOf (r c : FVec F S2x320000 .f32) : IVec S2x320000 32 :=
  addi (muli (fptosi 32 r) (broadcastInDim S2x320000 ![] bcast_S_S2x320000 (constantI S_ 32 256#32))) (fptosi 32 c)

/-- The table of index words that the gather takes. -/
theorem words_read (u : Valuation τ sig (Elt F)) : after hostOps1_10 u main_v57
    = (shapeCast S160x1x4000 (wordsOf (u main_v26) (u main_v28) : IVec S2x320000 32) shapeCasts_S2x320000_S160x1x4000 : IVec S160x1x4000 32) := by
  after_results_simp
  rfl

/-- One row of bilinear weights, as a slab to stack. -/
abbrev slab (x : FVec F S2x320000 .f32) : FVec F S2x1x320000 .f32 := broadcastInDim S2x1x320000 ![0, 2] bcast_S2x320000_S2x1x320000_0_2 x

/-- The four bilinear weights of each point, stacked. -/
def weightsOf (r c r0 c0 r1 c1 : FVec F S2x320000 .f32) : FVec F S2x4x320000 .f32 :=
  concatenate S2x4x320000 1
    [⟨S2x1x320000, slab (mulf (subf r1 r) (subf c1 c))⟩, ⟨S2x1x320000, slab (mulf (subf r r0) (subf c1 c))⟩,
      ⟨S2x1x320000, slab (mulf (subf r1 r) (subf c c0))⟩, ⟨S2x1x320000, slab (mulf (subf r r0) (subf c c0))⟩]
    concatenates_S2x1x320000_S2x1x320000_S2x1x320000_S2x1x320000_S2x4x320000_d1

/-- The table of bilinear weights that the gather takes. -/
theorem weights_read (u : Valuation τ sig (Elt F)) : after hostOps1_10 u main_v60
    = (shapeCast S160x4x4000 (transpose S2x80x4x4000 [0, 2, 1, 3] (shapeCast S2x4x80x4000 (weightsOf (u main_v22) (u main_v24) (u main_v26) (u main_v28) (u main_v31) (u main_v34))
        shapeCasts_S2x4x320000_S2x4x80x4000) transposes_S2x4x80x4000_S2x80x4x4000_0_2_1_3) shapeCasts_S2x80x4x4000_S160x4x4000 : FVec F S160x4x4000 .f32) := by
  after_results_simp
  rfl

/-- The pictures that the gather takes. -/
theorem pictures_read (u : Valuation τ sig (Elt F)) : after hostOps1_10 u main_v61
    = (shapeCast S2x65536x1x128 (u main_v2 : FVec F S2x65536x128 .f32) shapeCasts_S2x65536x128_S2x65536x1x128 : FVec F S2x65536x1x128 .f32) := by
  after_results_simp
  rfl

/-! ## What the gather takes, of the two end points and the first call's result -/

section
variable (p : FVec F S2x10000x2x2 .f32)

/-- The points' rows. -/
def rows : FVec F S2x320000 .f32 := rowsOf (pointsOf lamOf p)
/-- The points' columns. -/
def cols : FVec F S2x320000 .f32 := colsOf (pointsOf lamOf p)

/-- The contents after the stretch's first five lists. -/
abbrev before6 (v : Valuation τ sig (Elt F)) : Valuation τ sig (Elt F) :=
  after hostOps1_5 (after hostOps1_4 (after hostOps1_3 (after hostOps1_2 (after hostOps1_1 (after hostOps1 v)))))

/-- The contents before the stretch's last list. -/
abbrev before10 (v : Valuation τ sig (Elt F)) : Valuation τ sig (Elt F) :=
  after hostOps1_9 (after hostOps1_8 (after hostOps1_7 (after hostOps1_6 (before6 v))))

/-- A buffer that the two first lists do not write. -/
theorem keep2 (v : Valuation τ sig (Elt F)) (r : Ref sig .tc) (h : r ∉ hostOps1_W) (h1 : r ∉ hostOps1_1_W) :
    after hostOps1_1 (after hostOps1 v) r = v r := by
  rw [after_of_writes_sub hostOps1_1 _ hostOps1_1_writes h1, after_of_writes_sub hostOps1 _ hostOps1_writes h]

/-- A buffer that the third to fifth of these lists do not write. -/
theorem keep6 (v : Valuation τ sig (Elt F)) (r : Ref sig .tc) (h3 : r ∉ hostOps1_3_W) (h4 : r ∉ hostOps1_4_W) (h5 : r ∉ hostOps1_5_W) :
    after hostOps1_5 (after hostOps1_4 (after hostOps1_3 v)) r = v r := by
  rw [after_of_writes_sub hostOps1_5 _ hostOps1_5_writes h5, after_of_writes_sub hostOps1_4 _ hostOps1_4_writes h4,
    after_of_writes_sub hostOps1_3 _ hostOps1_3_writes h3]

/-- A buffer that the sixth to ninth lists do not write. -/
theorem keep10 (v : Valuation τ sig (Elt F)) (r : Ref sig .tc) (h6 : r ∉ hostOps1_6_W) (h7 : r ∉ hostOps1_7_W) (h8 : r ∉ hostOps1_8_W)
    (h9 : r ∉ hostOps1_9_W) : after hostOps1_9 (after hostOps1_8 (after hostOps1_7 (after hostOps1_6 v))) r = v r := by
  rw [after_of_writes_sub hostOps1_9 _ hostOps1_9_writes h9, after_of_writes_sub hostOps1_8 _ hostOps1_8_writes h8,
    after_of_writes_sub hostOps1_7 _ hostOps1_7_writes h7, after_of_writes_sub hostOps1_6 _ hostOps1_6_writes h6]

variable (v : Valuation τ sig (Elt F))

/-- The points before the last list: their coordinates and their cells' corners, of the end points `v main_arg1`. -/
theorem points_before10 :
    before10 v main_v22 = rows (v main_arg1) ∧ before10 v main_v24 = cols (v main_arg1)
      ∧ before10 v main_v26 = lowOf (rows (v main_arg1)) ∧ before10 v main_v28 = lowOf (cols (v main_arg1))
      ∧ before10 v main_v31 = highOf (lowOf (rows (v main_arg1))) ∧ before10 v main_v34 = highOf (lowOf (cols (v main_arg1))) := by
  have hl := lam_read v
  have hp : after hostOps1_1 (after hostOps1 v) main_arg1 = v main_arg1 := keep2 v main_arg1 (by decide) (by decide)
  have h22 : before6 v main_v22 = rows (v main_arg1) := by
    rw [before6, keep6 _ main_v22 (by decide) (by decide) (by decide), rows_read, hl, hp]; rfl
  have h24' : after hostOps1_3 (after hostOps1_2 (after hostOps1_1 (after hostOps1 v))) main_v24 = cols (v main_arg1) := by
    rw [after_of_writes_sub hostOps1_3 _ hostOps1_3_writes (by decide : main_v24 ∉ hostOps1_3_W), cols_read, hl, hp]; rfl
  have h24 : before6 v main_v24 = cols (v main_arg1) := by
    rw [before6, after_of_writes_sub hostOps1_5 _ hostOps1_5_writes (by decide : main_v24 ∉ hostOps1_5_W),
      after_of_writes_sub hostOps1_4 _ hostOps1_4_writes (by decide : main_v24 ∉ hostOps1_4_W), h24']
  have h26 : before6 v main_v26 = lowOf (rows (v main_arg1)) := by
    rw [before6, after_of_writes_sub hostOps1_5 _ hostOps1_5_writes (by decide : main_v26 ∉ hostOps1_5_W),
      after_of_writes_sub hostOps1_4 _ hostOps1_4_writes (by decide : main_v26 ∉ hostOps1_4_W), low_rows_read, hl, hp]; rfl
  have h28 : before6 v main_v28 = lowOf (cols (v main_arg1)) := by rw [before6, low_cols_read, h24']
  have h28' : after hostOps1_7 (after hostOps1_6 (before6 v)) main_v28 = lowOf (cols (v main_arg1)) := by
    rw [after_of_writes_sub hostOps1_7 _ hostOps1_7_writes (by decide : main_v28 ∉ hostOps1_7_W),
      after_of_writes_sub hostOps1_6 _ hostOps1_6_writes (by decide : main_v28 ∉ hostOps1_6_W), h28]
  refine ⟨?_, ?_, ?_, ?_, ?_, ?_⟩
  · rw [before10, keep10 _ main_v22 (by decide) (by decide) (by decide) (by decide), h22]
  · rw [before10, keep10 _ main_v24 (by decide) (by decide) (by decide) (by decide), h24]
  · rw [before10, keep10 _ main_v26 (by decide) (by decide) (by decide) (by decide), h26]
  · rw [before10, keep10 _ main_v28 (by decide) (by decide) (by decide) (by decide), h28]
  · rw [before10, after_of_writes_sub hostOps1_9 _ hostOps1_9_writes (by decide : main_v31 ∉ hostOps1_9_W),
      after_of_writes_sub hostOps1_8 _ hostOps1_8_writes (by decide : main_v31 ∉ hostOps1_8_W), high_rows_read, h26]
  · rw [before10, high_cols_read, h28']

/-- The points' index words, of the end points. -/
def words : IVec S2x320000 32 := wordsOf (lowOf (rows p)) (lowOf (cols p))

/-- The points' bilinear weights, of the end points. -/
def weights : FVec F S2x4x320000 .f32 :=
  weightsOf (rows p) (cols p) (lowOf (rows p)) (lowOf (cols p)) (highOf (lowOf (rows p))) (highOf (lowOf (cols p)))

/-- The index table after the whole stretch. -/
theorem mid_words : mid v main_v57
    = (shapeCast S160x1x4000 (words (v main_arg1) : IVec S2x320000 32) shapeCasts_S2x320000_S160x1x4000 : IVec S160x1x4000 32) := by
  have h := points_before10 v
  change after hostOps1_10 (before10 v) main_v57 = _
  rw [words_read, h.2.2.1, h.2.2.2.1]
  rfl

/-- The weights' table after the whole stretch. -/
theorem mid_weights : mid v main_v60
    = (shapeCast S160x4x4000 (transpose S2x80x4x4000 [0, 2, 1, 3] (shapeCast S2x4x80x4000 (weights (v main_arg1))
        shapeCasts_S2x4x320000_S2x4x80x4000) transposes_S2x4x80x4000_S2x80x4x4000_0_2_1_3) shapeCasts_S2x80x4x4000_S160x4x4000 : FVec F S160x4x4000 .f32) := by
  obtain ⟨h1, h2, h3, h4, h5, h6⟩ := points_before10 v
  change after hostOps1_10 (before10 v) main_v60 = _
  rw [weights_read, h1, h2, h3, h4, h5, h6]
  rfl

/-- The pictures after the whole stretch. -/
theorem mid_pictures : mid v main_v61
    = (shapeCast S2x65536x1x128 (v main_v2 : FVec F S2x65536x128 .f32) shapeCasts_S2x65536x128_S2x65536x1x128 : FVec F S2x65536x1x128 .f32) := by
  have h : before10 v main_v2 = v main_v2 := by
    rw [before10, keep10 _ main_v2 (by decide) (by decide) (by decide) (by decide), before6,
      keep6 _ main_v2 (by decide) (by decide) (by decide), after_of_writes_sub hostOps1_2 _ hostOps1_2_writes (by decide : main_v2 ∉ hostOps1_2_W),
      keep2 _ main_v2 (by decide) (by decide)]
  change after hostOps1_10 (before10 v) main_v61 = _
  rw [pictures_read, h]

end

end Cert.KernelIdeal.Hand

end
-- ==== Proof.KernelIdeal.Inside.lean ====
/- Under the precondition every index word of the gather lies inside the picture: the precondition's cells are the kernel's, and a
   cell that is at most 254 on both axes has its three neighbours in the picture. -/
module

public import proofs.«01_k».proof.Proof.KernelIdeal.Points
public import proofs.«01_k».proof.Pre_cells_inside
public import Idealize.ShloMosaic.Lib.Pointwise.Index
public import Idealize.ShloMosaic.Lib.WordCmp

@[expose] public section

set_option maxRecDepth 16384

noncomputable section

namespace Cert.KernelIdeal.Hand

open Idealize.ShloMosaic Idealize.ShloMosaic.TcCoe Idealize.ShloMosaic.Tactic Idealize.ShloMosaic.StableHlo
open Idealize.ShloMosaic.WordCmp
open Idealize.SL.Sem
open Cert.KernelIdeal Cert.KernelIdeal.Gen
open Cert.KernelIdeal.Facts

variable {F : FTy → Type} [FloatOps F]

/-- The line that sampled point `n` of a picture lies on. -/
def pairOf (n : Fin 320000) : Fin 10000 := ⟨n.val / 32, by omega⟩
/-- The point's place on its line. -/
def placeOf (n : Fin 320000) : Fin 32 := ⟨n.val % 32, by omega⟩

theorem rowsOf_apply (x : FVec F S2x10000x32x2 .f32) (b : Fin 2) (n : Fin 320000) :
    rowsOf x (ix2 b n) = x (ix4 b (pairOf n) (placeOf n) 0) := by
  unfold rowsOf
  rw [shapeCast_apply _ _ (ix2 b n) (ix3 b n 0) (by rw [Shape.rowMajor_val_two, Shape.rowMajor_val_three]; simp [ix2, ix3])]
  unfold extractStridedSlice
  refine shapeCast_apply _ _ _ _ ?_
  rw [Shape.rowMajor_val_four, Shape.rowMajor_val_three]
  simp [ix3, ix4, pairOf, placeOf]
  omega

theorem colsOf_apply (x : FVec F S2x10000x32x2 .f32) (b : Fin 2) (n : Fin 320000) :
    colsOf x (ix2 b n) = x (ix4 b (pairOf n) (placeOf n) 1) := by
  unfold colsOf
  rw [shapeCast_apply _ _ (ix2 b n) (ix3 b n 0) (by rw [Shape.rowMajor_val_two, Shape.rowMajor_val_three]; simp [ix2, ix3])]
  unfold extractStridedSlice
  refine shapeCast_apply _ _ _ _ ?_
  rw [Shape.rowMajor_val_four, Shape.rowMajor_val_three]
  simp [ix3, ix4, pairOf, placeOf]
  omega

/-- The cells of all points' both coordinates, as words. -/
def cellWords (x : FVec F S2x10000x32x2 .f32) : IVec S2x10000x32x2 32 :=
  fptosi 32 (minimumf (broadcastInDim S2x10000x32x2 ![] bcast_S_S2x10000x32x2 (constant S_ .f32 0x437F0000#32))
    (maximumf (broadcastInDim S2x10000x32x2 ![] bcast_S_S2x10000x32x2 (constant S_ .f32 0x00000000#32)) (Host.floor x)))

theorem rows_word (x : FVec F S2x10000x32x2 .f32) (b : Fin 2) (n : Fin 320000) :
    (fptosi 32 (lowOf (rowsOf x)) : IVec S2x320000 32) (ix2 b n) = cellWords x (ix4 b (pairOf n) (placeOf n) 0) := by
  unfold cellWords lowOf cutOf
  dsimp only [fptosi, minimumf, maximumf, Host.floor, every, broadcastInDim, constant]
  rw [rowsOf_apply]

theorem cols_word (x : FVec F S2x10000x32x2 .f32) (b : Fin 2) (n : Fin 320000) :
    (fptosi 32 (lowOf (colsOf x)) : IVec S2x320000 32) (ix2 b n) = cellWords x (ix4 b (pairOf n) (placeOf n) 1) := by
  unfold cellWords lowOf cutOf
  dsimp only [fptosi, minimumf, maximumf, Host.floor, every, broadcastInDim, constant]
  rw [colsOf_apply]

/-- What the precondition says of a table of cells: each lies between 0 and 254. -/
def CellsInside (p : FVec F S2x10000x2x2 .f32) : Prop :=
  ∀ b l k a, 0 ≤ (cellWords (pointsOf lamOf p) (ix4 b l k a)).toInt ∧ (cellWords (pointsOf lamOf p) (ix4 b l k a)).toInt ≤ 254

variable [hPre : Cert.Pre_cells_inside.Facts]

/-- The precondition's program computes these cells and compares them. -/
theorem pre_read (a0 : FVec F S2x256x256x256 .f32) (p : FVec F S2x10000x2x2 .f32) (a2 : FVec F S128x256 .f32) (a3 : FVec F S128 .f32)
    (a4 : FVec F S1024x1024 .f32) (a5 : FVec F S1024 .f32) (a6 : FVec F S1024x1024 .f32) (a7 : FVec F S1024 .f32) (a8 : FVec F S3x1024 .f32)
    (a9 : FVec F S3 .f32) :
    Cert.Pre_cells_inside.fn a0 p a2 a3 a4 a5 a6 a7 a8 a9
      = andi (cmpi .sge (cellWords (pointsOf lamOf p)) (broadcastInDim S2x10000x32x2 ![] bcast_S_S2x10000x32x2 (constantI S_ 32 0#32)))
          (cmpi .sle (cellWords (pointsOf lamOf p)) (broadcastInDim S2x10000x32x2 ![] bcast_S_S2x10000x32x2 (constantI S_ 32 254#32))) := rfl

theorem inside_of_pre {a0 : FVec F S2x256x256x256 .f32} {p : FVec F S2x10000x2x2 .f32} {a2 : FVec F S128x256 .f32} {a3 : FVec F S128 .f32}
    {a4 : FVec F S1024x1024 .f32} {a5 : FVec F S1024 .f32} {a6 : FVec F S1024x1024 .f32} {a7 : FVec F S1024 .f32} {a8 : FVec F S3x1024 .f32}
    {a9 : FVec F S3 .f32} (h : ∀ i, Cert.Pre_cells_inside.fn a0 p a2 a3 a4 a5 a6 a7 a8 a9 i = 1#1) : CellsInside p := by
  intro b l k a
  have h' := h (ix4 b l k a)
  rw [pre_read] at h'
  dsimp only [andi, cmpi, broadcastInDim, constantI] at h'
  rw [cmpi_sge_eq, cmpi_sle_eq, andi_ofBool, ofBool_eq_one_iff, Bool.and_eq_true, decide_eq_true_eq, decide_eq_true_eq] at h'
  exact h'

omit hPre in
/-- A multi-index of the table of points is made of its two coordinates. -/
theorem point_eq (i : S2x320000.Idx) : ∃ (b : Fin 2) (n : Fin 320000), i = ix2 b n := by
  refine ⟨i 0, i 1, funext fun a => ?_⟩
  fin_cases a <;> rfl

omit hPre in
/-- The two cells' words at a point, under the precondition: each is a small number. -/
theorem cells_small {p : FVec F S2x10000x2x2 .f32} (h : CellsInside p) (i : S2x320000.Idx) :
    (((fptosi 32 (lowOf (rows p)) : IVec S2x320000 32) i).toNat ≤ 254) ∧ (((fptosi 32 (lowOf (cols p)) : IVec S2x320000 32) i).toNat ≤ 254) := by
  have small : ∀ w : BitVec 32, 0 ≤ w.toInt → w.toInt ≤ 254 → w.toNat ≤ 254 := by
    intro w h0 h1
    have := BitVec.toInt_eq_toNat_cond w
    have := w.isLt
    split_ifs at * <;> omega
  obtain ⟨b, n, rfl⟩ := point_eq i
  rw [rows, cols, rows_word, cols_word]
  exact ⟨small _ (h _ _ _ _).1 (h _ _ _ _).2, small _ (h _ _ _ _).1 (h _ _ _ _).2⟩

omit hPre in
/-- A point's index word is 256 times its cell's row and the cell's column. -/
theorem words_toNat {p : FVec F S2x10000x2x2 .f32} (h : CellsInside p) (i : S2x320000.Idx) :
    (words p i).toNat = ((fptosi 32 (lowOf (rows p)) : IVec S2x320000 32) i).toNat * 256 + ((fptosi 32 (lowOf (cols p)) : IVec S2x320000 32) i).toNat := by
  have hs := cells_small h i
  show ((fptosi 32 (lowOf (rows p)) : IVec S2x320000 32) i * 256#32 + (fptosi 32 (lowOf (cols p)) : IVec S2x320000 32) i).toNat = _
  rw [BitVec.toNat_add, BitVec.toNat_mul]
  simp only [BitVec.toNat_ofNat]
  omega

omit hPre in
/-- Every index word lies inside the picture. -/
theorem words_inside {p : FVec F S2x10000x2x2 .f32} (h : CellsInside p) (i : S2x320000.Idx) : InImage (words p i) := by
  have hs := cells_small h i
  unfold InImage
  rw [words_toNat h i]
  omega

omit hPre in
/-- The first call leaves the end points as they were. -/
theorem leave0_points (m : (ℓ : Loc nD τ sig) → Buf (Elt F) ℓ) (c : Dev nD) : leave0 m c main_arg1 = m ((c.tc : Thread nD τ).loc main_arg1) := by
  rw [leave0_keeps m c main_arg1 (by decide)]
  exact V1_of m c main_arg1 (by decide)

omit hPre in
/-- The precondition puts every index word that the gather reads inside the picture. -/
theorem insideAll (m : (ℓ : Loc nD τ sig) → Buf (Elt F) ℓ) (h : ∀ c : Dev nD, CellsInside (m ((c.tc : Thread nD τ).loc main_arg1))) :
    InsideAll m := by
  intro c t j
  have e : enter1 m c main_v57 = _ := mid_words (leave0 m c)
  rw [leave0_points m c] at e
  show InImage (enter1 m c main_v57 _ : BitVec 32)
  rw [e]
  exact words_inside (h c) _

end Cert.KernelIdeal.Hand

end
-- ==== Proof.KernelIdeal.Runs.lean ====
/- The program's runs under the precondition: where the arguments and the result end. -/
module

public import proofs.«01_k».proof.Proof.KernelIdeal.Inside

@[expose] public section

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

/-- Every run leaves the result at `atEnd`, the arguments as they were and every semaphore counter at zero. -/
theorem runs (m : (ℓ : Loc nD τ sig) → Buf (Elt F) ℓ) (ρ : Dev nD → PrngReg) (h : ∀ c : Dev nD, CellsInside (m ((c.tc : Thread nD τ).loc main_arg1))) :
    θ_run defs (onTc (τ := τ) (main (F := F))) ⟨m, fun _ => 0, ρ⟩ (fun r =>
      (∀ c : Dev nD, r.2.mem ((c.tc : Thread nD τ).loc main_v78) = atEnd m c main_v78)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  have hw := run_whole m ρ (insideAll m h)
  refine (θ_run (defs (F := F)) _ _).mono ?_ hw
  rintro r ⟨hr, hs⟩
  have arg : ∀ {c : Dev nD} (b : Ref sig .tc) (hb : (Proc.devRef .tc b : DevRef τ sig).isScoped = false) {x},
      V17 m (left m) c b = x → r.2.mem ((c.tc : Thread nD τ).loc b) = x :=
    fun {c} b hb {_} hx => (hr c _ (mem_ucRefs b hb)).trans hx
  refine ⟨fun c => arg main_v78 (by decide) (congrFun (V17_eq m c) _), fun c => ?_, hs⟩
  refine ⟨?_, ?_, ?_, ?_, ?_, ?_, ?_, ?_, ?_, ?_⟩
  · exact arg main_arg0 (by decide) (V17_main_arg0 m (left m) c)
  · exact arg main_arg1 (by decide) (V17_main_arg1 m (left m) c)
  · exact arg main_arg2 (by decide) (V17_main_arg2 m (left m) c)
  · exact arg main_arg3 (by decide) (V17_main_arg3 m (left m) c)
  · exact arg main_arg4 (by decide) (V17_main_arg4 m (left m) c)
  · exact arg main_arg5 (by decide) (V17_main_arg5 m (left m) c)
  · exact arg main_arg6 (by decide) (V17_main_arg6 m (left m) c)
  · exact arg main_arg7 (by decide) (V17_main_arg7 m (left m) c)
  · exact arg main_arg8 (by decide) (V17_main_arg8 m (left m) c)
  · exact arg main_arg9 (by decide) (V17_main_arg9 m (left m) c)

end Cert.KernelIdeal.Hand

end
-- ==== Proof.ReferenceIdeal.Runs.lean ====
/- A run of the reference: its result is the composed term of its operations, of the arguments it started from. -/
module

public import proofs.«01_k».proof.Proof.Gen.ReferenceIdeal.Read

@[expose] public section

set_option maxRecDepth 8192

noncomputable section

namespace Cert.ReferenceIdeal.Hand

open Idealize.ShloMosaic Idealize.ShloMosaic.TcCoe Idealize.ShloMosaic.StableHlo
open Idealize.SL.Sem
open Cert.ReferenceIdeal Cert.ReferenceIdeal.Gen Cert.ReferenceIdeal.Read

/-- The reference's result as one term of the launch's arguments. -/
def resultOf (m : (ℓ : Loc nD τ sig) → Buf (Elt Ideal) ℓ) (c : Dev nD) : FVec Ideal S20000x3 .f32 :=
  val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- Every run of the reference ends with that term in its result and with its arguments as they were. -/
theorem runs (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v145) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run (defs (F := Ideal)) _ _).mono ?_ (Cert.ReferenceIdeal.Value.run m ρ)
  intro r h c
  refine ⟨?_, (h c).2⟩
  rw [(h c).1]
  exact val_main_v145_eq (F := Ideal) (launchContents m c)

end Cert.ReferenceIdeal.Hand
-- ==== Proof.KernelIdeal.Payloads.lean ====
/- What the two products' bodies compute, read entry by entry over the extended reals. -/
module

public import proofs.«01_k».proof.Proof.KernelIdeal.WholeRun
public import Idealize.ShloMosaic.Lib.Pointwise
public import Idealize.ShloMosaic.Lib.IdealHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Entry `(r, d)` of a block of the first product: row `r` of the picture against output channel `d`, plus the bias. -/
theorem fc1_entry (x : Vec Ideal S1x256x2048 .f32) (w : Vec Ideal S128x256 .f32) (b : Vec Ideal S1x128 .f32) (r : Fin 2048) (d : Fin 128) :
    k0_pay1 x w b (ix3 0 r d) = (∑ k : Fin 256, x (ix3 0 k r) * w (ix2 d k) : EReal) + b (ix2 0 d) := by
  unfold k0_pay1
  pointwise

/-- One hidden layer of one row `x`: `max (x · w^T + b) 0` at output `j`. -/
def hidden (x : Fin 1024 → EReal) (w : Fin 1024 → Fin 1024 → EReal) (b : Fin 1024 → EReal) (j : Fin 1024) : EReal :=
  max ((∑ k : Fin 1024, x k * w j k) + b j) 0

/-- Entry `(r, j)` of a block of the perceptron: two hidden layers and a linear one. -/
theorem mlp_entry (x : Vec Ideal S400x1024 .f32) (w1 : Vec Ideal S1024x1024 .f32) (b1 : Vec Ideal S1x1024 .f32) (w2 : Vec Ideal S1024x1024 .f32)
    (b2 : Vec Ideal S1x1024 .f32) (w3 : Vec Ideal S128x1024 .f32) (b3 : Vec Ideal S1x128 .f32) (r : Fin 400) (j : Fin 128) :
    k2_pay1 x w1 b1 w2 b2 w3 b3 (ix2 r j)
      = ((∑ k : Fin 1024, hidden (hidden (fun k => x (ix2 r k)) (fun j k => w1 (ix2 j k)) (fun j => b1 (ix2 0 j)))
            (fun j k => w2 (ix2 j k)) (fun j => b2 (ix2 0 j)) k * w3 (ix2 j k)) : EReal) + b3 (ix2 0 j) := by
  unfold k2_pay1 hidden
  pointwise

end Cert.KernelIdeal.Hand
-- ==== Proof.KernelIdeal.Exits.lean ====
/- What each call leaves in its result array, entry by entry, from the arrays it starts from. -/
module

public import proofs.«01_k».proof.Proof.KernelIdeal.Payloads
public import Idealize.ShloMosaic.Lib.Pipeline.ValueKit
public import Idealize.ShloMosaic.Lib.Pipeline.Covers

@[expose] public section

set_option maxRecDepth 16384

noncomputable section

namespace Cert.KernelIdeal.Hand

open Idealize.ShloMosaic Idealize.ShloMosaic.TcCoe Idealize.ShloMosaic.Tactic Idealize.ShloMosaic.Pipeline
open Cert.KernelIdeal Cert.KernelIdeal.Gen

variable (W : Dev nD → Valuation τ sig (Elt Ideal)) (c : Dev nD)

/-- Row `r` of picture `b` against output channel `d`, plus the bias, at `(b, r, d)`. -/
def fc1Of (x : Vec Ideal S2x256x65536 .f32) (w : Vec Ideal S128x256 .f32) (b : Vec Ideal S1x128 .f32) : Vec Ideal S2x65536x128 .f32 :=
  fun j => (∑ k : Fin 256, x (ix3 (j 0) k (j 1)) * w (ix2 (j 2) k) : EReal) + b (ix2 0 (j 2))

theorem index0_0 : ∀ t : Fin cfg0.N, win0_0.index t = ![(grid0.coords t 0).val, 0, (grid0.coords t 1).val] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![(grid0.coords t 0).val, (grid0.coords t 1).val, 0] := (by decide +kernel : ∀ t : Fin grid0.N, _)

/-- The first call's result array. -/
theorem fc1_result :
    Pipeline.afterRegion (fc1Dat W c) (W c) (Proc.devRef .tc main_v2) = fc1Of (W c main_v0) (W c main_arg2) (W c main_v1) := by
  refine (Pipeline.afterRegion_arr (fc1Dat W c) (W c) winFacts0.arr_inj 3).trans ?_
  refine (fc1Dat W c).arrAt_eq_of_covers 3 _ (by decide +kernel) fun t hf y => ?_
  blk_simp
  rw [fc1_after_out]
  obtain ⟨a, r, d, rfl⟩ : ∃ a : Fin 1, ∃ r : Fin 2048, ∃ d : Fin 128, y = ix3 a r d := ⟨y 0, y 1, y 2, by funext k; fin_cases k <;> rfl⟩
  obtain rfl : a = 0 := Subsingleton.elim _ _
  refine (fc1_entry _ _ _ r d).trans ?_
  unfold fc1Of fc1Block
  blk_simp [index0_0, index0_1, index0_2, index0_3]
  refine congrArg₂ (α := EReal) (β := EReal) (· + ·) (Finset.sum_congr rfl fun k _ => congrArg₂ (α := EReal) (β := EReal) (· * ·) (congrArg _ ?_) (congrArg _ ?_)) (congrArg _ ?_)
  all_goals blk_ext [index0_0, index0_1, index0_2, index0_3]

/-- Three layers of row `r` of `x`, at `(r, j)`. -/
def mlpOf (x : Vec Ideal S20000x1024 .f32) (w1 : Vec Ideal S1024x1024 .f32) (b1 : Vec Ideal S1x1024 .f32) (w2 : Vec Ideal S1024x1024 .f32)
    (b2 : Vec Ideal S1x1024 .f32) (w3 : Vec Ideal S128x1024 .f32) (b3 : Vec Ideal S1x128 .f32) : Vec Ideal S20000x128 .f32 :=
  fun j => (∑ k : Fin 1024, hidden (hidden (fun k => x (ix2 (j 0) k)) (fun j k => w1 (ix2 j k)) (fun j => b1 (ix2 0 j)))
            (fun j k => w2 (ix2 j k)) (fun j => b2 (ix2 0 j)) k * w3 (ix2 (j 1) k) : EReal) + b3 (ix2 0 (j 1))

theorem index2_0 : ∀ t : Fin cfg2.N, win2_0.index t = ![t.val, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![0, 0] := (by decide +kernel : ∀ t : Fin grid2.N, _)
theorem index2_4 : ∀ t : Fin cfg2.N, win2_4.index t = ![0, 0] := (by decide +kernel : ∀ t : Fin grid2.N, _)
theorem index2_5 : ∀ t : Fin cfg2.N, win2_5.index t = ![0, 0] := (by decide +kernel : ∀ t : Fin grid2.N, _)
theorem index2_6 : ∀ t : Fin cfg2.N, win2_6.index t = ![0, 0] := (by decide +kernel : ∀ t : Fin grid2.N, _)
theorem index2_7 : ∀ t : Fin cfg2.N, win2_7.index t = ![t.val, 0] := (by decide +kernel : ∀ t : Fin grid2.N, _)

/-- The perceptron's result array. -/
theorem mlp_result :
    Pipeline.afterRegion (mlpDat W c) (W c) (Proc.devRef .tc main_v77)
      = mlpOf (W c main_v63) (W c main_v66) (W c main_v75) (W c main_arg6) (W c main_v76) (W c main_v69) (W c main_v74) := by
  refine (Pipeline.afterRegion_arr (mlpDat W c) (W c) winFacts2.arr_inj 7).trans ?_
  refine (mlpDat W c).arrAt_eq_of_covers 7 _ (by decide +kernel) fun t hf y => ?_
  blk_simp
  rw [mlp_after_out]
  obtain ⟨r, d, rfl⟩ : ∃ r : Fin 400, ∃ d : Fin 128, y = ix2 r d := ⟨y 0, y 1, by funext k; fin_cases k <;> rfl⟩
  refine (mlp_entry _ _ _ _ _ _ _ r d).trans ?_
  unfold mlpOf mlpBlock
  blk_simp
  refine congrArg₂ (α := EReal) (β := EReal) (· + ·) (Finset.sum_congr rfl fun k _ => congrArg₂ (α := EReal) (β := EReal) (· * ·) (congrFun (congr (congr (congrArg hidden
    (congr (congr (congrArg hidden (funext fun k => congrArg _ ?_)) (funext fun j => funext fun k => congrArg _ ?_)) (funext fun j => congrArg _ ?_)))
    (funext fun j => funext fun k => congrArg _ ?_)) (funext fun j => congrArg _ ?_)) k) (congrArg _ ?_)) (congrArg _ ?_)
  all_goals blk_ext [index2_0, index2_1, index2_2, index2_3, index2_4, index2_5, index2_6, index2_7]

/-- At `(b, p, 0, e)`: entry `e` of line `p % 125` of step `80 b + p / 125`, from that step's words and weights and picture `b`. -/
def gatherOf (n : Vec Ideal S160x1x4000 .i32) (w : Vec Ideal S160x4x4000 .f32) (img : Vec Ideal S2x65536x1x128 .f32) : Vec Ideal S2x10000x1x1024 .f32 :=
  fun j =>
    let t : Fin 160 := ⟨80 * (j 0).val + (j 1).val / 125, by
      have h0 : (j 0).val < 2 := (j 0).isLt
      have h1 : (j 1).val < 10000 := (j 1).isLt
      omega⟩
    lineVal (fun z => n (ix3 t (z 1) (z 2))) (fun z => w (ix3 t (z 1) (z 2))) (imageOf img (j 0)) ⟨(j 1).val % 125, Nat.mod_lt _ (by decide)⟩ (j 3)

theorem index1_0 : ∀ t : Fin cfg1.N, win1_0.index t = ![t.val, 0, 0] := (by decide +kernel : ∀ t : Fin grid1.N, _)
theorem index1_1 : ∀ t : Fin cfg1.N, win1_1.index t = ![t.val, 0, 0] := (by decide +kernel : ∀ t : Fin grid1.N, _)
theorem index1_2 : ∀ t : Fin cfg1.N, win1_2.index t = ![t.val / 80, t.val % 80, 0, 0] := (by decide +kernel : ∀ t : Fin grid1.N, _)

theorem gatherBlock_words (t : Fin cfg1.N) (t' : Fin 160) (ht : t'.val = t.val) (z : S1x1x4000.Idx) :
    gatherBlock W c 0 t z = (W c main_v57 : Vec Ideal S160x1x4000 .i32) (ix3 t' (z 1) (z 2)) := by
  blk_simp [gatherBlock]
  refine congrArg _ ?_
  have h0 : (z 0).val < 1 := (z 0).isLt
  blk_ext [index1_0]

theorem gatherBlock_weights (t : Fin cfg1.N) (t' : Fin 160) (ht : t'.val = t.val) (z : S1x4x4000.Idx) :
    gatherBlock W c 1 t z = (W c main_v60 : Vec Ideal S160x4x4000 .f32) (ix3 t' (z 1) (z 2)) := by
  blk_simp [gatherBlock]
  refine congrArg _ ?_
  have h0 : (z 0).val < 1 := (z 0).isLt
  blk_ext [index1_1]

theorem gather_place (t : Fin cfg1.N) (ht : t.val < 160) (k : Fin 125) (e : Fin 1024) :
    ((cfg1.win 2).blk t).view.emb (ix4 (0 : Fin 1) k (0 : Fin 1) e)
      = (ix4 (⟨t.val / 80, by omega⟩ : Fin 2) (⟨t.val % 80 * 125 + k.val, by omega⟩ : Fin 10000) (0 : Fin 1) e : S2x10000x1x1024.Idx) := by
  blk_ext [index1_2]

/-- The gather's result array. -/
theorem gather_result :
    Pipeline.afterRegion (gatherDat W c) (W c) (Proc.devRef .tc main_v62) = gatherOf (W c main_v57) (W c main_v60) (W c main_v61) := by
  refine (Pipeline.afterRegion_arr (gatherDat W c) (W c) winFacts1.arr_inj 2).trans ?_
  refine (gatherDat W c).arrAt_eq_of_covers 2 _ (by decide +kernel) fun t hf y => ?_
  blk_simp
  rw [gather_after_out]
  obtain ⟨a, k, a', e, rfl⟩ : ∃ a : Fin 1, ∃ k : Fin 125, ∃ a' : Fin 1, ∃ e : Fin 1024, y = ix4 a k a' e := ⟨y 0, y 1, y 2, y 3, by funext k; fin_cases k <;> rfl⟩
  obtain rfl : a = 0 := Subsingleton.elim _ _
  obtain rfl : a' = 0 := Subsingleton.elim _ _
  have ht : t.val < 160 := lt_of_lt_of_eq t.isLt N_1
  refine Eq.trans ?_ (congrArg (gatherOf (W c main_v57) (W c main_v60) (W c main_v61)) (gather_place t ht k e)).symm
  have hk := k.isLt
  have e0 : 80 * (t.val / 80) + (t.val % 80 * 125 + k.val) / 125 = t.val := by omega
  have e1 : (t.val % 80 * 125 + k.val) % 125 = k.val := by omega
  have e2 : t.val / 80 % 2 = t.val / 80 := by omega
  exact congrFun (congr (congr (congr (congrArg lineVal (funext fun z => gatherBlock_words W c t _ e0 z)) (funext fun z => gatherBlock_weights W c t _ e0 z))
    (congrArg _ (Fin.ext e2))) (Fin.ext e1.symm)) e

end Cert.KernelIdeal.Hand
-- ==== Proof.KernelIdeal.Spec.lean ====
/- The values both programs compute, as plain formulas of the arguments: the features, the bilinear samples, their maxima and the
   perceptron's layers; and the kernel's intermediate arrays read as these formulas. -/
module

public import proofs.«01_k».proof.Proof.KernelIdeal.Exits
public import proofs.«01_k».proof.Proof.KernelIdeal.Inside

@[expose] public section

set_option maxRecDepth 16384

noncomputable section

namespace Cert.KernelIdeal.Hand

open Idealize.ShloMosaic Idealize.ShloMosaic.TcCoe Idealize.ShloMosaic.Tactic Idealize.ShloMosaic.StableHlo
open Cert.KernelIdeal Cert.KernelIdeal.Gen
open Cert.KernelIdeal.Facts

/-- Feature `d` of pixel `n` of picture `b`. -/
def featureAt (a0 : FVec Ideal S2x256x256x256 .f32) (a2 : FVec Ideal S128x256 .f32) (a3 : FVec Ideal S128 .f32) (b : Fin 2) (n : Fin 65536) (d : Fin 128) : EReal :=
  (∑ k : Fin 256, a0 (ix4 b k (⟨n.val / 256, by omega⟩ : Fin 256) (⟨n.val % 256, by omega⟩ : Fin 256)) * a2 (ix2 d k)) + a3 (ix1 d)

/-- The four neighbours `n`, `n + 256`, `n + 1`, `n + 257` of a map weighted by the distances of `(r, c)` to its cell's corners. -/
def blend (x : ℕ → EReal) (n : ℕ) (r c r0 c0 r1 c1 : EReal) : EReal :=
  x n * ((r1 - r) * (c1 - c)) + x (n + 256) * ((r - r0) * (c1 - c)) + x (n + 1) * ((r1 - r) * (c - c0)) + x (n + 257) * ((r - r0) * (c - c0))

/-- Channel `d` of sampled point `q` of picture `b`. -/
def sampleAt (x : Fin 2 → Fin 65536 → Fin 128 → EReal) (p : FVec Ideal S2x10000x2x2 .f32) (b : Fin 2) (q : Fin 320000) (d : Fin 128) : EReal :=
  blend (fun n => x b (Fin.ofNat 65536 n) d) (words p (ix2 b q)).toNat (rows p (ix2 b q)) (cols p (ix2 b q))
    (lowOf (rows p) (ix2 b q)) (lowOf (cols p) (ix2 b q)) (highOf (lowOf (rows p)) (ix2 b q)) (highOf (lowOf (cols p)) (ix2 b q))

/-- The maximum of channel `d` over the four points of group `g` of line `l`. -/
def pooledAt (x : Fin 2 → Fin 65536 → Fin 128 → EReal) (p : FVec Ideal S2x10000x2x2 .f32) (b : Fin 2) (l : Fin 10000) (g : Fin 8) (d : Fin 128) : EReal :=
  let s : Fin 4 → EReal := fun r => sampleAt x p b ⟨32 * l.val + (4 * g.val + r.val), by omega⟩ d
  max (max (s 0) (s 1)) (max (s 2) (s 3))

/-- The first call's result is the map of features. -/
theorem fc1Of_entry (a0 : FVec Ideal S2x256x256x256 .f32) (a2 : FVec Ideal S128x256 .f32) (a3 : FVec Ideal S128 .f32) (b : Fin 2) (n : Fin 65536) (d : Fin 128) :
    fc1Of (shapeCast S2x256x65536 a0 shapeCasts_S2x256x256x256_S2x256x65536) a2 (shapeCast S1x128 a3 shapeCasts_S128_S1x128) (ix3 b n d) = featureAt a0 a2 a3 b n d := by
  unfold fc1Of featureAt
  refine congrArg₂ (α := EReal) (β := EReal) (· + ·) (Finset.sum_congr rfl fun k _ => congrArg₂ (α := EReal) (β := EReal) (· * ·) (shapeCast_apply _ _ _ _ ?_) rfl) (shapeCast_apply _ _ _ _ ?_)
  · rw [Shape.rowMajor_val_three, Shape.rowMajor_val_four]
    simp [ix3, ix4]
    omega
  · rw [Shape.rowMajor_val_two, Shape.rowMajor_val_one]
    simp [ix1, ix2]

/-- Weight `r` of sampled point `q`. -/
theorem weights_entry (p : FVec Ideal S2x10000x2x2 .f32) (b : Fin 2) (q : Fin 320000) :
    weights p (ix3 b 0 q) = (highOf (lowOf (rows p)) (ix2 b q) - rows p (ix2 b q)) * (highOf (lowOf (cols p)) (ix2 b q) - cols p (ix2 b q) : EReal)
      ∧ weights p (ix3 b 1 q) = (rows p (ix2 b q) - lowOf (rows p) (ix2 b q)) * (highOf (lowOf (cols p)) (ix2 b q) - cols p (ix2 b q) : EReal)
      ∧ weights p (ix3 b 2 q) = (highOf (lowOf (rows p)) (ix2 b q) - rows p (ix2 b q)) * (cols p (ix2 b q) - lowOf (cols p) (ix2 b q) : EReal)
      ∧ weights p (ix3 b 3 q) = (rows p (ix2 b q) - lowOf (rows p) (ix2 b q)) * (cols p (ix2 b q) - lowOf (cols p) (ix2 b q) : EReal) := by
  unfold weights weightsOf
  generalize highOf (lowOf (rows p)) = r1
  generalize highOf (lowOf (cols p)) = c1
  generalize lowOf (rows p) = r0
  generalize lowOf (cols p) = c0
  generalize rows p = r
  generalize cols p = cc
  refine ⟨?_, ?_, ?_, ?_⟩ <;> pointwise

/-- The step, and the place in it, at which the gather takes a sampled point. -/
theorem words_table (p : FVec Ideal S2x10000x2x2 .f32) (b : Fin 2) (q : Fin 320000) (t : Fin 160) (k : Fin 4000) (h : 4000 * t.val + k.val = 320000 * b.val + q.val) (z : Fin 1) :
    shapeCast S160x1x4000 (words p : IVec S2x320000 32) shapeCasts_S2x320000_S160x1x4000 (ix3 t z k) = words p (ix2 b q) := by
  refine shapeCast_apply _ _ _ _ ?_
  rw [Shape.rowMajor_val_three, Shape.rowMajor_val_two]
  simp [ix3, ix2]
  omega

theorem weights_table (p : FVec Ideal S2x10000x2x2 .f32) (b : Fin 2) (q : Fin 320000) (t : Fin 160) (k : Fin 4000) (h : 4000 * t.val + k.val = 320000 * b.val + q.val) (r : Fin 4) :
    shapeCast S160x4x4000 (transpose S2x80x4x4000 [0, 2, 1, 3] (shapeCast S2x4x80x4000 (weights p) shapeCasts_S2x4x320000_S2x4x80x4000)
        transposes_S2x4x80x4000_S2x80x4x4000_0_2_1_3) shapeCasts_S2x80x4x4000_S160x4x4000 (ix3 t r k) = weights p (ix3 b r q) := by
  have hq := q.isLt
  have hk := k.isLt
  rw [shapeCast_apply _ _ _ (ix4 b (⟨t.val - 80 * b.val, by omega⟩ : Fin 80) r k) (by
      rw [Shape.rowMajor_val_three, Shape.rowMajor_val_four]
      simp [ix3, ix4]
      omega),
    transpose_apply _ _ _ _ (ix4 b r (⟨t.val - 80 * b.val, by omega⟩ : Fin 80) k) (by intro a; fin_cases a <;> rfl)]
  refine shapeCast_apply _ _ _ _ ?_
  rw [Shape.rowMajor_val_three, Shape.rowMajor_val_four]
  simp [ix3, ix4]
  omega

/-- The gather's result, of the tables and the pictures that the host hands it, is the table of maxima. -/
theorem gatherOf_entry (x : FVec Ideal S2x65536x128 .f32) (p : FVec Ideal S2x10000x2x2 .f32) (b : Fin 2) (l : Fin 10000) (g : Fin 8) (d : Fin 128) (e : Fin 1024)
    (he : e.val = 128 * g.val + d.val) :
    gatherOf (shapeCast S160x1x4000 (words p : IVec S2x320000 32) shapeCasts_S2x320000_S160x1x4000)
      (shapeCast S160x4x4000 (transpose S2x80x4x4000 [0, 2, 1, 3] (shapeCast S2x4x80x4000 (weights p) shapeCasts_S2x4x320000_S2x4x80x4000)
        transposes_S2x4x80x4000_S2x80x4x4000_0_2_1_3) shapeCasts_S2x80x4x4000_S160x4x4000)
      (shapeCast S2x65536x1x128 x shapeCasts_S2x65536x128_S2x65536x1x128) (ix4 b l 0 e)
      = pooledAt (fun b n d => x (ix3 b n d)) p b l g d := by
  have hl := l.isLt
  have hd := d.isLt
  have hg := g.isLt
  have hb := b.isLt
  have hx : ∀ (n : Fin 65536) (d' : Fin 128), imageOf (F := Ideal) (shapeCast S2x65536x1x128 x shapeCasts_S2x65536x128_S2x65536x1x128) b (ix3 n 0 d') = x (ix3 b n d') := by
    intro n d'
    refine shapeCast_apply _ _ _ _ ?_
    rw [Shape.rowMajor_val_three, Shape.rowMajor_val_four]
    simp [ix3, ix4]
  have hpt : ∀ r : Fin 4, ∀ h h' h'', pointVal (F := Ideal) (fun z => shapeCast S160x1x4000 (words p : IVec S2x320000 32) shapeCasts_S2x320000_S160x1x4000 (ix3 (⟨80 * b.val + l.val / 125, h⟩ : Fin 160) (z 1) (z 2)))
      (fun z => shapeCast S160x4x4000 (transpose S2x80x4x4000 [0, 2, 1, 3] (shapeCast S2x4x80x4000 (weights p) shapeCasts_S2x4x320000_S2x4x80x4000)
        transposes_S2x4x80x4000_S2x80x4x4000_0_2_1_3) shapeCasts_S2x80x4x4000_S160x4x4000 (ix3 (⟨80 * b.val + l.val / 125, h⟩ : Fin 160) (z 1) (z 2)))
      (imageOf (F := Ideal) (shapeCast S2x65536x1x128 x shapeCasts_S2x65536x128_S2x65536x1x128) b) ⟨32 * (l.val % 125) + (4 * (e.val / 128) + r.val), h'⟩ ⟨e.val % 128, h''⟩
      = sampleAt (fun b n d => x (ix3 b n d)) p b ⟨32 * l.val + (4 * g.val + r.val), by omega⟩ d := by
    intro r h h' h''
    have hr := r.isLt
    have hk : 4000 * (80 * b.val + l.val / 125) + (32 * (l.val % 125) + (4 * (e.val / 128) + r.val)) = 320000 * b.val + (32 * l.val + (4 * g.val + r.val)) := by omega
    have ed : (⟨e.val % 128, h''⟩ : Fin 128) = d := Fin.ext (by show e.val % 128 = d.val; omega)
    have hw := fun z => words_table p b ⟨32 * l.val + (4 * g.val + r.val), by omega⟩ ⟨80 * b.val + l.val / 125, h⟩ ⟨32 * (l.val % 125) + (4 * (e.val / 128) + r.val), h'⟩ hk z
    have ht := fun s => weights_table p b ⟨32 * l.val + (4 * g.val + r.val), by omega⟩ ⟨80 * b.val + l.val / 125, h⟩ ⟨32 * (l.val % 125) + (4 * (e.val / 128) + r.val), h'⟩ hk s
    obtain ⟨w0, w1, w2, w3⟩ := weights_entry p b ⟨32 * l.val + (4 * g.val + r.val), by omega⟩
    unfold pointVal sampleAt blend
    rw [ed]
    dsimp only [ix3_0, ix3_1, ix3_2]
    simp only [hx, hw, ht, w0, w1, w2, w3, Ideal.addf_def, Ideal.mulf_def]
  unfold gatherOf lineVal pooledAt
  dsimp only
  simp only [Ideal.maximumf_def]
  exact congrArg₂ (α := EReal) (β := EReal) max (congrArg₂ (α := EReal) (β := EReal) max (hpt 0 _ _ _) (hpt 1 _ _ _)) (congrArg₂ (α := EReal) (β := EReal) max (hpt 2 _ _ _) (hpt 3 _ _ _))

end Cert.KernelIdeal.Hand
-- ==== Proof.KernelIdeal.Cells.lean ====
/- The corners of a sampled point's cell, as numbers: under the precondition the lower corner is a whole number of at most 254, the
   upper one is one more, and their words count likewise. -/
module

public import proofs.«01_k».proof.Proof.KernelIdeal.Inside
public import Idealize.ShloMosaic.PureOps.Ideal.Laws
public import Idealize.ShloMosaic.Lib.IdealHost

@[expose] public section

noncomputable section

namespace Cert.KernelIdeal.Hand

open Idealize.ShloMosaic Idealize.ShloMosaic.TcCoe Idealize.ShloMosaic.Tactic Idealize.ShloMosaic.StableHlo
open Cert.KernelIdeal Cert.KernelIdeal.Gen
open Cert.KernelIdeal.Facts

/-- A whole number as an extended real. -/
abbrev whole (k : ℕ) : EReal := ((k : ℝ) : EReal)

theorem bits_255 : Ideal.ofBits .f32 0x437F0000#32 = whole 255 := by
  simp [Ideal.ofBits, Ideal.ieee, whole, -EReal.coe_mul]; norm_num

/-- Cutting a whole number to the range from 0 to 255. -/
theorem cut_whole (z : ℤ) : min (whole 255) (max 0 ((z : ℝ) : EReal)) = whole (min 255 z.toNat) := by
  have h0 : (0 : EReal) = ((0 : ℝ) : EReal) := rfl
  rw [h0, whole, whole, ← EReal.coe_strictMono.monotone.map_max, ← EReal.coe_strictMono.monotone.map_min]
  congr 1
  rcases le_total 0 z with h | h
  · obtain ⟨n, rfl⟩ := Int.eq_ofNat_of_zero_le h
    rw [max_eq_right (by simp)]
    push_cast
    simp
  · rw [max_eq_left (by exact_mod_cast h), Int.toNat_of_nonpos h]
    simp

/-- The cut floor of any extended real is a whole number of at most 255. -/
theorem low_whole (x : EReal) : ∃ k : ℕ, k ≤ 255 ∧ min (whole 255) (max 0 (Ideal.liftRound Int.floor x)) = whole k := by
  induction x with
  | bot => exact ⟨0, by omega, by simp [whole]⟩
  | top => exact ⟨255, by omega, by simp [whole]⟩
  | coe r => exact ⟨min 255 ⌊r⌋.toNat, by omega, by rw [Ideal.liftRound_coe, cut_whole]⟩

/-- The word of a small whole number. -/
theorem word_whole (k : ℕ) (h : k ≤ 255) : Ideal.fptosi 32 (whole k) = BitVec.ofNat 32 k := by
  unfold Ideal.fptosi whole
  rw [Ideal.toIntClamped_coe, if_pos (by positivity), Int.floor_natCast]
  rw [show max (-((2 ^ (32 - 1) : ℕ) : ℤ)) (min (((2 ^ (32 - 1) : ℕ) : ℤ) - 1) (k : ℤ)) = (k : ℤ) by norm_num; omega]
  exact BitVec.ofInt_natCast 32 k

theorem low_entry (x : FVec Ideal S2x320000 .f32) (i : S2x320000.Idx) :
    lowOf x i = min (whole 255) (max 0 (Ideal.liftRound Int.floor (x i))) := by
  rw [← bits_255, ← Ideal.ofBits_zero_f32]
  rfl

theorem high_entry (x : FVec Ideal S2x320000 .f32) (i : S2x320000.Idx) : highOf x i = min (whole 255) (max 0 ((x i : EReal) + 1)) := by
  rw [← bits_255, ← Ideal.ofBits_zero_f32, ← Ideal.ofBits_one_f32]
  rfl

/-- A table's corners at one point where the lower one's word is at most 254. -/
theorem corners (x : FVec Ideal S2x320000 .f32) (i : S2x320000.Idx) (h : ((fptosi 32 (lowOf x) : IVec S2x320000 32) i).toNat ≤ 254) :
    ∃ k : ℕ, k ≤ 254 ∧ (fptosi 32 (lowOf x) : IVec S2x320000 32) i = BitVec.ofNat 32 k
      ∧ (fptosi 32 (highOf (lowOf x)) : IVec S2x320000 32) i = BitVec.ofNat 32 (k + 1) := by
  obtain ⟨k, hk, e⟩ := low_whole (x i)
  have el : (fptosi 32 (lowOf x) : IVec S2x320000 32) i = BitVec.ofNat 32 k := by
    show Ideal.fptosi 32 (lowOf x i) = _
    rw [low_entry, e, word_whole k hk]
  have hk' : k ≤ 254 := by
    rw [el, BitVec.toNat_ofNat] at h
    omega
  refine ⟨k, hk', el, ?_⟩
  show Ideal.fptosi 32 (highOf (lowOf x) i) = _
  rw [high_entry, low_entry, e, ← word_whole (k + 1) (by omega)]
  have h1 : whole k + 1 = (((k + 1 : ℕ) : ℤ) : ℝ) := by
    simp [whole]
  rw [h1, cut_whole]
  congr 2
  omega

end Cert.KernelIdeal.Hand
-- ==== Proof.ReferenceIdeal.Samples.lean ====
/- The reference's bilinear samples at one entry: its map of features, its four gathers and its weights, read as the formulas that the
   kernel's arrays were read as. -/
module

public import proofs.«01_k».proof.Proof.Gen.ReferenceIdeal.Read
public import proofs.«01_k».proof.Proof.KernelIdeal.Spec
public import proofs.«01_k».proof.Proof.KernelIdeal.Cells
public import Idealize.ShloMosaic.Lib.Pointwise

@[expose] public section

set_option maxRecDepth 16384

noncomputable section

namespace Cert.ReferenceIdeal.Hand

open Idealize.ShloMosaic Idealize.ShloMosaic.TcCoe Idealize.ShloMosaic.Tactic Idealize.ShloMosaic.StableHlo Idealize.ShloMosaic.WordCmp
open Cert.ReferenceIdeal Cert.ReferenceIdeal.Gen Cert.ReferenceIdeal.Read
open Cert.KernelIdeal.Hand (featureAt blend sampleAt pooledAt rows cols lowOf highOf words words_toNat cells_small corners CellsInside)

/-! ## The points and their cells are the kernel's -/

section
variable (x1 : FVec Ideal S2x10000x2x2 .f32)

theorem rows_eq : val_main_v24 (F := Ideal) x1 = rows x1 := rfl
theorem cols_eq : val_main_v26 (F := Ideal) x1 = cols x1 := rfl
theorem low_rows_eq : val_main_v28 (F := Ideal) x1 = lowOf (rows x1) := rfl
theorem low_cols_eq : val_main_v30 (F := Ideal) x1 = lowOf (cols x1) := rfl
theorem high_rows_eq : val_main_v33 (F := Ideal) x1 = highOf (lowOf (rows x1)) := rfl
theorem high_cols_eq : val_main_v36 (F := Ideal) x1 = highOf (lowOf (cols x1)) := rfl

end

/-! ## The map of features -/

theorem feature_entry (x0 : FVec Ideal S2x256x256x256 .f32) (x2 : FVec Ideal S128x256 .f32) (x3 : FVec Ideal S128 .f32) (b : Fin 2) (d : Fin 128)
    (r c : Fin 256) (n : Fin 65536) (hn : n.val = 256 * r.val + c.val) : val_main_v4 (F := Ideal) x0 x2 x3 (ix4 b d r c) = featureAt x0 x2 x3 b n d := by
  rw [val_main_v4_apply, val_main_v1_apply, val_main_v0_apply, val_main_v3_apply, val_main_v2_apply]
  have hr : (⟨n.val / 256, by omega⟩ : Fin 256) = r := Fin.ext (by show n.val / 256 = r.val; omega)
  have hc : (⟨n.val % 256, by omega⟩ : Fin 256) = c := Fin.ext (by show n.val % 256 = c.val; omega)
  unfold featureAt
  rw [hr, hc]
  refine congrArg₂ (α := EReal) (β := EReal) (· + ·) (Finset.sum_congr rfl fun k _ => ?_) (congrArg x3 (funext fun a => by fin_cases a; rfl))
  rw [mul_comm]
  refine congrArg₂ (α := EReal) (β := EReal) (· * ·) (congrArg x0 (funext fun a => by fin_cases a <;> rfl)) (congrArg x2 (funext fun a => by fin_cases a <;> rfl))

/-! ## One gather of a cell's corners -/

/-- A table of words, each below zero moved up by 256. -/
abbrev wrapped (w : IVec S2x320000 32) : IVec S2x320000 32 :=
  select (cmpi .slt w (broadcastInDim S2x320000 ![] bcast_S_S2x320000 (constantI S_ 32 0#32)))
    (addi w (broadcastInDim S2x320000 ![] bcast_S_S2x320000 (constantI S_ 32 256#32))) w

/-- The pairs of words that a gather takes. -/
abbrev paired (u v : IVec S2x320000 32) : IVec S2x320000x2 32 :=
  concatenate S2x320000x2 2 [⟨S2x320000x1, broadcastInDim S2x320000x1 ![0, 1] bcast_S2x320000_S2x320000x1_0_1 u⟩,
    ⟨S2x320000x1, broadcastInDim S2x320000x1 ![0, 1] bcast_S2x320000_S2x320000x1_0_1 v⟩] concatenates_S2x320000x1_S2x320000x1_S2x320000x2_d2

/-- The gather's dimension numbers: pictures are paired with pictures, the two words name row and column, and channels go along. -/
abbrev dims := gather_S2x128x256x256_S2x320000x2_S2x128x320000_1_23_0_0_23_2_112811

/-- A map's entries at the pixels that two tables of words name. -/
def corner (y : FVec Ideal S2x128x256x256 .f32) (u v : IVec S2x320000 32) : FVec Ideal S2x128x320000 .f32 :=
  Host.gather dims y (paired (wrapped u) (wrapped v))

theorem paired_entry (u v : IVec S2x320000 32) (b : Fin 2) (q : Fin 320000) :
    paired u v (ix3 b q 0) = u (ix2 b q) ∧ paired u v (ix3 b q 1) = v (ix2 b q) := by
  refine ⟨?_, ?_⟩ <;> pointwise

theorem wrapped_entry (w : IVec S2x320000 32) (i : S2x320000.Idx) (h : (w i).toNat ≤ 255) : wrapped w i = w i := by
  show Scalar.select (IntOp.cmpi .slt (w i) 0#32) (w i + 256#32) (w i) = w i
  rw [cmpi_slt_of_lt (by omega) (by decide)]
  rfl

/-- Where the gather reads word `k` of a point. -/
theorem word_place (b : Fin 2) (d : Fin 128) (q : Fin 320000) (k : Fin 2) : dims.siIdx (ix3 b d q) k = ix3 b q k := by
  funext a
  fin_cases a <;> rfl

theorem gather_entry (y : FVec Ideal S2x128x256x256 .f32) (t : IVec S2x320000x2 32) (b : Fin 2) (d : Fin 128) (q : Fin 320000) (r c : Fin 256)
    (hr : (t (ix3 b q 0)).toInt = r.val) (hc : (t (ix3 b q 1)).toInt = c.val) : Host.gather dims y t (ix3 b d q) = y (ix4 b d r c) := by
  have s2 : dims.start (ix3 b d q) t 2 = min (t (dims.siIdx (ix3 b d q) (0 : Fin 2))).toInt.toNat 255 := dif_pos (show (2 : Fin 4) ∈ dims.startIndexMap by decide)
  have s3 : dims.start (ix3 b d q) t 3 = min (t (dims.siIdx (ix3 b d q) (1 : Fin 2))).toInt.toNat 255 := dif_pos (show (3 : Fin 4) ∈ dims.startIndexMap by decide)
  rw [word_place, hr, Int.toNat_natCast, min_eq_left (by omega)] at s2
  rw [word_place, hc, Int.toNat_natCast, min_eq_left (by omega)] at s3
  refine congrArg y (funext fun a => Fin.ext ?_)
  show dims.start (ix3 b d q) t a + dims.batchCoord (ix3 b d q) a + dims.offCoord (ix3 b d q) a = _
  fin_cases a
  · show dims.start (ix3 b d q) t 0 + dims.batchCoord (ix3 b d q) 0 + dims.offCoord (ix3 b d q) 0 = b.val
    rw [dims.start_batching _ _ _ (by decide), dims.offCoord_eq_zero _ _ (by decide), Nat.zero_add, Nat.add_zero]
    rfl
  · show dims.start (ix3 b d q) t 1 + dims.batchCoord (ix3 b d q) 1 + dims.offCoord (ix3 b d q) 1 = d.val
    rw [dims.batchCoord_eq_zero _ _ (by decide), show dims.start (ix3 b d q) t 1 = 0 from dif_neg (by decide), Nat.zero_add]
    rfl
  · show dims.start (ix3 b d q) t 2 + dims.batchCoord (ix3 b d q) 2 + dims.offCoord (ix3 b d q) 2 = r.val
    rw [dims.batchCoord_eq_zero _ _ (by decide), dims.offCoord_eq_zero _ _ (by decide), s2, Nat.add_zero]
  · show dims.start (ix3 b d q) t 3 + dims.batchCoord (ix3 b d q) 3 + dims.offCoord (ix3 b d q) 3 = c.val
    rw [dims.batchCoord_eq_zero _ _ (by decide), dims.offCoord_eq_zero _ _ (by decide), s3, Nat.add_zero]

theorem corner_entry (y : FVec Ideal S2x128x256x256 .f32) (u v : IVec S2x320000 32) (b : Fin 2) (d : Fin 128) (q : Fin 320000) (r c : Fin 256)
    (hr : u (ix2 b q) = BitVec.ofNat 32 r.val) (hc : v (ix2 b q) = BitVec.ofNat 32 c.val) : corner y u v (ix3 b d q) = y (ix4 b d r c) := by
  have small : ∀ k : Fin 256, (BitVec.ofNat 32 k.val).toNat = k.val := fun k => by
    have := k.isLt
    rw [BitVec.toNat_ofNat]
    omega
  have int : ∀ k : Fin 256, (BitVec.ofNat 32 k.val).toInt = k.val := fun k => by
    rw [BitVec.toInt_eq_toNat_cond, small]
    have := k.isLt
    split_ifs <;> omega
  refine gather_entry y _ b d q r c ?_ ?_
  · rw [(paired_entry _ _ b q).1, wrapped_entry _ _ (by rw [hr, small]; omega), hr, int]
  · rw [(paired_entry _ _ b q).2, wrapped_entry _ _ (by rw [hc, small]; omega), hc, int]

section
variable (x0 : FVec Ideal S2x256x256x256 .f32) (x1 : FVec Ideal S2x10000x2x2 .f32) (x2 : FVec Ideal S128x256 .f32) (x3 : FVec Ideal S128 .f32)

/-- The four gathers of the reference. -/
theorem gathers :
    val_main_v54 (F := Ideal) x0 x1 x2 x3 = corner (val_main_v4 (F := Ideal) x0 x2 x3) (fptosi 32 (lowOf (rows x1))) (fptosi 32 (lowOf (cols x1)))
      ∧ val_main_v74 (F := Ideal) x0 x1 x2 x3 = corner (val_main_v4 (F := Ideal) x0 x2 x3) (fptosi 32 (highOf (lowOf (rows x1)))) (fptosi 32 (lowOf (cols x1)))
      ∧ val_main_v95 (F := Ideal) x0 x1 x2 x3 = corner (val_main_v4 (F := Ideal) x0 x2 x3) (fptosi 32 (lowOf (rows x1))) (fptosi 32 (highOf (lowOf (cols x1))))
      ∧ val_main_v116 (F := Ideal) x0 x1 x2 x3 = corner (val_main_v4 (F := Ideal) x0 x2 x3) (fptosi 32 (highOf (lowOf (rows x1)))) (fptosi 32 (highOf (lowOf (cols x1)))) :=
  ⟨rfl, rfl, rfl, rfl⟩

/-- The four bilinear weights of the reference, spread over the channels. -/
theorem weights_read (b : Fin 2) (d : Fin 128) (q : Fin 320000) :
    val_main_v59 (F := Ideal) x1 (ix3 b d q) = (highOf (lowOf (rows x1)) (ix2 b q) - rows x1 (ix2 b q)) * (highOf (lowOf (cols x1)) (ix2 b q) - cols x1 (ix2 b q) : EReal)
      ∧ val_main_v79 (F := Ideal) x1 (ix3 b d q) = (rows x1 (ix2 b q) - lowOf (rows x1) (ix2 b q)) * (highOf (lowOf (cols x1)) (ix2 b q) - cols x1 (ix2 b q) : EReal)
      ∧ val_main_v100 (F := Ideal) x1 (ix3 b d q) = (highOf (lowOf (rows x1)) (ix2 b q) - rows x1 (ix2 b q)) * (cols x1 (ix2 b q) - lowOf (cols x1) (ix2 b q) : EReal)
      ∧ val_main_v121 (F := Ideal) x1 (ix3 b d q) = (rows x1 (ix2 b q) - lowOf (rows x1) (ix2 b q)) * (cols x1 (ix2 b q) - lowOf (cols x1) (ix2 b q) : EReal) := by
  have spread : ∀ w : FVec Ideal S2x320000 .f32, broadcastInDim S2x128x320000 ![0, 1, 2] bcast_S2x1x320000_S2x128x320000_0_1_2
      (broadcastInDim S2x1x320000 ![0, 2] bcast_S2x320000_S2x1x320000_0_2 w) (ix3 b d q) = w (ix2 b q) := fun w => by pointwise
  exact ⟨spread _, spread _, spread _, spread _⟩

/-- **The reference's bilinear sum at one entry**, where the cell lies inside the picture. -/
theorem sample_entry (hin : CellsInside x1) (b : Fin 2) (d : Fin 128) (q : Fin 320000) :
    val_main_v123 (F := Ideal) x0 x1 x2 x3 (ix3 b d q) = sampleAt (featureAt x0 x2 x3) x1 b q d := by
  obtain ⟨hr, hc⟩ := cells_small hin (ix2 b q)
  obtain ⟨r, hr', er0, er1⟩ := corners (rows x1) (ix2 b q) hr
  obtain ⟨c, hc', ec0, ec1⟩ := corners (cols x1) (ix2 b q) hc
  have hw : (words x1 (ix2 b q)).toNat = 256 * r + c := by
    rw [words_toNat hin, er0, ec0, BitVec.toNat_ofNat, BitVec.toNat_ofNat]
    omega
  obtain ⟨g0, g1, g2, g3⟩ := gathers x0 x1 x2 x3
  obtain ⟨w0, w1, w2, w3⟩ := weights_read x1 b d q
  have at4 : ∀ (u v : IVec S2x320000 32) (k l m : ℕ) (hk : k < 256) (hl : l < 256) (hm : m = 256 * k + l), u (ix2 b q) = BitVec.ofNat 32 k → v (ix2 b q) = BitVec.ofNat 32 l →
      corner (val_main_v4 (F := Ideal) x0 x2 x3) u v (ix3 b d q) = featureAt x0 x2 x3 b (Fin.ofNat 65536 m) d := by
    intro u v k l m hk hl hm hu hv
    rw [corner_entry _ u v b d q ⟨k, hk⟩ ⟨l, hl⟩ hu hv]
    exact feature_entry x0 x2 x3 b d _ _ _ (by show m % 65536 = 256 * k + l; omega)
  rw [val_main_v123_apply, val_main_v102_apply, val_main_v81_apply, val_main_v60_apply, val_main_v80_apply, val_main_v101_apply, val_main_v122_apply,
    g0, g1, g2, g3, w0, w1, w2, w3, at4 _ _ r c (256 * r + c) (by omega) (by omega) rfl er0 ec0, at4 _ _ (r + 1) c (256 * r + c + 256) (by omega) (by omega) (by omega) er1 ec0,
    at4 _ _ r (c + 1) (256 * r + c + 1) (by omega) (by omega) (by omega) er0 ec1, at4 _ _ (r + 1) (c + 1) (256 * r + c + 257) (by omega) (by omega) (by omega) er1 ec1]
  unfold sampleAt
  rw [hw]
  rfl

end

end Cert.ReferenceIdeal.Hand
-- ==== Proof.KernelIdeal.KernelValue.lean ====
/- The kernel's result, entry by entry, as a formula of its ten arguments. -/
module

public import proofs.«01_k».proof.Proof.KernelIdeal.Spec
public import Idealize.ShloMosaic.Lib.Routing.OpsSet

@[expose] public section

set_option maxRecDepth 16384

noncomputable section

namespace Cert.KernelIdeal.Hand

open Idealize.ShloMosaic Idealize.ShloMosaic.TcCoe Idealize.ShloMosaic.Tactic Idealize.ShloMosaic.StableHlo
open Cert.KernelIdeal Cert.KernelIdeal.Gen
open Cert.KernelIdeal.Facts

/-- The 1024 features of line `i`, both pictures' lines counted through: channel `f / 8` of group `f % 8` at `f`. -/
def lineFeatures (a0 : FVec Ideal S2x256x256x256 .f32) (a1 : FVec Ideal S2x10000x2x2 .f32) (a2 : FVec Ideal S128x256 .f32) (a3 : FVec Ideal S128 .f32)
    (i : Fin 20000) (f : Fin 1024) : EReal :=
  pooledAt (featureAt a0 a2 a3) a1 (⟨i.val / 10000, by omega⟩ : Fin 2) (⟨i.val % 10000, by omega⟩ : Fin 10000) (⟨f.val % 8, by omega⟩ : Fin 8) (⟨f.val / 8, by omega⟩ : Fin 128)

/-- Score `j` of line `i`: the perceptron on the line's features. -/
def scoreAt (a0 : FVec Ideal S2x256x256x256 .f32) (a1 : FVec Ideal S2x10000x2x2 .f32) (a2 : FVec Ideal S128x256 .f32) (a3 : FVec Ideal S128 .f32)
    (a4 : FVec Ideal S1024x1024 .f32) (a5 : FVec Ideal S1024 .f32) (a6 : FVec Ideal S1024x1024 .f32) (a7 : FVec Ideal S1024 .f32)
    (a8 : FVec Ideal S3x1024 .f32) (a9 : FVec Ideal S3 .f32) (i : Fin 20000) (j : Fin 3) : EReal :=
  (∑ k : Fin 1024, hidden (hidden (lineFeatures a0 a1 a2 a3 i) (fun j k => a4 (ix2 j k)) (fun j => a5 (ix1 j)))
    (fun j k => a6 (ix2 j k)) (fun j => a7 (ix1 j)) k * a8 (ix2 j k)) + a9 (ix1 j)

/-- The kernel lays a line's features out by group and the reference by channel: where feature `e` of the one stands in the other. -/
def byChannel : Fin 1024 ≃ Fin 1024 where
  toFun e := ⟨8 * (e.val % 128) + e.val / 128, by omega⟩
  invFun f := ⟨128 * (f.val % 8) + f.val / 8, by omega⟩
  left_inv e := Fin.ext (by simp only; omega)
  right_inv f := Fin.ext (by simp only; omega)

/-- A hidden layer takes its features in any order, its weights in the same. -/
theorem hidden_byChannel (x : Fin 1024 → EReal) (w : Fin 1024 → Fin 1024 → EReal) (b : Fin 1024 → EReal) :
    hidden (fun e => x (byChannel e)) (fun j e => w j (byChannel e)) b = hidden x w b := by
  funext j
  unfold hidden
  rw [Equiv.sum_comp byChannel (fun f => x f * w j f)]

/-- The first layer's weights as the host permutes them. -/
abbrev permuted (a4 : FVec Ideal S1024x1024 .f32) : FVec Ideal S1024x1024 .f32 :=
  shapeCast S1024x1024 (transpose S1024x8x128 [0, 2, 1] (shapeCast S1024x128x8 a4 shapeCasts_S1024x1024_S1024x128x8)
    transposes_S1024x128x8_S1024x8x128_0_2_1) shapeCasts_S1024x8x128_S1024x1024

theorem permuted_entry (a4 : FVec Ideal S1024x1024 .f32) (j e : Fin 1024) : permuted a4 (ix2 j e) = a4 (ix2 j (byChannel e)) := by
  unfold permuted
  rw [shapeCast_apply _ _ _ (ix3 j (⟨e.val / 128, by omega⟩ : Fin 8) (⟨e.val % 128, by omega⟩ : Fin 128)) (by
      rw [Shape.rowMajor_val_three, Shape.rowMajor_val_two]
      simp [ix3, ix2]
      omega),
    transpose_apply _ _ _ _ (ix3 j (⟨e.val % 128, by omega⟩ : Fin 128) (⟨e.val / 128, by omega⟩ : Fin 8)) (by intro a; fin_cases a <;> rfl)]
  refine shapeCast_apply _ _ _ _ ?_
  rw [Shape.rowMajor_val_three, Shape.rowMajor_val_two]
  simp [ix3, ix2, byChannel]
  omega

/-- The last layer's weights as the host pads them to 128 rows. -/
abbrev padded (a8 : FVec Ideal S3x1024 .f32) : FVec Ideal S128x1024 .f32 :=
  Host.scatter scatter_S128x1024_S1_S3x1024_01_n_0_0 (fun _ b => b) (broadcastInDim S128x1024 ![] bcast_S_S128x1024 (constant S_ .f32 0x00000000#32 : FVec Ideal S_ .f32))
    (broadcastInDim S1 ![] bcast_S_S1 (constantI S_ 32 0#32)) a8

theorem padded_entry (a8 : FVec Ideal S3x1024 .f32) (j : Fin 3) (j' : Fin 128) (hj : j'.val = j.val) (k : Fin 1024) : padded a8 (ix2 j' k) = a8 (ix2 j k) := by
  have lands : ∀ y : S3x1024.Idx, scatter_S128x1024_S1_S3x1024_01_n_0_0.resultIdx? y (broadcastInDim S1 ![] bcast_S_S1 (constantI S_ 32 0#32)) = some (ix2 j' k)
      ↔ ((y 0).val : Int) = (j.val : Int) ∧ ((y 1).val : Int) = (k.val : Int) := by
    intro y
    refine (Routing.resultIdx?_ix2 (R := 128) (C := 1024) scatter_S128x1024_S1_S3x1024_01_n_0_0 y _ j' k).trans ?_
    have s0 : scatter_S128x1024_S1_S3x1024_01_n_0_0.start y (broadcastInDim S1 ![] bcast_S_S1 (constantI S_ 32 0#32)) 0 = 0 := rfl
    have s1 : scatter_S128x1024_S1_S3x1024_01_n_0_0.start y (broadcastInDim S1 ![] bcast_S_S1 (constantI S_ 32 0#32)) 1 = 0 := rfl
    have w0 : scatter_S128x1024_S1_S3x1024_01_n_0_0.window y 0 = (y 0).val := rfl
    have w1 : scatter_S128x1024_S1_S3x1024_01_n_0_0.window y 1 = (y 1).val := rfl
    rw [s0, s1, w0, w1, hj, zero_add, zero_add]
  refine Routing.scatter_set_hit _ _ _ _ _ _ (fun y hy => ?_) (ix2 j k) ((lands _).2 ⟨rfl, rfl⟩)
  have h := (lands y).1 hy
  refine congrArg a8 (funext fun a => Fin.ext ?_)
  fin_cases a
  · exact Int.ofNat_inj.1 h.1
  · exact Int.ofNat_inj.1 h.2

/-- The last layer's offsets as the host pads them to 128. -/
abbrev paddedRow (a9 : FVec Ideal S3 .f32) : FVec Ideal S1x128 .f32 :=
  Host.scatter scatter_S1x128_S2_S3_0_0_01_0 (fun _ b => b) (broadcastInDim S1x128 ![] bcast_S_S1x128 (constant S_ .f32 0x00000000#32 : FVec Ideal S_ .f32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) a9

theorem zeros2 : concatenate S2 0 [⟨S1, broadcastInDim S1 ![] bcast_S_S1 (constantI S_ 32 0#32)⟩, ⟨S1, broadcastInDim S1 ![] bcast_S_S1 (constantI S_ 32 0#32)⟩] concatenates_S1_S1_S2_d0
    = fun _ => 0#32 := by
  funext i
  pointwise
  exact ite_self _

theorem paddedRow_entry (a9 : FVec Ideal S3 .f32) (j : Fin 3) (j' : Fin 128) (hj : j'.val = j.val) : paddedRow a9 (ix2 0 j') = a9 (ix1 j) := by
  unfold paddedRow
  rw [zeros2]
  have lands : ∀ y : S3.Idx, scatter_S1x128_S2_S3_0_0_01_0.resultIdx? y (fun _ => 0#32) = some (ix2 (0 : Fin 1) j') ↔ ((y 0).val : Int) = (j.val : Int) := by
    intro y
    refine (Routing.resultIdx?_ix2 (R := 1) (C := 128) scatter_S1x128_S2_S3_0_0_01_0 y _ 0 j').trans ?_
    have s0 : scatter_S1x128_S2_S3_0_0_01_0.start y (fun _ => 0#32) 0 = 0 := rfl
    have s1 : scatter_S1x128_S2_S3_0_0_01_0.start y (fun _ => 0#32) 1 = 0 := rfl
    have w0 : scatter_S1x128_S2_S3_0_0_01_0.window y 0 = 0 := rfl
    have w1 : scatter_S1x128_S2_S3_0_0_01_0.window y 1 = (y 0).val := rfl
    rw [s0, s1, w0, w1, hj, zero_add, zero_add]
    simp
  refine Routing.scatter_set_hit _ _ _ _ _ _ (fun y hy => ?_) (ix1 j) ((lands _).2 rfl)
  have h := (lands y).1 hy
  refine congrArg a9 (funext fun a => Fin.ext ?_)
  fin_cases a
  exact Int.ofNat_inj.1 h

/-! ## The contents that the calls start from -/

section
variable (m : (ℓ : Loc nD τ sig) → Buf (Elt Ideal) ℓ) (c : Dev nD)

/-- An argument's contents at the start. -/
abbrev argAt (r : Ref sig .tc) : Buf (Elt Ideal) ((c.tc : Thread nD τ).loc r) := m ((c.tc : Thread nD τ).loc r)

theorem enter0_pictures : enter0 m c main_v0
    = (shapeCast S2x256x65536 (argAt m c main_arg0 : FVec Ideal S2x256x256x256 .f32) shapeCasts_S2x256x256x256_S2x256x65536 : FVec Ideal S2x256x65536 .f32) := by
  unfold enter0
  after_results_simp
  rfl

theorem enter0_bias : enter0 m c main_v1 = (shapeCast S1x128 (argAt m c main_arg3 : FVec Ideal S128 .f32) shapeCasts_S128_S1x128 : FVec Ideal S1x128 .f32) := by
  unfold enter0
  after_results_simp
  rfl

/-- The first call's result, at one entry. -/
theorem leave0_entry (b : Fin 2) (n : Fin 65536) (d : Fin 128) :
    (leave0 m c main_v2 : FVec Ideal S2x65536x128 .f32) (ix3 b n d) = featureAt (argAt m c main_arg0) (argAt m c main_arg2) (argAt m c main_arg3) b n d := by
  have e : leave0 m c main_v2 = _ := fc1_result (enter0 m) c
  have e2 : enter0 m c main_arg2 = argAt m c main_arg2 := V1_of m c main_arg2 (by decide)
  rw [e, enter0_pictures, enter0_bias, e2]
  exact fc1Of_entry _ _ _ b n d

/-- The gather's result, at one entry. -/
theorem leave1_entry (b : Fin 2) (l : Fin 10000) (g : Fin 8) (d : Fin 128) (e : Fin 1024) (he : e.val = 128 * g.val + d.val) :
    (leave1 m c main_v62 : FVec Ideal S2x10000x1x1024 .f32) (ix4 b l 0 e)
      = pooledAt (featureAt (argAt m c main_arg0) (argAt m c main_arg2) (argAt m c main_arg3)) (argAt m c main_arg1) b l g d := by
  have h : leave1 m c main_v62 = _ := gather_result (enter1 m) c
  have h57 : enter1 m c main_v57 = _ := mid_words (leave0 m c)
  have h60 : enter1 m c main_v60 = _ := mid_weights (leave0 m c)
  have h61 : enter1 m c main_v61 = _ := mid_pictures (leave0 m c)
  rw [leave0_points m c] at h57 h60
  rw [h, h57, h60, h61, gatherOf_entry _ _ b l g d e he]
  exact congrArg (fun x => pooledAt x (argAt m c main_arg1) b l g d) (funext fun b => funext fun n => funext fun d => leave0_entry m c b n d)

/-- A buffer that nothing before the perceptron's host operations writes, as they find it. -/
theorem kept1 (r : Ref sig .tc) (h : r ∉ hostOps0_W) (h0 : (Proc.devRef .tc r : DevRef τ sig) ≠ Proc.devRef .tc main_v2)
    (h1 : (Proc.devRef .tc r : DevRef τ sig) ≠ Proc.devRef .tc main_v62) (hm : ∀ v : Valuation τ sig (Elt Ideal), mid v r = v r) :
    leave1 m c r = argAt m c r := by
  rw [leave1_keeps m c r h1]
  show mid (leave0 m c) r = _
  rw [hm, leave0_keeps m c r h0]
  exact V1_of m c r h

/-- An argument that only the perceptron reads, as the perceptron's host operations find it. -/
theorem mid_keeps (v : Valuation τ sig (Elt Ideal)) (r : Ref sig .tc) (h : r ∉ hostOps1_W) (h1 : r ∉ hostOps1_1_W) (h2 : r ∉ hostOps1_2_W)
    (h3 : r ∉ hostOps1_3_W) (h4 : r ∉ hostOps1_4_W) (h5 : r ∉ hostOps1_5_W) (h6 : r ∉ hostOps1_6_W) (h7 : r ∉ hostOps1_7_W)
    (h8 : r ∉ hostOps1_8_W) (h9 : r ∉ hostOps1_9_W) (h10 : r ∉ hostOps1_10_W) : mid v r = v r := by
  change StableHlo.after hostOps1_10 (before10 v) r = _
  rw [StableHlo.after_of_writes_sub hostOps1_10 _ hostOps1_10_writes h10, before10, keep10 _ r h6 h7 h8 h9, before6, keep6 _ r h3 h4 h5,
    StableHlo.after_of_writes_sub hostOps1_2 _ hostOps1_2_writes h2, keep2 _ r h h1]

theorem leave1_arg4 : leave1 m c main_arg4 = argAt m c main_arg4 := kept1 m c main_arg4 (by decide) (by decide) (by decide) fun v =>
  mid_keeps v main_arg4 (by decide) (by decide) (by decide) (by decide) (by decide) (by decide) (by decide) (by decide) (by decide) (by decide) (by decide)
theorem leave1_arg5 : leave1 m c main_arg5 = argAt m c main_arg5 := kept1 m c main_arg5 (by decide) (by decide) (by decide) fun v =>
  mid_keeps v main_arg5 (by decide) (by decide) (by decide) (by decide) (by decide) (by decide) (by decide) (by decide) (by decide) (by decide) (by decide)
theorem leave1_arg6 : leave1 m c main_arg6 = argAt m c main_arg6 := kept1 m c main_arg6 (by decide) (by decide) (by decide) fun v =>
  mid_keeps v main_arg6 (by decide) (by decide) (by decide) (by decide) (by decide) (by decide) (by decide) (by decide) (by decide) (by decide) (by decide)
theorem leave1_arg7 : leave1 m c main_arg7 = argAt m c main_arg7 := kept1 m c main_arg7 (by decide) (by decide) (by decide) fun v =>
  mid_keeps v main_arg7 (by decide) (by decide) (by decide) (by decide) (by decide) (by decide) (by decide) (by decide) (by decide) (by decide) (by decide)
theorem leave1_arg8 : leave1 m c main_arg8 = argAt m c main_arg8 := kept1 m c main_arg8 (by decide) (by decide) (by decide) fun v =>
  mid_keeps v main_arg8 (by decide) (by decide) (by decide) (by decide) (by decide) (by decide) (by decide) (by decide) (by decide) (by decide) (by decide)
theorem leave1_arg9 : leave1 m c main_arg9 = argAt m c main_arg9 := kept1 m c main_arg9 (by decide) (by decide) (by decide) fun v =>
  mid_keeps v main_arg9 (by decide) (by decide) (by decide) (by decide) (by decide) (by decide) (by decide) (by decide) (by decide) (by decide) (by decide)

/-- What the perceptron's host operations leave in its operands. -/
theorem enter2_operands :
    enter2 m c main_v63 = (shapeCast S20000x1024 (leave1 m c main_v62 : FVec Ideal S2x10000x1x1024 .f32) shapeCasts_S2x10000x1x1024_S20000x1024 : FVec Ideal S20000x1024 .f32)
      ∧ enter2 m c main_v66 = permuted (leave1 m c main_arg4) ∧ enter2 m c main_v69 = padded (leave1 m c main_arg8)
      ∧ enter2 m c main_v74 = paddedRow (leave1 m c main_arg9)
      ∧ enter2 m c main_v75 = (shapeCast S1x1024 (leave1 m c main_arg5 : FVec Ideal S1024 .f32) shapeCasts_S1024_S1x1024 : FVec Ideal S1x1024 .f32)
      ∧ enter2 m c main_v76 = (shapeCast S1x1024 (leave1 m c main_arg7 : FVec Ideal S1024 .f32) shapeCasts_S1024_S1x1024 : FVec Ideal S1x1024 .f32)
      ∧ enter2 m c main_arg6 = leave1 m c main_arg6 := by
  unfold enter2
  refine ⟨?_, ?_, ?_, ?_, ?_, ?_, StableHlo.after_of_writes_sub hostOps2 _ hostOps2_writes (by decide : main_arg6 ∉ hostOps2_W)⟩
  · after_results_simp; rfl
  · after_results_simp; rfl
  · after_results_simp
  · after_results_simp; rfl
  · after_results_simp; rfl
  · after_results_simp; rfl

/-- Row `i` of the perceptron's input: the line's features, laid out by group. -/
theorem line_row (i : Fin 20000) (e : Fin 1024) :
    (shapeCast S20000x1024 (leave1 m c main_v62 : FVec Ideal S2x10000x1x1024 .f32) shapeCasts_S2x10000x1x1024_S20000x1024 : FVec Ideal S20000x1024 .f32) (ix2 i e)
      = lineFeatures (argAt m c main_arg0) (argAt m c main_arg1) (argAt m c main_arg2) (argAt m c main_arg3) i (byChannel e) := by
  rw [shapeCast_apply _ _ _ (ix4 (⟨i.val / 10000, by omega⟩ : Fin 2) (⟨i.val % 10000, by omega⟩ : Fin 10000) (0 : Fin 1) e) (by
      rw [Shape.rowMajor_val_four, Shape.rowMajor_val_two]
      simp [ix4, ix2]
      omega),
    leave1_entry m c _ _ (⟨e.val / 128, by omega⟩ : Fin 8) (⟨e.val % 128, by omega⟩ : Fin 128) e (by simp; omega)]
  unfold lineFeatures
  congr 1
  · exact Fin.ext (by simp [byChannel]; omega)
  · exact Fin.ext (by simp [byChannel]; omega)

theorem bias_row (a : FVec Ideal S1024 .f32) (j : Fin 1024) : shapeCast S1x1024 a shapeCasts_S1024_S1x1024 (ix2 0 j) = a (ix1 j) :=
  shapeCast_apply _ _ _ _ (by rw [Shape.rowMajor_val_one, Shape.rowMajor_val_two]; simp [ix1, ix2])

/-- **The kernel's result**, at one entry: line `i`'s score `j`. -/
theorem kernel_entry (i : Fin 20000) (j : Fin 3) : (atEnd m c main_v78 : FVec Ideal S20000x3 .f32) (ix2 i j)
    = scoreAt (argAt m c main_arg0) (argAt m c main_arg1) (argAt m c main_arg2) (argAt m c main_arg3) (argAt m c main_arg4) (argAt m c main_arg5)
        (argAt m c main_arg6) (argAt m c main_arg7) (argAt m c main_arg8) (argAt m c main_arg9) i j := by
  have hs : atEnd m c main_v78 = (extractStridedSlice S20000x3 ![0, 0] (leave2 m c main_v77 : FVec Ideal S20000x128 .f32) slices_S20000x128_S20000x3_0_0 : FVec Ideal S20000x3 .f32) := by
    unfold atEnd
    after_results_simp
  have hm : leave2 m c main_v77 = _ := mlp_result (enter2 m) c
  obtain ⟨h63, h66, h69, h74, h75, h76, h6⟩ := enter2_operands m c
  rw [h63, h66, h69, h74, h75, h76, h6, leave1_arg4, leave1_arg5, leave1_arg6, leave1_arg7, leave1_arg8, leave1_arg9] at hm
  have j' : ∃ j' : Fin 128, j'.val = j.val := ⟨⟨j.val, by omega⟩, rfl⟩
  obtain ⟨j', hj⟩ := j'
  rw [hs, extractStridedSlice_apply _ _ _ _ (ix2 i j') (by intro a; fin_cases a <;> simp [ix2, hj]), hm]
  unfold scoreAt
  rw [← hidden_byChannel (lineFeatures _ _ _ _ i)]
  refine congrArg₂ (α := EReal) (β := EReal) (· + ·) (Finset.sum_congr rfl fun k _ => congrArg₂ (α := EReal) (β := EReal) (· * ·) ?_ (padded_entry _ j j' hj k)) (paddedRow_entry _ j j' hj)
  refine congrFun (congrArg₂ (fun x b => hidden x _ b) (congr (congr (congrArg hidden (funext fun e => line_row m c i e)) (funext fun j => funext fun e => permuted_entry _ j e)) (funext fun j => bias_row _ j)) (funext fun j => bias_row _ j)) k

end

end Cert.KernelIdeal.Hand
-- ==== Proof.ReferenceIdeal.Scores.lean ====
/- The reference's features of a line and its scores at one entry, read as the formulas that the kernel's result was read as. -/
module

public import proofs.«01_k».proof.Proof.ReferenceIdeal.Samples
public import proofs.«01_k».proof.Proof.KernelIdeal.KernelValue

@[expose] public section

set_option maxRecDepth 16384

noncomputable section

namespace Cert.ReferenceIdeal.Hand

open Idealize.ShloMosaic Idealize.ShloMosaic.TcCoe Idealize.ShloMosaic.Tactic Idealize.ShloMosaic.StableHlo
open Cert.ReferenceIdeal Cert.ReferenceIdeal.Gen Cert.ReferenceIdeal.Read
open Cert.KernelIdeal.Hand (featureAt sampleAt pooledAt hidden scoreAt lineFeatures CellsInside)

section
variable (x0 : FVec Ideal S2x256x256x256 .f32) (x1 : FVec Ideal S2x10000x2x2 .f32) (x2 : FVec Ideal S128x256 .f32) (x3 : FVec Ideal S128 .f32)

/-- A line's points, grouped by four: channel `d` of point `r` of group `g`. -/
theorem grouped_entry (hin : CellsInside x1) (b : Fin 2) (l : Fin 10000) (d : Fin 128) (g : Fin 8) (r : Fin 4) :
    val_main_v126 (F := Ideal) x0 x1 x2 x3 (ix5 b l d g r) = sampleAt (featureAt x0 x2 x3) x1 b ⟨32 * l.val + (4 * g.val + r.val), by omega⟩ d := by
  rw [← sample_entry x0 x1 x2 x3 hin]
  unfold val_main_v126 val_main_v125 val_main_v124
  rw [shapeCast_apply _ _ _ (ix4 b l d (⟨4 * g.val + r.val, by omega⟩ : Fin 32)) (by
      rw [Shape.rowMajor_val_four, Shape.rowMajor_val_five]
      simp [ix4, ix5]
      omega),
    transpose_apply _ _ _ _ (ix4 b d l (⟨4 * g.val + r.val, by omega⟩ : Fin 32)) (by intro a; fin_cases a <;> rfl)]
  refine shapeCast_apply _ _ _ _ ?_
  rw [Shape.rowMajor_val_three, Shape.rowMajor_val_four]
  simp [ix3, ix4]
  omega

/-- The maximum over a group's four points, the first value of the maximum being minus infinity. -/
theorem pooled_entry (hin : CellsInside x1) (b : Fin 2) (l : Fin 10000) (d : Fin 128) (g : Fin 8) :
    val_main_v127 (F := Ideal) x0 x1 x2 x3 (ix4 b l d g) = pooledAt (featureAt x0 x2 x3) x1 b l g d := by
  have fold : ∀ y : FVec Ideal S2x10000x128x8x4 .f32, Host.reduce FloatOps.maximumf y (val_main_cst_28 (F := Ideal)) reducesTo_S2x10000x128x8x4_S2x10000x128x8_d4 h_S_ (ix4 b l d g)
      = (Finset.univ : Finset (Fin 4)).fold max (⊥ : EReal) (fun r => y (ix5 b l d g r)) := by
    intro y
    have hbot : Ideal.ofBits .f32 0xFF800000#32 = ⊥ := by simp [Ideal.ofBits, Ideal.ieee]
    rw [← hbot]
    unfold val_main_cst_28
    pointwise
  refine (fold _).trans ?_
  simp only [grouped_entry x0 x1 x2 x3 hin]
  unfold pooledAt
  rw [show (Finset.univ : Finset (Fin 4)) = {0, 1, 2, 3} from rfl]
  simp [max_assoc]

/-- A line's features. -/
theorem line_entry (hin : CellsInside x1) (i : Fin 20000) (f : Fin 1024) :
    val_main_v128 (F := Ideal) x0 x1 x2 x3 (ix2 i f) = lineFeatures x0 x1 x2 x3 i f := by
  unfold val_main_v128
  rw [shapeCast_apply _ _ _ (ix4 (⟨i.val / 10000, by omega⟩ : Fin 2) (⟨i.val % 10000, by omega⟩ : Fin 10000) (⟨f.val / 8, by omega⟩ : Fin 128) (⟨f.val % 8, by omega⟩ : Fin 8)) (by
      rw [Shape.rowMajor_val_four, Shape.rowMajor_val_two]
      simp [ix4, ix2]
      omega)]
  exact pooled_entry x0 x1 x2 x3 hin _ _ _ _

end

section
variable (x0 : FVec Ideal S2x256x256x256 .f32) (x1 : FVec Ideal S2x10000x2x2 .f32) (x2 : FVec Ideal S128x256 .f32) (x3 : FVec Ideal S128 .f32)
variable (x4 : FVec Ideal S1024x1024 .f32) (x5 : FVec Ideal S1024 .f32) (x6 : FVec Ideal S1024x1024 .f32) (x7 : FVec Ideal S1024 .f32)
variable (x8 : FVec Ideal S3x1024 .f32) (x9 : FVec Ideal S3 .f32)

/-- The first hidden layer. -/
theorem first_entry (hin : CellsInside x1) (i : Fin 20000) (j : Fin 1024) : val_main_v134 (F := Ideal) x0 x1 x2 x3 x4 x5 (ix2 i j)
    = hidden (lineFeatures x0 x1 x2 x3 i) (fun j k => x4 (ix2 j k)) (fun j => x5 (ix1 j)) j := by
  rw [val_main_v134_apply, val_main_v133_apply, val_main_v130_apply, val_main_v132_apply, val_main_v131_apply, val_main_call5_v0_apply, val_main_call5_cst_apply]
  unfold Cert.KernelIdeal.Hand.hidden
  refine congrArg₂ (α := EReal) (β := EReal) max (congrArg₂ (α := EReal) (β := EReal) (· + ·) (Finset.sum_congr rfl fun k _ => congrArg₂ (α := EReal) (β := EReal) (· * ·) ?_ ?_) ?_) Ideal.ofBits_zero_f32
  · rw [← line_entry x0 x1 x2 x3 hin]
    exact congrArg _ (funext fun a => by fin_cases a <;> rfl)
  · rw [val_main_v129_apply]
    exact congrArg x4 (funext fun a => by fin_cases a <;> rfl)
  · exact congrArg x5 (funext fun a => by fin_cases a; rfl)

/-- The second hidden layer. -/
theorem second_entry (hin : CellsInside x1) (i : Fin 20000) (j : Fin 1024) : val_main_v140 (F := Ideal) x0 x1 x2 x3 x4 x5 x6 x7 (ix2 i j)
    = hidden (hidden (lineFeatures x0 x1 x2 x3 i) (fun j k => x4 (ix2 j k)) (fun j => x5 (ix1 j))) (fun j k => x6 (ix2 j k)) (fun j => x7 (ix1 j)) j := by
  rw [val_main_v140_apply, val_main_v139_apply, val_main_v136_apply, val_main_v138_apply, val_main_v137_apply, val_main_call6_v0_apply, val_main_call6_cst_apply]
  conv_rhs => unfold Cert.KernelIdeal.Hand.hidden
  refine congrArg₂ (α := EReal) (β := EReal) max (congrArg₂ (α := EReal) (β := EReal) (· + ·) (Finset.sum_congr rfl fun k _ => congrArg₂ (α := EReal) (β := EReal) (· * ·) ?_ ?_) ?_) Ideal.ofBits_zero_f32
  · refine Eq.trans ?_ (first_entry x0 x1 x2 x3 x4 x5 hin i k)
    exact congrArg _ (funext fun a => by fin_cases a <;> rfl)
  · rw [val_main_v135_apply]
    exact congrArg x6 (funext fun a => by fin_cases a <;> rfl)
  · exact congrArg x7 (funext fun a => by fin_cases a; rfl)

/-- **The reference's result**, at one entry: line `i`'s score `j`, where every cell lies inside its picture. -/
theorem reference_entry (hin : CellsInside x1) (i : Fin 20000) (j : Fin 3) :
    val_main_v145 (F := Ideal) x0 x1 x2 x3 x4 x5 x6 x7 x8 x9 (ix2 i j) = scoreAt x0 x1 x2 x3 x4 x5 x6 x7 x8 x9 i j := by
  rw [val_main_v145_apply, val_main_v142_apply, val_main_v144_apply, val_main_v143_apply]
  unfold scoreAt
  refine congrArg₂ (α := EReal) (β := EReal) (· + ·) (Finset.sum_congr rfl fun k _ => congrArg₂ (α := EReal) (β := EReal) (· * ·) ?_ ?_) ?_
  · rw [← second_entry x0 x1 x2 x3 x4 x5 x6 x7 hin]
    exact congrArg _ (funext fun a => by fin_cases a <;> rfl)
  · rw [val_main_v141_apply]
    exact congrArg x8 (funext fun a => by fin_cases a <;> rfl)
  · exact congrArg x9 (funext fun a => by fin_cases a; rfl)

end

end Cert.ReferenceIdeal.Hand
-- ==== Proof.Equality.lean ====
/- The kernel's result and the reference's, of memories that agree on the arguments: the same table of scores. -/
module

public import proofs.«01_k».proof.Proof.ReferenceIdeal.Scores

@[expose] public section

set_option maxRecDepth 16384

noncomputable section

namespace Cert.KernelIdeal.Hand

open Idealize.ShloMosaic Idealize.ShloMosaic.TcCoe Idealize.ShloMosaic.Tactic Idealize.ShloMosaic.StableHlo
open Idealize.SL.Sem
open Cert.KernelIdeal Cert.KernelIdeal.Gen

/-- A multi-index of the table of scores is made of its two coordinates. -/
theorem score_eq (k : S20000x3.Idx) : ∃ (i : Fin 20000) (j : Fin 3), k = ix2 i j := by
  refine ⟨k 0, k 1, funext fun a => ?_⟩
  fin_cases a <;> rfl

/-- **The two results are equal** where every sampled cell lies inside its picture. -/
theorem results_equal (m : (ℓ : Loc nD τ sig) → Buf (Elt Ideal) ℓ) (c : Dev nD) (hin : CellsInside (F := Ideal) (argAt m c main_arg1)) :
    Cert.ReferenceIdeal.Read.val_main_v145 (F := Ideal) (argAt m c main_arg0) (argAt m c main_arg1) (argAt m c main_arg2) (argAt m c main_arg3)
      (argAt m c main_arg4) (argAt m c main_arg5) (argAt m c main_arg6) (argAt m c main_arg7) (argAt m c main_arg8) (argAt m c main_arg9)
      = atEnd m c main_v78 := by
  funext k
  obtain ⟨i, j, rfl⟩ := score_eq k
  exact (Cert.ReferenceIdeal.Hand.reference_entry _ _ _ _ _ _ _ _ _ _ hin i j).trans (kernel_entry m c i j).symm

end Cert.KernelIdeal.Hand
-- ==== Proof.lean ====
/- The proof of the claims in `proofs.«01_k».proof.Defs`: the frames of the kernel at the words and at the ideal numbers, the
   reference's frame, the idealization, and the equality of the two programs' results over the extended reals. -/
module

public import proofs.«01_k».proof.Defs
public import proofs.«01_k».proof.Proof.Kernel.Runs
public import proofs.«01_k».proof.Proof.KernelIdeal.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.ReferenceIdeal.Runs
public import proofs.«01_k».proof.Proof.Equality
public import Idealize.ShloMosaic.Adequacy
public import Idealize.ShloMosaic.Init

@[expose] public section

set_option maxRecDepth 8192

noncomputable section

namespace Cert.Proof

open Idealize.ShloMosaic Idealize.SL.Sem Cert.Kernel

/-- The side conditions of the precondition's program. -/
theorem preFacts : Cert.Pre_cells_inside.Facts where
  bcast_S_S31 := by decide
  bcast_S_S1 := by decide
  bcast_S1_S31_0 := by decide
  concatenates_S31_S1_S32_d0 := by decide
  bcast_S32_S32x1_0 := by decide
  slices_S2x10000x2x2_S2x10000x1x2_0_0_0_0 := by decide
  bcast_S32x1_S1x1x32x1_2_3 := by decide
  bcast_S2x10000x1x2_S2x10000x32x2_0_1_2_3 := by decide
  bcast_S1x1x32x1_S2x10000x32x2_0_1_2_3 := by decide
  slices_S2x10000x2x2_S2x10000x1x2_0_0_1_0 := by decide
  bcast_S_S32x1 := by decide
  bcast_S_S2x10000x32x2 := by decide

/-- Under the precondition the kernel runs, and leaves its arguments and every semaphore counter as they were. -/
theorem frame_kernel : quiescent_Kernel (hKernel := Cert.Kernel.Gen.facts) (hPre_cells_inside := preFacts) := by
  intro m g hp
  have : Cert.Pre_cells_inside.Facts := preFacts
  refine (θ_run (Cert.Kernel.defs (F := Bits)) _ _).mono ?_
    (Cert.Kernel.Hand.runs m g fun c => Cert.Kernel.Hand.inside_of_pre fun i => congrFun (hp c) i)
  rintro r ⟨_, ha, hs⟩
  exact ⟨ha, hs⟩

/-- The same of the kernel read over the extended reals. -/
theorem frame_ideal : quiescent_KernelIdeal (hKernelIdeal := Cert.KernelIdeal.Gen.facts) (hPre_cells_inside := preFacts) := by
  intro m g hp
  have : Cert.Pre_cells_inside.Facts := preFacts
  refine (θ_run (Cert.KernelIdeal.defs (F := Ideal)) _ _).mono ?_
    (Cert.KernelIdeal.Hand.runs m g fun c => Cert.KernelIdeal.Hand.inside_of_pre fun i => congrFun (hp c) i)
  rintro r ⟨_, ha, hs⟩
  exact ⟨ha, hs⟩

/-- The reference runs from any memory and leaves its arguments as they were; it has no semaphore. -/
theorem frame_reference : quiescent_ReferenceIdeal (hReferenceIdeal := Cert.ReferenceIdeal.Gen.facts) := by
  intro m g _
  refine (θ_run (Cert.ReferenceIdeal.defs (F := Ideal)) _ _).mono ?_ (Cert.ReferenceIdeal.Value.run m g)
  intro r h
  exact ⟨fun c => (h c).2, sem_eq_zero_of_no_sems (by decide) r.2⟩

/-- Kernel and reference, run from memories that agree on the arguments, end with the same result. -/
theorem equal_results : algebraic_KernelIdeal_ReferenceIdeal (hKernelIdeal := Cert.KernelIdeal.Gen.facts)
    (hReferenceIdeal := Cert.ReferenceIdeal.Gen.facts) (hPre_cells_inside := preFacts) := by
  intro m g m' g' hp agree
  have : Cert.Pre_cells_inside.Facts := preFacts
  have inside : ∀ c : Dev Cert.KernelIdeal.nD, Cert.KernelIdeal.Hand.CellsInside (F := Ideal) (m ((c.tc : Thread Cert.KernelIdeal.nD Cert.KernelIdeal.τ).loc Cert.KernelIdeal.main_arg1)) :=
    fun c => Cert.KernelIdeal.Hand.inside_of_pre fun i => congrFun (hp c) i
  refine ⟨fun c => Cert.KernelIdeal.Hand.atEnd m c (Proc.devRef .tc Cert.KernelIdeal.main_v78), ?_, ?_⟩
  · refine (θ_run (Cert.KernelIdeal.defs (F := Ideal)) _ _).mono ?_ (Cert.KernelIdeal.Hand.runs m g inside)
    rintro r ⟨hv, ha, _⟩
    exact fun c => ⟨hv c, ha c⟩
  · refine (θ_run (Cert.ReferenceIdeal.defs (F := Ideal)) _ _).mono ?_ (Cert.ReferenceIdeal.Hand.runs m' g')
    intro r h c
    refine ⟨(h c).1.trans ?_, (h c).2⟩
    obtain ⟨a0, a1, a2, a3, a4, a5, a6, a7, a8, a9⟩ := agree c
    unfold Cert.ReferenceIdeal.Hand.resultOf
    rw [a0, a1, a2, a3, a4, a5, a6, a7, a8, a9]
    exact Cert.KernelIdeal.Hand.results_equal m c (inside c)

/-- All the claims. -/
theorem claim : Cert.Claim :=
  ⟨Cert.Kernel.Gen.facts, Cert.KernelIdeal.Gen.facts, Cert.ReferenceIdeal.Gen.facts, preFacts, frame_kernel, frame_ideal, frame_reference,
    fun m g _ => frame_reference m g trivial, trivial, equal_results⟩

end Cert.Proof

end
